-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v28) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v26) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v15)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v15) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v34) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hAda : Cert.Ada.Facts) (hAdaIdeal : Cert.AdaIdeal.Facts) (hAdaRefIdeal : Cert.AdaRefIdeal.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Ada_AdaIdeal
    ∧ algebraic_AdaIdeal_AdaRefIdeal (hAdaIdeal := hAdaIdeal) (hAdaRefIdeal := hAdaRefIdeal)
-- ==== Kernel.lean ====
abbrev S16384x20480 : Shape := ⟨2, ![16384, 20480]⟩
abbrev S4x4096 : Shape := ⟨2, ![4, 4096]⟩
abbrev S4096 : Shape := ⟨1, ![4096]⟩
abbrev S16x256x256 : Shape := ⟨3, ![16, 256, 256]⟩
abbrev S1x4096 : Shape := ⟨2, ![1, 4096]⟩
abbrev S16384x4096 : Shape := ⟨2, ![16384, 4096]⟩
abbrev S256x4096 : Shape := ⟨2, ![256, 4096]⟩
abbrev S264x4096 : Shape := ⟨2, ![264, 4096]⟩
abbrev S256x512 : Shape := ⟨2, ![256, 512]⟩
abbrev S8x4096 : Shape := ⟨2, ![8, 4096]⟩
abbrev S8x512 : Shape := ⟨2, ![8, 512]⟩
abbrev S1x512 : Shape := ⟨2, ![1, 512]⟩
abbrev S256x256 : Shape := ⟨2, ![256, 256]⟩
abbrev S1x256x256 : Shape := ⟨3, ![1, 256, 256]⟩

abbrev nBuf : Space → Nat
  | .hbm => 15
  | .vmem => 17
  | .smem => 0
  | _ => 0

abbrev bufTy : (tb : Table) → Fin (tcTables nBuf tb) → BufTy
  | .hbm, ⟨0, _⟩ => ⟨S16384x20480, .f32⟩
  | .hbm, ⟨1, _⟩ => ⟨S4x4096, .f32⟩
  | .hbm, ⟨2, _⟩ => ⟨S4096, .f32⟩
  | .hbm, ⟨3, _⟩ => ⟨S16x256x256, .f32⟩
  | .hbm, ⟨4, _⟩ => ⟨S4096, .f32⟩
  | .hbm, ⟨5, _⟩ => ⟨S16x256x256, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S16x256x256, .bf16⟩
  | .hbm, ⟨10, _⟩ => ⟨S1x4096, .f32⟩
  | .hbm, ⟨11, _⟩ => ⟨S16x256x256, .bf16⟩
  | .hbm, ⟨12, _⟩ => ⟨S1x4096, .f32⟩
  | .hbm, ⟨13, _⟩ => ⟨S1x4096, .f32⟩
  | .hbm, ⟨14, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4x4096, .f32⟩
  | .local _ .vmem, ⟨5, _⟩ => ⟨S1x4096, .f32⟩
  | .local _ .vmem, ⟨6, _⟩ => ⟨S16x256x256, .bf16⟩
  | .local _ .vmem, ⟨7, _⟩ => ⟨S1x4096, .f32⟩
  | .local _ .vmem, ⟨8, _⟩ => ⟨S16x256x256, .bf16⟩
  | .local _ .vmem, ⟨9, _⟩ => ⟨S1x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S264x4096, .f32⟩
  | .local _ .vmem, ⟨14, _⟩ => ⟨S256x512, .f32⟩
  | .local _ .vmem, ⟨15, _⟩ => ⟨S256x512, .f32⟩
  | .local _ .vmem, ⟨16, _⟩ => ⟨S8x4096, .f32⟩
  | _, _ => ⟨S16384x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_55 : BitVec 32 := 0#32
  let c32_i32 : BitVec 32 := 32#32
  let v103 : BitVec 32 := Scalar.addi c0_i32_55 c32_i32
  let c1_i32 : BitVec 32 := 1#32
  ⟨c0_i32_55, v103, c1_i32⟩
def k0_mult1 (k0_t1 : Fin k0_t1_loop.trips) : BitVec 32 :=
  let c0_i32_55 : BitVec 32 := 0#32
  let c1_i32 : BitVec 32 := 1#32
  let arg16 : BitVec 32 := Scf.iv c0_i32_55 c1_i32 k0_t1
  let c8_i32 : BitVec 32 := 8#32
  let v931 : BitVec 32 := Scalar.muli arg16 c8_i32
  v931
def k0_off1 (k0_t1 : Fin k0_t1_loop.trips) : Fin 2 → Nat :=
  let c0_i32_55 : BitVec 32 := 0#32
  let c1_i32 : BitVec 32 := 1#32
  let arg16 : BitVec 32 := Scf.iv c0_i32_55 c1_i32 k0_t1
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t2_loop : Scf.Loop 32 :=
  let c0_i32_125 : BitVec 32 := 0#32
  let c32_i32_126 : BitVec 32 := 32#32
  let v218 : BitVec 32 := Scalar.addi c0_i32_125 c32_i32_126
  let c1_i32_127 : BitVec 32 := 1#32
  ⟨c0_i32_125, v218, c1_i32_127⟩
def k0_mult2 (k0_t2 : Fin k0_t2_loop.trips) : BitVec 32 :=
  let c0_i32_125 : BitVec 32 := 0#32
  let c1_i32_127 : BitVec 32 := 1#32
  let arg16 : BitVec 32 := Scf.iv c0_i32_125 c1_i32_127 k0_t2
  let c8_i32 : BitVec 32 := 8#32
  let v931 : BitVec 32 := Scalar.muli arg16 c8_i32
  v931
def k0_off2 (k0_t2 : Fin k0_t2_loop.trips) : Fin 2 → Nat :=
  let c0_i32_125 : BitVec 32 := 0#32
  let c1_i32_127 : BitVec 32 := 1#32
  let arg16 : BitVec 32 := Scf.iv c0_i32_125 c1_i32_127 k0_t2
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t3_loop : Scf.Loop 32 :=
  let c0_i32_196 : BitVec 32 := 0#32
  let c32_i32_197 : BitVec 32 := 32#32
  let v333 : BitVec 32 := Scalar.addi c0_i32_196 c32_i32_197
  let c1_i32_198 : BitVec 32 := 1#32
  ⟨c0_i32_196, v333, c1_i32_198⟩
def k0_mult3 (k0_t3 : Fin k0_t3_loop.trips) : BitVec 32 :=
  let c0_i32_196 : BitVec 32 := 0#32
  let c1_i32_198 : BitVec 32 := 1#32
  let arg16 : BitVec 32 := Scf.iv c0_i32_196 c1_i32_198 k0_t3
  let c8_i32 : BitVec 32 := 8#32
  let v931 : BitVec 32 := Scalar.muli arg16 c8_i32
  v931
def k0_off3 (k0_t3 : Fin k0_t3_loop.trips) : Fin 2 → Nat :=
  let c0_i32_196 : BitVec 32 := 0#32
  let c1_i32_198 : BitVec 32 := 1#32
  let arg16 : BitVec 32 := Scf.iv c0_i32_196 c1_i32_198 k0_t3
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t4_loop : Scf.Loop 32 :=
  let c0_i32_268 : BitVec 32 := 0#32
  let c32_i32_269 : BitVec 32 := 32#32
  let v448 : BitVec 32 := Scalar.addi c0_i32_268 c32_i32_269
  let c1_i32_270 : BitVec 32 := 1#32
  ⟨c0_i32_268, v448, c1_i32_270⟩
def k0_mult4 (k0_t4 : Fin k0_t4_loop.trips) : BitVec 32 :=
  let c0_i32_268 : BitVec 32 := 0#32
  let c1_i32_270 : BitVec 32 := 1#32
  let arg16 : BitVec 32 := Scf.iv c0_i32_268 c1_i32_270 k0_t4
  let c8_i32 : BitVec 32 := 8#32
  let v931 : BitVec 32 := Scalar.muli arg16 c8_i32
  v931
def k0_off4 (k0_t4 : Fin k0_t4_loop.trips) : Fin 2 → Nat :=
  let c0_i32_268 : BitVec 32 := 0#32
  let c1_i32_270 : BitVec 32 := 1#32
  let arg16 : BitVec 32 := Scf.iv c0_i32_268 c1_i32_270 k0_t4
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t5_loop : Scf.Loop 32 :=
  let c0_i32_339 : BitVec 32 := 0#32
  let c32_i32_340 : BitVec 32 := 32#32
  let v563 : BitVec 32 := Scalar.addi c0_i32_339 c32_i32_340
  let c1_i32_341 : BitVec 32 := 1#32
  ⟨c0_i32_339, v563, c1_i32_341⟩
def k0_mult5 (k0_t5 : Fin k0_t5_loop.trips) : BitVec 32 :=
  let c0_i32_339 : BitVec 32 := 0#32
  let c1_i32_341 : BitVec 32 := 1#32
  let arg16 : BitVec 32 := Scf.iv c0_i32_339 c1_i32_341 k0_t5
  let c8_i32 : BitVec 32 := 8#32
  let v931 : BitVec 32 := Scalar.muli arg16 c8_i32
  v931
def k0_off5 (k0_t5 : Fin k0_t5_loop.trips) : Fin 2 → Nat :=
  let c0_i32_339 : BitVec 32 := 0#32
  let c1_i32_341 : BitVec 32 := 1#32
  let arg16 : BitVec 32 := Scf.iv c0_i32_339 c1_i32_341 k0_t5
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t6_loop : Scf.Loop 32 :=
  let c0_i32_409 : BitVec 32 := 0#32
  let c32_i32_410 : BitVec 32 := 32#32
  let v678 : BitVec 32 := Scalar.addi c0_i32_409 c32_i32_410
  let c1_i32_411 : BitVec 32 := 1#32
  ⟨c0_i32_409, v678, c1_i32_411⟩
def k0_mult6 (k0_t6 : Fin k0_t6_loop.trips) : BitVec 32 :=
  let c0_i32_409 : BitVec 32 := 0#32
  let c1_i32_411 : BitVec 32 := 1#32
  let arg16 : BitVec 32 := Scf.iv c0_i32_409 c1_i32_411 k0_t6
  let c8_i32 : BitVec 32 := 8#32
  let v931 : BitVec 32 := Scalar.muli arg16 c8_i32
  v931
def k0_off6 (k0_t6 : Fin k0_t6_loop.trips) : Fin 2 → Nat :=
  let c0_i32_409 : BitVec 32 := 0#32
  let c1_i32_411 : BitVec 32 := 1#32
  let arg16 : BitVec 32 := Scf.iv c0_i32_409 c1_i32_411 k0_t6
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t7_loop : Scf.Loop 32 :=
  let c0_i32_479 : BitVec 32 := 0#32
  let c32_i32_480 : BitVec 32 := 32#32
  let v793 : BitVec 32 := Scalar.addi c0_i32_479 c32_i32_480
  let c1_i32_481 : BitVec 32 := 1#32
  ⟨c0_i32_479, v793, c1_i32_481⟩
def k0_mult7 (k0_t7 : Fin k0_t7_loop.trips) : BitVec 32 :=
  let c0_i32_479 : BitVec 32 := 0#32
  let c1_i32_481 : BitVec 32 := 1#32
  let arg16 : BitVec 32 := Scf.iv c0_i32_479 c1_i32_481 k0_t7
  let c8_i32 : BitVec 32 := 8#32
  let v931 : BitVec 32 := Scalar.muli arg16 c8_i32
  v931
def k0_off7 (k0_t7 : Fin k0_t7_loop.trips) : Fin 2 → Nat :=
  let c0_i32_479 : BitVec 32 := 0#32
  let c1_i32_481 : BitVec 32 := 1#32
  let arg16 : BitVec 32 := Scf.iv c0_i32_479 c1_i32_481 k0_t7
  let c8_i32 : BitVec 32 := 8#32
  let v931 : BitVec 32 := Scalar.muli arg16 c8_i32
  let v932 : BitVec 32 := v931
  let v933 : Index := Scalar.indexCast v932
  let c0_565 : Index := 0#32
  ![v933.toNat, 0]
@[reducible] def k0_t8_loop : Scf.Loop 32 :=
  let c0_i32_549 : BitVec 32 := 0#32
  let c32_i32_550 : BitVec 32 := 32#32
  let v908 : BitVec 32 := Scalar.addi c0_i32_549 c32_i32_550
  let c1_i32_551 : BitVec 32 := 1#32
  ⟨c0_i32_549, v908, c1_i32_551⟩
def k0_mult8 (k0_t8 : Fin k0_t8_loop.trips) : BitVec 32 :=
  let c0_i32_549 : BitVec 32 := 0#32
  let c1_i32_551 : BitVec 32 := 1#32
  let arg16 : BitVec 32 := Scf.iv c0_i32_549 c1_i32_551 k0_t8
  let c8_i32 : BitVec 32 := 8#32
  let v931 : BitVec 32 := Scalar.muli arg16 c8_i32
  v931
def k0_off8 (k0_t8 : Fin k0_t8_loop.trips) : Fin 2 → Nat :=
  let c0_i32_549 : BitVec 32 := 0#32
  let c1_i32_551 : BitVec 32 := 1#32
  let arg16 : BitVec 32 := Scf.iv c0_i32_549 c1_i32_551 k0_t8
  let c8_i32 : BitVec 32 := 8#32
  let v931 : BitVec 32 := Scalar.muli arg16 c8_i32
  let v932 : BitVec 32 := v931
  let v933 : Index := Scalar.indexCast v932
  let c0_565 : Index := 0#32
  ![v933.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x20480 : Shape := ⟨2, ![16384, 20480]⟩
abbrev S4x4096 : Shape := ⟨2, ![4, 4096]⟩
abbrev S4096 : Shape := ⟨1, ![4096]⟩
abbrev S16x256x256 : Shape := ⟨3, ![16, 256, 256]⟩
abbrev S2x8192x20480 : Shape := ⟨3, ![2, 8192, 20480]⟩
abbrev S2x8192x4096 : Shape := ⟨3, ![2, 8192, 4096]⟩
abbrev S_ : Shape := ⟨0, ![]⟩
abbrev S2x8195x4096 : Shape := ⟨3, ![2, 8195, 4096]⟩
abbrev S1x4096 : Shape := ⟨2, ![1, 4096]⟩
abbrev S1x1x4096 : Shape := ⟨3, ![1, 1, 4096]⟩
abbrev S2x8192x16x256 : Shape := ⟨4, ![2, 8192, 16, 256]⟩
abbrev S16x256x2x8192 : Shape := ⟨4, ![16, 256, 2, 8192]⟩
abbrev S2x4096 : Shape := ⟨2, ![2, 4096]⟩
abbrev S8192x2x4096 : Shape := ⟨3, ![8192, 2, 4096]⟩
abbrev S1x2x4096 : Shape := ⟨3, ![1, 2, 4096]⟩
abbrev S16384x4096 : Shape := ⟨2, ![16384, 4096]⟩

abbrev nBuf : Space → Nat
  | .hbm => 155
  | .vmem => 0
  | .smem => 0
  | _ => 0

abbrev hbmTy0_0 (i : Nat) : BufTy := match i % 128 with
  | 0 => ⟨S16384x20480, .f32⟩
  | 1 => ⟨S4x4096, .f32⟩
  | 2 => ⟨S4096, .f32⟩
  | 3 => ⟨S16x256x256, .f32⟩
  | 4 => ⟨S4096, .f32⟩
  | 5 => ⟨S16x256x256, .f32⟩
  | 6 => ⟨S4096, .f32⟩
  | 7 => ⟨S4096, .f32⟩
  | 8 => ⟨S2x8192x20480, .f32⟩
  | 9 => ⟨S2x8192x4096, .f32⟩
  | 10 => ⟨S2x8192x4096, .f32⟩
  | 11 => ⟨S_, .i32⟩
  | 12 => ⟨S_, .f32⟩
  | 13 => ⟨S2x8195x4096, .f32⟩
  | 14 => ⟨S1x4096, .f32⟩
  | 15 => ⟨S4096, .f32⟩
  | 16 => ⟨S2x8192x4096, .f32⟩
  | 17 => ⟨S1x1x4096, .f32⟩
  | 18 => ⟨S2x8192x4096, .f32⟩
  | 19 => ⟨S2x8192x4096, .f32⟩
  | 20 => ⟨S1x1x4096, .f32⟩
  | 21 => ⟨S2x8192x4096, .f32⟩
  | 22 => ⟨S2x8192x4096, .f32⟩
  | 23 => ⟨S1x4096, .f32⟩
  | 24 => ⟨S4096, .f32⟩
  | 25 => ⟨S2x8192x4096, .f32⟩
  | 26 => ⟨S1x1x4096, .f32⟩
  | 27 => ⟨S2x8192x4096, .f32⟩
  | 28 => ⟨S2x8192x4096, .f32⟩
  | 29 => ⟨S2x8192x4096, .f32⟩
  | 30 => ⟨S1x4096, .f32⟩
  | 31 => ⟨S4096, .f32⟩
  | 32 => ⟨S2x8192x4096, .f32⟩
  | 33 => ⟨S1x1x4096, .f32⟩
  | 34 => ⟨S2x8192x4096, .f32⟩
  | 35 => ⟨S2x8192x4096, .f32⟩
  | 36 => ⟨S2x8192x4096, .f32⟩
  | 37 => ⟨S1x4096, .f32⟩
  | 38 => ⟨S4096, .f32⟩
  | 39 => ⟨S2x8192x4096, .f32⟩
  | 40 => ⟨S1x1x4096, .f32⟩
  | 41 => ⟨S2x8192x4096, .f32⟩
  | 42 => ⟨S2x8192x4096, .f32⟩
  | 43 => ⟨S2x8192x4096, .f32⟩
  | 44 => ⟨S2x8192x16x256, .f32⟩
  | 45 => ⟨S16x256x2x8192, .f32⟩
  | 46 => ⟨S2x8192x16x256, .f32⟩
  | 47 => ⟨S2x8192x4096, .f32⟩
  | 48 => ⟨S1x1x4096, .f32⟩
  | 49 => ⟨S2x8192x4096, .f32⟩
  | 50 => ⟨S2x8192x4096, .f32⟩
  | 51 => ⟨S2x8192x4096, .f32⟩
  | 52 => ⟨S2x8192x4096, .f32⟩
  | 53 => ⟨S_, .f32⟩
  | 54 => ⟨S2x8192x4096, .f32⟩
  | 55 => ⟨S2x8192x4096, .f32⟩
  | 56 => ⟨S_, .f32⟩
  | 57 => ⟨S2x8192x4096, .f32⟩
  | 58 => ⟨S2x8192x4096, .f32⟩
  | 59 => ⟨S2x8192x16x256, .f32⟩
  | 60 => ⟨S16x256x2x8192, .f32⟩
  | 61 => ⟨S2x8192x16x256, .f32⟩
  | 62 => ⟨S2x8192x4096, .f32⟩
  | 63 => ⟨S1x1x4096, .f32⟩
  | 64 => ⟨S2x8192x4096, .f32⟩
  | 65 => ⟨S2x8192x4096, .f32⟩
  | 66 => ⟨S2x8192x4096, .f32⟩
  | 67 => ⟨S2x8192x4096, .f32⟩
  | 68 => ⟨S_, .f32⟩
  | 69 => ⟨S2x8192x4096, .f32⟩
  | 70 => ⟨S2x8192x4096, .f32⟩
  | 71 => ⟨S_, .f32⟩
  | 72 => ⟨S2x8192x4096, .f32⟩
  | 73 => ⟨S2x8192x4096, .f32⟩
  | 74 => ⟨S_, .f32⟩
  | 75 => ⟨S2x8192x4096, .f32⟩
  | 76 => ⟨S2x8192x4096, .f32⟩
  | 77 => ⟨S4096, .f32⟩
  | 78 => ⟨S_, .f32⟩
  | 79 => ⟨S4096, .f32⟩
  | 80 => ⟨S4096, .f32⟩
  | 81 => ⟨S4096, .f32⟩
  | 82 => ⟨S4096, .f32⟩
  | 83 => ⟨S4096, .i1⟩
  | 84 => ⟨S4096, .f32⟩
  | 85 => ⟨S4096, .f32⟩
  | 86 => ⟨S4096, .f32⟩
  | 87 => ⟨S4096, .f32⟩
  | 88 => ⟨S4096, .f32⟩
  | 89 => ⟨S4096, .f32⟩
  | 90 => ⟨S4096, .f32⟩
  | 91 => ⟨S4096, .f32⟩
  | 92 => ⟨S1x1x4096, .f32⟩
  | 93 => ⟨S2x8192x4096, .f32⟩
  | 94 => ⟨S2x8192x4096, .f32⟩
  | 95 => ⟨S2x8192x4096, .f32⟩
  | 96 => ⟨S_, .f32⟩
  | 97 => ⟨S2x8192x4096, .f32⟩
  | 98 => ⟨S2x8192x4096, .f32⟩
  | 99 => ⟨S2x8192x4096, .f32⟩
  | 100 => ⟨S2x8192x4096, .f32⟩
  | 101 => ⟨S2x8192x4096, .f32⟩
  | 102 => ⟨S2x8192x4096, .f32⟩
  | 103 => ⟨S2x8192x4096, .f32⟩
  | 104 => ⟨S_, .f32⟩
  | 105 => ⟨S2x4096, .f32⟩
  | 106 => ⟨S8192x2x4096, .f32⟩
  | 107 => ⟨S8192x2x4096, .f32⟩
  | 108 => ⟨S_, .f32⟩
  | 109 => ⟨S8192x2x4096, .f32⟩
  | 110 => ⟨S_, .i32⟩
  | 111 => ⟨S8192x2x4096, .f32⟩
  | 112 => ⟨S8192x2x4096, .f32⟩
  | 113 => ⟨S_, .i32⟩
  | 114 => ⟨S2x4096, .f32⟩
  | 115 => ⟨S8192x2x4096, .f32⟩
  | 116 => ⟨S_, .i32⟩
  | 117 => ⟨S_, .i1⟩
  | 118 => ⟨S_, .i32⟩
  | 119 => ⟨S_, .i32⟩
  | 120 => ⟨S1x2x4096, .f32⟩
  | 121 => ⟨S2x4096, .f32⟩
  | 122 => ⟨S_, .i32⟩
  | 123 => ⟨S_, .i32⟩
  | 124 => ⟨S1x2x4096, .f32⟩
  | 125 => ⟨S2x4096, .f32⟩
  | 126 => ⟨S2x4096, .f32⟩
  | 127 => ⟨S2x4096, .f32⟩
  | _ => ⟨S16384x20480, .f32⟩

abbrev hbmTy0_1 (i : Nat) : BufTy := match i % 128 with
  | 0 => ⟨S1x2x4096, .f32⟩
  | 1 => ⟨S_, .i32⟩
  | 2 => ⟨S_, .i32⟩
  | 3 => ⟨S8192x2x4096, .f32⟩
  | 4 => ⟨S_, .i32⟩
  | 5 => ⟨S_, .i32⟩
  | 6 => ⟨S2x8192x4096, .f32⟩
  | 7 => ⟨S2x8192x4096, .f32⟩
  | 8 => ⟨S2x8192x4096, .f32⟩
  | 9 => ⟨S_, .f32⟩
  | 10 => ⟨S2x8192x4096, .f32⟩
  | 11 => ⟨S2x8192x4096, .f32⟩
  | 12 => ⟨S2x8192x4096, .f32⟩
  | 13 => ⟨S_, .f32⟩
  | 14 => ⟨S2x8192x4096, .f32⟩
  | 15 => ⟨S2x8192x4096, .f32⟩
  | 16 => ⟨S2x8192x4096, .f32⟩
  | 17 => ⟨S_, .f32⟩
  | 18 => ⟨S2x8192x4096, .f32⟩
  | 19 => ⟨S2x8192x4096, .f32⟩
  | 20 => ⟨S_, .f32⟩
  | 21 => ⟨S2x8192x4096, .f32⟩
  | 22 => ⟨S2x8192x4096, .f32⟩
  | 23 => ⟨S2x8192x4096, .f32⟩
  | 24 => ⟨S2x8192x4096, .f32⟩
  | 25 => ⟨S16384x4096, .f32⟩
  | 26 => ⟨S16384x4096, .bf16⟩
  | _ => ⟨S16384x20480, .f32⟩

abbrev hbmTy (i : Nat) : BufTy := match i / 128 with
  | 0 => hbmTy0_0 i
  | 1 => hbmTy0_1 i
  | _ => ⟨S16384x20480, .f32⟩

abbrev bufTy : (tb : Table) → Fin (tcTables nBuf tb) → BufTy
  | .hbm, ⟨i, _⟩ => hbmTy i
  | _, _ => ⟨S16384x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_1 : Ref sig .tc := ⟨.hbm, 68, rfl⟩
abbrev main_v56 : Ref sig .tc := ⟨.hbm, 69, rfl⟩
abbrev main_v57 : Ref sig .tc := ⟨.hbm, 70, rfl⟩
abbrev main_cst_2 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_4 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_5 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_6 : Ref sig .tc := ⟨.hbm, 108, rfl⟩
abbrev main_v78 : Ref sig .tc := ⟨.hbm, 109, rfl⟩
abbrev main_c_7 : Ref sig .tc := ⟨.hbm, 110, rfl⟩
abbrev main_v79_0 : Ref sig .tc := ⟨.hbm, 111, rfl⟩
abbrev main_v79_1 : Ref sig .tc := ⟨.hbm, 112, rfl⟩
abbrev main_v79_2 : Ref sig .tc := ⟨.hbm, 113, rfl⟩
abbrev main_v79_3 : Ref sig .tc := ⟨.hbm, 114, rfl⟩
abbrev main_v79_4 : Ref sig .tc := ⟨.hbm, 115, rfl⟩
abbrev main_while0c_c_16 : Ref sig .tc := ⟨.hbm, 116, rfl⟩
abbrev main_while0c_v97 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v97 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v101 : Ref sig .tc := ⟨.hbm, 131, rfl⟩
abbrev main_while0b_c_16 : Ref sig .tc := ⟨.hbm, 132, rfl⟩
abbrev main_while0b_v102 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_8 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_9 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_10 : Ref sig .tc := ⟨.hbm, 145, rfl⟩
abbrev main_v89 : Ref sig .tc := ⟨.hbm, 146, rfl⟩
abbrev main_v90 : Ref sig .tc := ⟨.hbm, 147, rfl⟩
abbrev main_cst_11 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]

abbrev main_while0_count : Scf.Loop 32 := ⟨0#32, 8192#32, 1#32⟩
-- ==== Inproj.lean ====
abbrev S2x8192x4096 : Shape := ⟨3, ![2, 8192, 4096]⟩
abbrev S2x24576 : Shape := ⟨2, ![2, 24576]⟩
abbrev S4096 : Shape := ⟨1, ![4096]⟩
abbrev S4096x20480 : Shape := ⟨2, ![4096, 20480]⟩
abbrev S16384x4096 : Shape := ⟨2, ![16384, 4096]⟩
abbrev S2x6x4096 : Shape := ⟨3, ![2, 6, 4096]⟩
abbrev S_ : Shape := ⟨0, ![]⟩
abbrev S2x8x4096 : Shape := ⟨3, ![2, 8, 4096]⟩
abbrev S1x4096 : Shape := ⟨2, ![1, 4096]⟩
abbrev S16384x20480 : Shape := ⟨2, ![16384, 20480]⟩
abbrev S512x4096 : Shape := ⟨2, ![512, 4096]⟩
abbrev S1x8x4096 : Shape := ⟨3, ![1, 8, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1x1x4096 : Shape := ⟨3, ![1, 1, 4096]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S2x24576, .f32⟩
  | .hbm, ⟨2, _⟩ => ⟨S4096, .f32⟩
  | .hbm, ⟨3, _⟩ => ⟨S4096x20480, .f32⟩
  | .hbm, ⟨4, _⟩ => ⟨S16384x4096, .f32⟩
  | .hbm, ⟨5, _⟩ => ⟨S2x6x4096, .f32⟩
  | .hbm, ⟨6, _⟩ => ⟨S_, .i32⟩
  | .hbm, ⟨7, _⟩ => ⟨S_, .f32⟩
  | .hbm, ⟨8, _⟩ => ⟨S2x8x4096, .f32⟩
  | .hbm, ⟨9, _⟩ => ⟨S1x4096, .f32⟩
  | .hbm, ⟨10, _⟩ => ⟨S4096x20480, .bf16⟩
  | .hbm, ⟨11, _⟩ => ⟨S16384x20480, .f32⟩
  | .local _ .vmem, ⟨0, _⟩ => ⟨S512x4096, .f32⟩
  | .local _ .vmem, ⟨1, _⟩ => ⟨S512x4096, .f32⟩
  | .local _ .vmem, ⟨2, _⟩ => ⟨S1x8x4096, .f32⟩
  | .local _ .vmem, ⟨3, _⟩ => ⟨S1x8x4096, .f32⟩
  | .local _ .vmem, ⟨4, _⟩ => ⟨S1x4096, .f32⟩
  | .local _ .vmem, ⟨5, _⟩ => ⟨S4096x1024, .bf16⟩
  | .local _ .vmem, ⟨6, _⟩ => ⟨S4096x1024, .bf16⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S2x8192x4096 : Shape := ⟨3, ![2, 8192, 4096]⟩
abbrev S2x24576 : Shape := ⟨2, ![2, 24576]⟩
abbrev S4096 : Shape := ⟨1, ![4096]⟩
abbrev S4096x20480 : Shape := ⟨2, ![4096, 20480]⟩
abbrev S2x4096 : Shape := ⟨2, ![2, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S2x8192x20480 : Shape := ⟨3, ![2, 8192, 20480]⟩
abbrev S16384x20480 : Shape := ⟨2, ![16384, 20480]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x24576, .f32⟩
  | .hbm, ⟨2, _⟩ => ⟨S4096, .f32⟩
  | .hbm, ⟨3, _⟩ => ⟨S4096x20480, .f32⟩
  | .hbm, ⟨4, _⟩ => ⟨S2x4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x8192x4096, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x4096, .f32⟩
  | .hbm, ⟨22, _⟩ => ⟨S2x8192x4096, .f32⟩
  | .hbm, ⟨23, _⟩ => ⟨S1x1x4096, .f32⟩
  | .hbm, ⟨24, _⟩ => ⟨S2x8192x4096, .f32⟩
  | .hbm, ⟨25, _⟩ => ⟨S2x8192x4096, .f32⟩
  | .hbm, ⟨26, _⟩ => ⟨S2x1x4096, .f32⟩
  | .hbm, ⟨27, _⟩ => ⟨S_, .f32⟩
  | .hbm, ⟨28, _⟩ => ⟨S2x1x4096, .f32⟩
  | .hbm, ⟨29, _⟩ => ⟨S2x1x4096, .f32⟩
  | .hbm, ⟨30, _⟩ => ⟨S2x8192x4096, .f32⟩
  | .hbm, ⟨31, _⟩ => ⟨S2x8192x4096, .f32⟩
  | .hbm, ⟨32, _⟩ => ⟨S2x1x4096, .f32⟩
  | .hbm, ⟨33, _⟩ => ⟨S2x8192x4096, .f32⟩
  | .hbm, ⟨34, _⟩ => ⟨S2x8192x4096, .f32⟩
  | .hbm, ⟨35, _⟩ => ⟨S2x8192x20480, .f32⟩
  | .hbm, ⟨36, _⟩ => ⟨S16384x20480, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Merge.lean ====
abbrev S16384x4096 : Shape := ⟨2, ![16384, 4096]⟩
abbrev S16384x20480 : Shape := ⟨2, ![16384, 20480]⟩
abbrev S4096x4096 : Shape := ⟨2, ![4096, 4096]⟩
abbrev S512x4096 : Shape := ⟨2, ![512, 4096]⟩
abbrev S512x512 : Shape := ⟨2, ![512, 512]⟩
abbrev S4096x512 : Shape := ⟨2, ![4096, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x20480, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096x4096, .bf16⟩
  | .hbm, ⟨7, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S512x512, .bf16⟩
  | .local _ .vmem, ⟨13, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x4096 : Shape := ⟨2, ![16384, 4096]⟩
abbrev S16384x20480 : Shape := ⟨2, ![16384, 20480]⟩
abbrev S4096x4096 : Shape := ⟨2, ![4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x20480, .f32⟩
  | .hbm, ⟨3, _⟩ => ⟨S4096x4096, .f32⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S2x8192x4096 : Shape := ⟨3, ![2, 8192, 4096]⟩
abbrev S2x24576 : Shape := ⟨2, ![2, 24576]⟩
abbrev S4096 : Shape := ⟨1, ![4096]⟩
abbrev S2x6x4096 : Shape := ⟨3, ![2, 6, 4096]⟩
abbrev S_ : Shape := ⟨0, ![]⟩
abbrev S2x8x4096 : Shape := ⟨3, ![2, 8, 4096]⟩
abbrev S1x4096 : Shape := ⟨2, ![1, 4096]⟩
abbrev S512x512 : Shape := ⟨2, ![512, 512]⟩
abbrev S512x4096 : Shape := ⟨2, ![512, 4096]⟩
abbrev S1x8x4096 : Shape := ⟨3, ![1, 8, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S2x8192x4096, .f32⟩
  | .hbm, ⟨3, _⟩ => ⟨S2x24576, .f32⟩
  | .hbm, ⟨4, _⟩ => ⟨S4096, .f32⟩
  | .hbm, ⟨5, _⟩ => ⟨S4096x4096, .bf16⟩
  | .hbm, ⟨6, _⟩ => ⟨S16384x4096, .f32⟩
  | .hbm, ⟨7, _⟩ => ⟨S2x6x4096, .f32⟩
  | .hbm, ⟨8, _⟩ => ⟨S_, .i32⟩
  | .hbm, ⟨9, _⟩ => ⟨S_, .f32⟩
  | .hbm, ⟨10, _⟩ => ⟨S2x8x4096, .f32⟩
  | .hbm, ⟨11, _⟩ => ⟨S1x4096, .f32⟩
  | .hbm, ⟨12, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x8x4096, .f32⟩
  | .local _ .vmem, ⟨7, _⟩ => ⟨S1x8x4096, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutRefIdeal.lean ====
abbrev S16384x4096 : Shape := ⟨2, ![16384, 4096]⟩
abbrev S4096x4096 : Shape := ⟨2, ![4096, 4096]⟩
abbrev S2x8192x4096 : Shape := ⟨3, ![2, 8192, 4096]⟩
abbrev S2x24576 : Shape := ⟨2, ![2, 24576]⟩
abbrev S4096 : Shape := ⟨1, ![4096]⟩
abbrev S2x4096 : Shape := ⟨2, ![2, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S2x8192x4096, .f32⟩
  | .hbm, ⟨3, _⟩ => ⟨S2x24576, .f32⟩
  | .hbm, ⟨4, _⟩ => ⟨S4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S16384x4096, .f32⟩
  | .hbm, ⟨12, _⟩ => ⟨S2x8192x4096, .f32⟩
  | .hbm, ⟨13, _⟩ => ⟨S2x8192x4096, .f32⟩
  | .hbm, ⟨14, _⟩ => ⟨S2x1x4096, .f32⟩
  | .hbm, ⟨15, _⟩ => ⟨S2x8192x4096, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x4096, .f32⟩
  | .hbm, ⟨27, _⟩ => ⟨S2x8192x4096, .f32⟩
  | .hbm, ⟨28, _⟩ => ⟨S1x1x4096, .f32⟩
  | .hbm, ⟨29, _⟩ => ⟨S2x8192x4096, .f32⟩
  | .hbm, ⟨30, _⟩ => ⟨S2x8192x4096, .f32⟩
  | .hbm, ⟨31, _⟩ => ⟨S2x8192x4096, .f32⟩
  | .hbm, ⟨32, _⟩ => ⟨S2x8192x4096, .f32⟩
  | .hbm, ⟨33, _⟩ => ⟨S2x8192x4096, .f32⟩
  | .hbm, ⟨34, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== GateUp.lean ====
abbrev S16384x4096 : Shape := ⟨2, ![16384, 4096]⟩
abbrev S2x24576 : Shape := ⟨2, ![2, 24576]⟩
abbrev S4096 : Shape := ⟨1, ![4096]⟩
abbrev S4096x22016 : Shape := ⟨2, ![4096, 22016]⟩
abbrev S4096x11008 : Shape := ⟨2, ![4096, 11008]⟩
abbrev S_ : Shape := ⟨0, ![]⟩
abbrev S4096x11264 : Shape := ⟨2, ![4096, 11264]⟩
abbrev S4096x22x512 : Shape := ⟨3, ![4096, 22, 512]⟩
abbrev S4096x22x1x512 : Shape := ⟨4, ![4096, 22, 1, 512]⟩
abbrev S4096x22x2x512 : Shape := ⟨4, ![4096, 22, 2, 512]⟩
abbrev S4096x22528 : Shape := ⟨2, ![4096, 22528]⟩
abbrev S2x6x4096 : Shape := ⟨3, ![2, 6, 4096]⟩
abbrev S2x8x4096 : Shape := ⟨3, ![2, 8, 4096]⟩
abbrev S1x4096 : Shape := ⟨2, ![1, 4096]⟩
abbrev S16384x11264 : Shape := ⟨2, ![16384, 11264]⟩
abbrev S512x4096 : Shape := ⟨2, ![512, 4096]⟩
abbrev S1x8x4096 : Shape := ⟨3, ![1, 8, 4096]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩
abbrev S1x1x4096 : Shape := ⟨3, ![1, 1, 4096]⟩
abbrev S512x1024 : Shape := ⟨2, ![512, 1024]⟩
abbrev S16384x11008 : Shape := ⟨2, ![16384, 11008]⟩

abbrev nBuf : Space → Nat
  | .hbm => 26
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S2x24576, .f32⟩
  | .hbm, ⟨2, _⟩ => ⟨S4096, .f32⟩
  | .hbm, ⟨3, _⟩ => ⟨S4096x22016, .f32⟩
  | .hbm, ⟨4, _⟩ => ⟨S4096x11008, .f32⟩
  | .hbm, ⟨5, _⟩ => ⟨S_, .i32⟩
  | .hbm, ⟨6, _⟩ => ⟨S_, .f32⟩
  | .hbm, ⟨7, _⟩ => ⟨S4096x11264, .f32⟩
  | .hbm, ⟨8, _⟩ => ⟨S4096x22x512, .f32⟩
  | .hbm, ⟨9, _⟩ => ⟨S4096x11008, .f32⟩
  | .hbm, ⟨10, _⟩ => ⟨S_, .i32⟩
  | .hbm, ⟨11, _⟩ => ⟨S_, .f32⟩
  | .hbm, ⟨12, _⟩ => ⟨S4096x11264, .f32⟩
  | .hbm, ⟨13, _⟩ => ⟨S4096x22x512, .f32⟩
  | .hbm, ⟨14, _⟩ => ⟨S4096x22x1x512, .f32⟩
  | .hbm, ⟨15, _⟩ => ⟨S4096x22x1x512, .f32⟩
  | .hbm, ⟨16, _⟩ => ⟨S4096x22x2x512, .f32⟩
  | .hbm, ⟨17, _⟩ => ⟨S4096x22528, .f32⟩
  | .hbm, ⟨18, _⟩ => ⟨S4096x22528, .bf16⟩
  | .hbm, ⟨19, _⟩ => ⟨S2x6x4096, .f32⟩
  | .hbm, ⟨20, _⟩ => ⟨S_, .i32⟩
  | .hbm, ⟨21, _⟩ => ⟨S_, .f32⟩
  | .hbm, ⟨22, _⟩ => ⟨S2x8x4096, .f32⟩
  | .hbm, ⟨23, _⟩ => ⟨S1x4096, .f32⟩
  | .hbm, ⟨24, _⟩ => ⟨S16384x11264, .bf16⟩
  | .hbm, ⟨25, _⟩ => ⟨S16384x11008, .bf16⟩
  | .local _ .vmem, ⟨0, _⟩ => ⟨S512x4096, .f32⟩
  | .local _ .vmem, ⟨1, _⟩ => ⟨S512x4096, .f32⟩
  | .local _ .vmem, ⟨2, _⟩ => ⟨S1x8x4096, .f32⟩
  | .local _ .vmem, ⟨3, _⟩ => ⟨S1x8x4096, .f32⟩
  | .local _ .vmem, ⟨4, _⟩ => ⟨S1x4096, .f32⟩
  | .local _ .vmem, ⟨5, _⟩ => ⟨S4096x1024, .bf16⟩
  | .local _ .vmem, ⟨6, _⟩ => ⟨S4096x1024, .bf16⟩
  | .local _ .vmem, ⟨7, _⟩ => ⟨S512x512, .bf16⟩
  | .local _ .vmem, ⟨8, _⟩ => ⟨S512x512, .bf16⟩
  | .local _ .vmem, ⟨9, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpRefIdeal.lean ====
abbrev S16384x4096 : Shape := ⟨2, ![16384, 4096]⟩
abbrev S2x24576 : Shape := ⟨2, ![2, 24576]⟩
abbrev S4096 : Shape := ⟨1, ![4096]⟩
abbrev S4096x22016 : Shape := ⟨2, ![4096, 22016]⟩
abbrev S2x8192x4096 : Shape := ⟨3, ![2, 8192, 4096]⟩
abbrev S2x4096 : Shape := ⟨2, ![2, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S2x8192x22016 : Shape := ⟨3, ![2, 8192, 22016]⟩
abbrev S2x8192x11008 : Shape := ⟨3, ![2, 8192, 11008]⟩
abbrev S16384x11008 : Shape := ⟨2, ![16384, 11008]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x24576, .f32⟩
  | .hbm, ⟨2, _⟩ => ⟨S4096, .f32⟩
  | .hbm, ⟨3, _⟩ => ⟨S4096x22016, .f32⟩
  | .hbm, ⟨4, _⟩ => ⟨S2x8192x4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x8192x4096, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x4096, .f32⟩
  | .hbm, ⟨23, _⟩ => ⟨S2x8192x4096, .f32⟩
  | .hbm, ⟨24, _⟩ => ⟨S1x1x4096, .f32⟩
  | .hbm, ⟨25, _⟩ => ⟨S2x8192x4096, .f32⟩
  | .hbm, ⟨26, _⟩ => ⟨S2x8192x4096, .f32⟩
  | .hbm, ⟨27, _⟩ => ⟨S2x1x4096, .f32⟩
  | .hbm, ⟨28, _⟩ => ⟨S_, .f32⟩
  | .hbm, ⟨29, _⟩ => ⟨S2x1x4096, .f32⟩
  | .hbm, ⟨30, _⟩ => ⟨S2x1x4096, .f32⟩
  | .hbm, ⟨31, _⟩ => ⟨S2x8192x4096, .f32⟩
  | .hbm, ⟨32, _⟩ => ⟨S2x8192x4096, .f32⟩
  | .hbm, ⟨33, _⟩ => ⟨S2x1x4096, .f32⟩
  | .hbm, ⟨34, _⟩ => ⟨S2x8192x4096, .f32⟩
  | .hbm, ⟨35, _⟩ => ⟨S2x8192x4096, .f32⟩
  | .hbm, ⟨36, _⟩ => ⟨S2x8192x22016, .f32⟩
  | .hbm, ⟨37, _⟩ => ⟨S2x8192x11008, .f32⟩
  | .hbm, ⟨38, _⟩ => ⟨S2x8192x11008, .f32⟩
  | .hbm, ⟨39, _⟩ => ⟨S2x8192x11008, .f32⟩
  | .hbm, ⟨40, _⟩ => ⟨S2x8192x11008, .f32⟩
  | .hbm, ⟨41, _⟩ => ⟨S_, .f32⟩
  | .hbm, ⟨42, _⟩ => ⟨S2x8192x11008, .f32⟩
  | .hbm, ⟨43, _⟩ => ⟨S2x8192x11008, .f32⟩
  | .hbm, ⟨44, _⟩ => ⟨S_, .f32⟩
  | .hbm, ⟨45, _⟩ => ⟨S2x8192x11008, .f32⟩
  | .hbm, ⟨46, _⟩ => ⟨S2x8192x11008, .f32⟩
  | .hbm, ⟨47, _⟩ => ⟨S2x8192x11008, .f32⟩
  | .hbm, ⟨48, _⟩ => ⟨S2x8192x11008, .f32⟩
  | .hbm, ⟨49, _⟩ => ⟨S16384x11008, .f32⟩
  | .hbm, ⟨50, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Down.lean ====
abbrev S16384x11264 : Shape := ⟨2, ![16384, 11264]⟩
abbrev S11008x4096 : Shape := ⟨2, ![11008, 4096]⟩
abbrev S16384x4096 : Shape := ⟨2, ![16384, 4096]⟩
abbrev S2x24576 : Shape := ⟨2, ![2, 24576]⟩
abbrev S4096 : Shape := ⟨1, ![4096]⟩
abbrev S_ : Shape := ⟨0, ![]⟩
abbrev S11264x4096 : Shape := ⟨2, ![11264, 4096]⟩
abbrev S2x6x4096 : Shape := ⟨3, ![2, 6, 4096]⟩
abbrev S2x8x4096 : Shape := ⟨3, ![2, 8, 4096]⟩
abbrev S1x4096 : Shape := ⟨2, ![1, 4096]⟩
abbrev S512x512 : Shape := ⟨2, ![512, 512]⟩
abbrev S512x4096 : Shape := ⟨2, ![512, 4096]⟩
abbrev S1x8x4096 : Shape := ⟨3, ![1, 8, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S16384x11264, .bf16⟩
  | .hbm, ⟨1, _⟩ => ⟨S11008x4096, .f32⟩
  | .hbm, ⟨2, _⟩ => ⟨S16384x4096, .f32⟩
  | .hbm, ⟨3, _⟩ => ⟨S2x24576, .f32⟩
  | .hbm, ⟨4, _⟩ => ⟨S4096, .f32⟩
  | .hbm, ⟨5, _⟩ => ⟨S_, .i32⟩
  | .hbm, ⟨6, _⟩ => ⟨S_, .f32⟩
  | .hbm, ⟨7, _⟩ => ⟨S11264x4096, .f32⟩
  | .hbm, ⟨8, _⟩ => ⟨S11264x4096, .bf16⟩
  | .hbm, ⟨9, _⟩ => ⟨S2x6x4096, .f32⟩
  | .hbm, ⟨10, _⟩ => ⟨S_, .i32⟩
  | .hbm, ⟨11, _⟩ => ⟨S_, .f32⟩
  | .hbm, ⟨12, _⟩ => ⟨S2x8x4096, .f32⟩
  | .hbm, ⟨13, _⟩ => ⟨S1x4096, .f32⟩
  | .hbm, ⟨14, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x8x4096, .f32⟩
  | .local _ .vmem, ⟨7, _⟩ => ⟨S1x8x4096, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S16384x11264 : Shape := ⟨2, ![16384, 11264]⟩
abbrev S11008x4096 : Shape := ⟨2, ![11008, 4096]⟩
abbrev S16384x4096 : Shape := ⟨2, ![16384, 4096]⟩
abbrev S2x24576 : Shape := ⟨2, ![2, 24576]⟩
abbrev S4096 : Shape := ⟨1, ![4096]⟩
abbrev S2x4096 : Shape := ⟨2, ![2, 4096]⟩
abbrev S16384x11008 : Shape := ⟨2, ![16384, 11008]⟩
abbrev S2x8192x11008 : Shape := ⟨3, ![2, 8192, 11008]⟩
abbrev S2x8192x4096 : Shape := ⟨3, ![2, 8192, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11008x4096, .f32⟩
  | .hbm, ⟨2, _⟩ => ⟨S16384x4096, .f32⟩
  | .hbm, ⟨3, _⟩ => ⟨S2x24576, .f32⟩
  | .hbm, ⟨4, _⟩ => ⟨S4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S16384x11008, .bf16⟩
  | .hbm, ⟨12, _⟩ => ⟨S16384x11008, .f32⟩
  | .hbm, ⟨13, _⟩ => ⟨S2x8192x11008, .f32⟩
  | .hbm, ⟨14, _⟩ => ⟨S2x8192x4096, .f32⟩
  | .hbm, ⟨15, _⟩ => ⟨S2x8192x4096, .f32⟩
  | .hbm, ⟨16, _⟩ => ⟨S2x1x4096, .f32⟩
  | .hbm, ⟨17, _⟩ => ⟨S2x8192x4096, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x4096, .f32⟩
  | .hbm, ⟨29, _⟩ => ⟨S2x8192x4096, .f32⟩
  | .hbm, ⟨30, _⟩ => ⟨S1x1x4096, .f32⟩
  | .hbm, ⟨31, _⟩ => ⟨S2x8192x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Ada.lean ====
abbrev S2x4096 : Shape := ⟨2, ![2, 4096]⟩
abbrev S4096x24576 : Shape := ⟨2, ![4096, 24576]⟩
abbrev S24576 : Shape := ⟨1, ![24576]⟩
abbrev S_ : Shape := ⟨0, ![]⟩
abbrev S8x4096 : Shape := ⟨2, ![8, 4096]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S2x24576 : Shape := ⟨2, ![2, 24576]⟩

abbrev nBuf : Space → Nat
  | .hbm => 9
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096x24576, .f32⟩
  | .hbm, ⟨2, _⟩ => ⟨S24576, .f32⟩
  | .hbm, ⟨3, _⟩ => ⟨S_, .i32⟩
  | .hbm, ⟨4, _⟩ => ⟨S_, .f32⟩
  | .hbm, ⟨5, _⟩ => ⟨S8x4096, .f32⟩
  | .hbm, ⟨6, _⟩ => ⟨S1x24576, .f32⟩
  | .hbm, ⟨7, _⟩ => ⟨S8x24576, .f32⟩
  | .hbm, ⟨8, _⟩ => ⟨S2x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x4096 : Shape := ⟨2, ![2, 4096]⟩
abbrev S4096x24576 : Shape := ⟨2, ![4096, 24576]⟩
abbrev S24576 : Shape := ⟨1, ![24576]⟩
abbrev S_ : Shape := ⟨0, ![]⟩
abbrev S2x24576 : Shape := ⟨2, ![2, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096x24576, .f32⟩
  | .hbm, ⟨2, _⟩ => ⟨S24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x24576, .f32⟩
  | .hbm, ⟨13, _⟩ => ⟨S1x24576, .f32⟩
  | .hbm, ⟨14, _⟩ => ⟨S2x24576, .f32⟩
  | .hbm, ⟨15, _⟩ => ⟨S2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.LruScan.lean ====
/- The scan of one block, read at the ideal numbers: eight rows at a time by doubling steps, thirty-two times, is the recursion
   `h ← a h + u` row by row. -/
module

public import proofs.«01_k».proof.Proof.Gen.KernelIdeal.Loops
public import Idealize.ShloMosaic.Lib.KernelVsHost
public import Idealize.ShloMosaic.Lib.IdealHost
public import Idealize.ShloMosaic.Lib.Pipeline.ValueKit.Tiles
public import Idealize.ShloMosaic.Lib.MatmulPlain

@[expose] public section

set_option maxRecDepth 8192

noncomputable section

namespace Cert.KernelIdeal.Lru

open Cert.KernelIdeal Cert.KernelIdeal.Gen Idealize.ShloMosaic Idealize.ShloMosaic.TcCoe Idealize.SL.Sem
open Idealize.ShloMosaic.ValueIdx

/-- The recursion `h ← a h + u`, from `h`. -/
def hs (a u : ℕ → EReal) (h : EReal) : ℕ → EReal
  | 0 => h
  | n + 1 => a n * hs a u h n + u n

/-- A factor that is neither negative nor infinite. -/
def Fac (x : EReal) : Prop := 0 ≤ x ∧ x ≠ ⊤

theorem Fac.mul {x y : EReal} (hx : Fac x) (hy : Fac y) : Fac (x * y) := by
  obtain ⟨hx0, hxt⟩ := hx
  obtain ⟨hy0, hyt⟩ := hy
  refine ⟨mul_nonneg hx0 hy0, ?_⟩
  lift x to ℝ using ⟨hxt, fun h => absurd (h ▸ hx0) (by simp)⟩
  lift y to ℝ using ⟨hyt, fun h => absurd (h ▸ hy0) (by simp)⟩
  rw [← EReal.coe_mul]
  exact EReal.coe_ne_top _

/-- The row `s` rows before `r`, around the end. -/
def back (s : ℕ) (r : Fin 8) : Fin 8 := ⟨(r.val + 8 - s) % 8, Nat.mod_lt _ (by decide)⟩

/-- One doubling step: the factors. -/
def stA (s : ℕ) (a : Fin 8 → EReal) (r : Fin 8) : EReal := if s ≤ r.val then a r * a (back s r) else a r
/-- One doubling step: the addends. -/
def stU (s : ℕ) (a u : Fin 8 → EReal) (r : Fin 8) : EReal := if s ≤ r.val then a r * u (back s r) + u r else u r

theorem stA_fac {s : ℕ} {a : Fin 8 → EReal} (ha : ∀ r, Fac (a r)) (r : Fin 8) : Fac (stA s a r) := by
  unfold stA
  split
  · exact (ha _).mul (ha _)
  · exact ha _

theorem st_comp {s : ℕ} {a u : Fin 8 → EReal} (ha : ∀ r, Fac (a r)) (r : Fin 8) (h : s ≤ r.val) (x : EReal) :
    stA s a r * x + stU s a u r = a r * (a (back s r) * x + u (back s r)) + u r := by
  unfold stA stU
  rw [if_pos h, if_pos h, EReal.left_distrib_of_nonneg_of_ne_top (ha r).1 (ha r).2, mul_assoc, add_assoc]

theorem st_same {s : ℕ} {a u : Fin 8 → EReal} (r : Fin 8) (h : ¬ s ≤ r.val) (x : EReal) :
    stA s a r * x + stU s a u r = a r * x + u r := by
  unfold stA stU
  rw [if_neg h, if_neg h]

/-- The three steps together. -/
def ks (a u : Fin 8 → EReal) (h : EReal) (r : Fin 8) : EReal :=
  stA 4 (stA 2 (stA 1 a)) r * h + stU 4 (stA 2 (stA 1 a)) (stU 2 (stA 1 a) (stU 1 a u)) r

theorem ks_eq (a u : ℕ → EReal) (h : EReal) (b : ℕ) (ha : ∀ r : Fin 8, Fac (a (b + r.val))) (r : Fin 8) :
    ks (fun r => a (b + r.val)) (fun r => u (b + r.val)) (hs a u h b) r = hs a u h (b + r.val + 1) := by
  have h1 := stA_fac (s := 1) ha
  have h2 := stA_fac (s := 2) h1
  unfold ks
  fin_cases r
  · rw [st_same _ (by decide), st_same _ (by decide), st_same _ (by decide)]; rfl
  · rw [st_same _ (by decide), st_same _ (by decide), st_comp ha _ (by decide)]; rfl
  · rw [st_same _ (by decide), st_comp h1 _ (by decide), show back 2 ⟨2, by decide⟩ = ⟨0, by decide⟩ from rfl,
      st_same ⟨0, by decide⟩ (by decide), st_comp ha _ (by decide)]; rfl
  · rw [st_same _ (by decide), st_comp h1 _ (by decide), show back 2 ⟨3, by decide⟩ = ⟨1, by decide⟩ from rfl,
      st_comp ha ⟨1, by decide⟩ (by decide), st_comp ha _ (by decide)]; rfl
  · rw [st_comp h2 _ (by decide), show back 4 ⟨4, by decide⟩ = ⟨0, by decide⟩ from rfl,
      st_same ⟨0, by decide⟩ (by decide), st_same ⟨0, by decide⟩ (by decide),
      st_comp h1 ⟨4, by decide⟩ (by decide), show back 2 ⟨4, by decide⟩ = ⟨2, by decide⟩ from rfl,
      st_comp ha ⟨2, by decide⟩ (by decide), st_comp ha ⟨4, by decide⟩ (by decide)]; rfl
  · rw [st_comp h2 _ (by decide), show back 4 ⟨5, by decide⟩ = ⟨1, by decide⟩ from rfl,
      st_same ⟨1, by decide⟩ (by decide), st_comp ha ⟨1, by decide⟩ (by decide),
      st_comp h1 ⟨5, by decide⟩ (by decide), show back 2 ⟨5, by decide⟩ = ⟨3, by decide⟩ from rfl,
      st_comp ha ⟨3, by decide⟩ (by decide), st_comp ha ⟨5, by decide⟩ (by decide)]; rfl
  · rw [st_comp h2 _ (by decide), show back 4 ⟨6, by decide⟩ = ⟨2, by decide⟩ from rfl,
      st_comp h1 ⟨2, by decide⟩ (by decide), show back 2 ⟨2, by decide⟩ = ⟨0, by decide⟩ from rfl,
      st_same ⟨0, by decide⟩ (by decide), st_comp ha ⟨2, by decide⟩ (by decide),
      st_comp h1 ⟨6, by decide⟩ (by decide), show back 2 ⟨6, by decide⟩ = ⟨4, by decide⟩ from rfl,
      st_comp ha ⟨4, by decide⟩ (by decide), st_comp ha ⟨6, by decide⟩ (by decide)]; rfl
  · rw [st_comp h2 _ (by decide), show back 4 ⟨7, by decide⟩ = ⟨3, by decide⟩ from rfl,
      st_comp h1 ⟨3, by decide⟩ (by decide), show back 2 ⟨3, by decide⟩ = ⟨1, by decide⟩ from rfl,
      st_comp ha ⟨1, by decide⟩ (by decide), st_comp ha ⟨3, by decide⟩ (by decide),
      st_comp h1 ⟨7, by decide⟩ (by decide), show back 2 ⟨7, by decide⟩ = ⟨5, by decide⟩ from rfl,
      st_comp ha ⟨5, by decide⟩ (by decide), st_comp ha ⟨7, by decide⟩ (by decide)]; rfl

/-- The row numbers. -/
abbrev rowN : IVec S8x512 32 := iota Kind.tc S8x512 32 [0] iota_S8x512_d0_w32

theorem sel_row (s : BitVec 32) (hs : s = 1#32 ∨ s = 2#32 ∨ s = 4#32) (x y : FVec Ideal S8x512 .f32) (r : Fin 8) (q : Fin 512) :
    select (cmpi .sge rowN (broadcast S8x512 s)) x y (ix2 r q) = if s.toNat ≤ r.val then x (ix2 r q) else y (ix2 r q) := by
  have e0 : rowN (ix2 r q) = BitVec.ofNat 32 r.val := iota_single_apply _ _ _ _ _ _
  show Scalar.select (IntOp.cmpi .sge (rowN (ix2 r q)) s) _ _ = _
  rw [e0]
  unfold Scalar.select
  have e : ∀ r : Fin 8, (IntOp.cmpi .sge (BitVec.ofNat 32 r.val) s = 1 ↔ s.toNat ≤ r.val) := by
    rcases hs with rfl | rfl | rfl <;> decide
  by_cases h : s.toNat ≤ r.val
  · rw [if_pos h, if_pos ((e r).2 h)]
  · rw [if_neg h, if_neg (fun h' => h ((e r).1 h'))]

theorem rot_row (s : BitVec 32) (hs : s = 1#32 ∨ s = 2#32 ∨ s = 4#32) (x : FVec Ideal S8x512 .f32) (h) (r : Fin 8) (q : Fin 512) :
    dynamicRotate 0 s none x h (ix2 r q) = x (ix2 (back s.toNat r) q) := by
  refine dynamicRotate_apply 0 s x h _ _ fun b => ?_
  fin_cases b
  · rcases hs with rfl | rfl | rfl <;> rfl
  · rfl

theorem pay15_apply (acc : Vec Ideal S1x512 .f32) (a8 u8 : Vec Ideal S8x512 .f32) (r : Fin 8) (q : Fin 512) :
    (k0_pay15 (F := Ideal) rowN acc a8 u8 (ix2 r q) : EReal)
      = ks (fun r => (a8 (ix2 r q) : EReal)) (fun r => (u8 (ix2 r q) : EReal)) (acc (ix2 0 q)) r := by
  have hb : broadcastTo S8x512 acc broadcasts_S1x512_S8x512 (ix2 r q) = acc (ix2 0 q) :=
    broadcastTo_apply acc _ _ _ fun a => by fin_cases a <;> rfl
  unfold k0_pay15
  simp only [addf_apply, mulf_apply, hb, sel_row 1#32 (.inl rfl), sel_row 2#32 (.inr (.inl rfl)), sel_row 4#32 (.inr (.inr rfl)),
    rot_row 1#32 (.inl rfl), rot_row 2#32 (.inr (.inl rfl)), rot_row 4#32 (.inr (.inr rfl))]
  rfl

theorem pay17_apply (acc : Vec Ideal S1x512 .f32) (a8 u8 : Vec Ideal S8x512 .f32) (q : Fin 512) :
    k0_pay17 (F := Ideal) rowN acc a8 u8 (ix2 0 q) = k0_pay15 (F := Ideal) rowN acc a8 u8 (ix2 7 q) := by
  unfold k0_pay17
  generalize k0_pay15 (F := Ideal) rowN acc a8 u8 = z
  exact extractStridedSlice_apply ![7, 0] z slices_S8x512_o7_0_S1x512 (ix2 0 q) (ix2 7 q) fun a => by
    fin_cases a
    · rfl
    · exact (Nat.zero_add _).symm

theorem pay16_eq (acc : Vec Ideal S1x512 .f32) (a8 u8 : Vec Ideal S8x512 .f32) :
    k0_pay16 (F := Ideal) rowN acc a8 u8 = k0_pay15 (F := Ideal) rowN acc a8 u8 := by
  unfold k0_pay16
  generalize k0_pay15 (F := Ideal) rowN acc a8 u8 = z
  exact shapeCast_self _ _

/-- What one trip of a scan loop does: from the carried row and the rows of the two scratch blocks. -/
structure Loop (arg13 arg14 : Memref sig .tc .vmem S256x512 .f32) (X : BufTy.Contents (Elt Ideal) arg13.view.ty)
    (G : BufTy.Contents (Elt Ideal) arg14.view.ty) (init : Vec Ideal S1x512 .f32)
    (st : ℕ → (Vec Ideal S1x512 .f32) × List (View.Piece (Elt Ideal) S256x512 .f32)) : Prop where
  zero : st 0 = (init, [])
  succ : ∀ k : ℕ, k < 32 → ∃ (off : Fin 2 → ℕ) (inb : ∀ a, off a + S8x512.size a ≤ S256x512.size a), off = ![8 * k, 0] ∧
    st (k + 1) = (k0_pay17 rowN (st k).1 (arg13.view.readAt (Elt Ideal) (Rect.unit (s := S256x512) off S8x512.size inb).toLoadRect X)
        (arg14.view.readAt (Elt Ideal) (Rect.unit (s := S256x512) off S8x512.size inb).toLoadRect (arg14.view.writes (Elt Ideal) G (st k).2)),
      ⟨Rect.unit (s := S256x512) off S8x512.size inb, k0_pay16 rowN (st k).1
        (arg13.view.readAt (Elt Ideal) (Rect.unit (s := S256x512) off S8x512.size inb).toLoadRect X)
        (arg14.view.readAt (Elt Ideal) (Rect.unit (s := S256x512) off S8x512.size inb).toLoadRect (arg14.view.writes (Elt Ideal) G (st k).2))⟩
        :: (st k).2)

theorem idx8 (k : ℕ) (inb : ∀ a, (![8 * k, 0] : Fin 2 → ℕ) a + S8x512.size a ≤ S256x512.size a) (r : Fin 8) (q : Fin 512) (h : 8 * k + r.val < 256) :
    (Rect.unit (s := S256x512) ![8 * k, 0] S8x512.size inb).toLoadRect.idx (ix2 r q) = (ix2 (⟨8 * k + r.val, h⟩ : Fin 256) q : S256x512.Idx) :=
  funext fun a => Fin.ext ((Rect.idx_unit_val _ _ inb (ix2 r q) a).trans (by
    fin_cases a
    · rfl
    · exact Nat.zero_add _))

/-- A column of a block, by row number. -/
def col (X : Vec Ideal S256x512 .f32) (q : Fin 512) (n : ℕ) : EReal :=
  X (ix2 (⟨n % 256, Nat.mod_lt _ (by decide)⟩ : Fin 256) q)

theorem col_eq (X : Vec Ideal S256x512 .f32) (q : Fin 512) (n : Fin 256) : col X q n.val = X (ix2 n q) := by
  unfold col
  congr 2
  exact Fin.ext (Nat.mod_eq_of_lt n.isLt)

variable {arg13 arg14 : Memref sig .tc .vmem S256x512 .f32} {X : BufTy.Contents (Elt Ideal) arg13.view.ty}
  {G : BufTy.Contents (Elt Ideal) arg14.view.ty} {init : Vec Ideal S1x512 .f32}
  {st : ℕ → (Vec Ideal S1x512 .f32) × List (View.Piece (Elt Ideal) S256x512 .f32)}

theorem Loop.inv (L : Loop arg13 arg14 X G init st) (A U : Vec Ideal S256x512 .f32)
    (hA : arg13.view.read (Elt Ideal) X = A) (hU : arg14.view.read (Elt Ideal) G = U) (hf : ∀ y, Fac (A y)) (k : ℕ) (hk : k ≤ 32) :
    (∀ q : Fin 512, ((st k).1 (ix2 0 q) : EReal) = hs (col A q) (col U q) (init (ix2 0 q)) (8 * k))
    ∧ (∀ (n : Fin 256) (q : Fin 512), (arg14.view.read (Elt Ideal) (arg14.view.writes (Elt Ideal) G (st k).2) (ix2 n q) : EReal)
        = if n.val < 8 * k then hs (col A q) (col U q) (init (ix2 0 q)) (n.val + 1) else col U q n.val) := by
  induction k with
  | zero =>
    rw [L.zero]
    refine ⟨fun q => rfl, fun n q => ?_⟩
    rw [if_neg (by omega), col_eq, ← hU]
    rfl
  | succ k ih =>
    obtain ⟨i1, i2⟩ := ih (by omega)
    obtain ⟨off, inb, hoff, e⟩ := L.succ k (by omega)
    subst hoff
    have eA : ∀ (r : Fin 8) (q : Fin 512), (arg13.view.readAt (Elt Ideal) (Rect.unit (s := S256x512) ![8 * k, 0] S8x512.size inb).toLoadRect X (ix2 r q) : EReal)
        = col A q (8 * k + r.val) := fun r q => by
      rw [View.readAt_apply, hA, col_eq A q ⟨8 * k + r.val, by omega⟩, idx8 k inb r q (by omega)]
    have eU : ∀ (r : Fin 8) (q : Fin 512), (arg14.view.readAt (Elt Ideal) (Rect.unit (s := S256x512) ![8 * k, 0] S8x512.size inb).toLoadRect
        (arg14.view.writes (Elt Ideal) G (st k).2) (ix2 r q) : EReal) = col U q (8 * k + r.val) := fun r q => by
      rw [View.readAt_apply, idx8 k inb r q (by omega)]
      exact (i2 _ q).trans (if_neg (by simp))
    have e15 : ∀ (r : Fin 8) (q : Fin 512), (k0_pay15 rowN (st k).1
        (arg13.view.readAt (Elt Ideal) (Rect.unit (s := S256x512) ![8 * k, 0] S8x512.size inb).toLoadRect X)
        (arg14.view.readAt (Elt Ideal) (Rect.unit (s := S256x512) ![8 * k, 0] S8x512.size inb).toLoadRect (arg14.view.writes (Elt Ideal) G (st k).2))
        (ix2 r q) : EReal) = hs (col A q) (col U q) (init (ix2 0 q)) (8 * k + r.val + 1) := fun r q => by
      rw [pay15_apply]
      simp only [eA, eU, i1]
      exact ks_eq _ _ _ _ (fun r => hf _) r
    rw [e]
    refine ⟨fun q => ?_, fun n q => ?_⟩
    · exact (pay17_apply _ _ _ q).trans (e15 7 q)
    · by_cases h1 : 8 * k ≤ n.val ∧ n.val < 8 * k + 8
      · have hlt : n.val - 8 * k < 8 := by omega
        rw [View.read_writes_cons_hit_of_coords _ _ _ _ _ (ix2 (⟨n.val - 8 * k, hlt⟩ : Fin 8) q) (ix2 n q)
          (fun a => by fin_cases a <;> simp [ix2]; omega), if_pos (by omega)]
        rw [pay16_eq, e15]
        congr 2
        show 8 * k + (n.val - 8 * k) = n.val
        omega
      · rw [View.read_writes_cons_miss_of_axis _ _ _ _ _ 0 (8 * k) 8 rfl rfl rfl (by
          show n.val < _ ∨ _ ≤ n.val
          omega), i2]
        by_cases h2 : n.val < 8 * k
        · rw [if_pos h2, if_pos (by omega)]
        · rw [if_neg h2, if_neg (by omega)]

end Cert.KernelIdeal.Lru
-- ==== Proof.LruChunk.lean ====
/- One chunk of the recurrent block's columns, read at the ideal numbers: the convolution, the two gates, the decay and the
   addend, element by element. -/
module

public import proofs.«01_k».proof.Proof.LruScan
public import Idealize.ShloMosaic.Lib.ValueLayout

@[expose] public section

set_option maxRecDepth 8192

noncomputable section

namespace Cert.KernelIdeal.Lru

open Cert.KernelIdeal Cert.KernelIdeal.Gen Idealize.ShloMosaic Idealize.ShloMosaic.TcCoe Idealize.SL.Sem
open Idealize.ShloMosaic.ValueIdx

/-- The logistic function. -/
def sg (x : EReal) : EReal := Ideal.div 1 (1 + Ideal.exp (-x))

/-- The softplus function, as the kernel computes it. -/
def sp (x : EReal) : EReal := max x 0 + Ideal.log1p (Ideal.exp (-(max x (-x))))

/-- The constant `-8`. -/
def m8 : EReal := Ideal.ofBits .f32 0xC1000000#32

/-- The decay: `exp (-8 softplus (-lam) r)`. -/
def aa (lam z : EReal) : EReal := Ideal.exp (m8 * sp (-lam) * sg z)

/-- The addend: `sqrt (1 - a²) (i x)`. -/
def uu (a z x : EReal) : EReal := Ideal.sqrt (1 - a * a) * (sg z * x)

/-- The gelu function in its tanh form. -/
def gl (g : EReal) : EReal :=
  Ideal.ofBits .f32 0x3F000000#32 * g
    * (1 + Ideal.tanh (Ideal.ofBits .f32 0x3F4C422A#32 * (g + Ideal.ofBits .f32 0x3D372713#32 * (g * g * g))))

/-- The convolution's four taps. -/
def cv (b : EReal) (w t : Fin 4 → EReal) : EReal := b + w 0 * t 0 + w 1 * t 1 + w 2 * t 2 + w 3 * t 3

/-- A row vector at every row of a block. -/
theorem bc_row {α : Type} (v : S1x512.Idx → α) (r : Fin 256) (q : Fin 512) :
    broadcastTo S256x512 v broadcasts_S1x512_S256x512 (ix2 r q) = v (ix2 0 q) :=
  broadcastTo_apply v _ _ _ fun a => by fin_cases a <;> rfl

theorem pay6_apply (b w0 w1 w2 w3 : Vec Ideal S1x512 .f32) (e0 e1 e2 e3 : Vec Ideal S256x512 .f32) (r : Fin 256) (q : Fin 512) :
    (k0_pay6 (F := Ideal) (k0_pay5 b w0 e0 w1 e1 w2 e2) w3 e3 (ix2 r q) : EReal)
      = cv (b (ix2 0 q)) ![w0 (ix2 0 q), w1 (ix2 0 q), w2 (ix2 0 q), w3 (ix2 0 q)]
          ![e0 (ix2 r q), e1 (ix2 r q), e2 (ix2 r q), e3 (ix2 r q)] := by
  unfold k0_pay6 k0_pay5
  rw [shapeCast_self]
  simp only [addf_apply, mulf_apply, bc_row]
  rfl

/-- The two heads' product of a chunk. -/
def zc (x : Vec Ideal S256x512 .f32) (W0 W1 : Vec Ideal S1x256x256 .bf16) (r : Fin 256) (q : Fin 512) : EReal :=
  if h : q.val < 256 then ∑ k : Fin 256, (x (ix2 r (⟨k.val, by omega⟩ : Fin 512)) * W0 (ix3 (0 : Fin 1) k (⟨q.val, h⟩ : Fin 256)) : EReal)
  else ∑ k : Fin 256, (x (ix2 r (⟨256 + k.val, by omega⟩ : Fin 512)) * W1 (ix3 (0 : Fin 1) k (⟨q.val - 256, by omega⟩ : Fin 256)) : EReal)

theorem conc_apply (x : Vec Ideal S256x512 .bf16) (W0 W1 : Vec Ideal S1x256x256 .bf16) (r : Fin 256) (q : Fin 512) :
    (concatenate S256x512 1
      [⟨S256x256, matmul (F := Ideal) dot_S256x256_S256x256_S256x256_1_0_0_1_n_n none (extractStridedSlice S256x256 ![0, 0] x slices_S256x512_o0_0_S256x256 : FVec Ideal S256x256 .bf16)
          (shapeCast S256x256 W0 shapeCasts_S1x256x256_S256x256 : FVec Ideal S256x256 .bf16) (constant S256x256 .f32 0x00000000#32)⟩,
       ⟨S256x256, matmul (F := Ideal) dot_S256x256_S256x256_S256x256_1_0_0_1_n_n none (extractStridedSlice S256x256 ![0, 256] x slices_S256x512_o0_256_S256x256 : FVec Ideal S256x256 .bf16)
          (shapeCast S256x256 W1 shapeCasts_S1x256x256_S256x256 : FVec Ideal S256x256 .bf16) (constant S256x256 .f32 0x00000000#32)⟩]
      concatenates_S256x256_S256x256_S256x512_d1 (ix2 r q) : EReal) = zc x W0 W1 r q := by
  have hd : dot_S256x256_S256x256_S256x256_1_0_0_1_n_n = DotDims.plain 256 256 256 := rfl
  have key : ∀ (xs : FVec Ideal S256x256 .bf16) (W : Vec Ideal S1x256x256 .bf16) (p : Fin 256),
      (matmul (F := Ideal) dot_S256x256_S256x256_S256x256_1_0_0_1_n_n none xs
          (shapeCast S256x256 W shapeCasts_S1x256x256_S256x256 : FVec Ideal S256x256 .bf16) (constant S256x256 .f32 0x00000000#32) (ix2 r p) : EReal)
        = ∑ k : Fin 256, (xs (ix2 r k) * W (ix3 (0 : Fin 1) k p) : EReal) := fun xs W p => by
    have e := Ideal.matmul_plain_apply (M := 256) (K := 256) (N := 256) (φ₁ := .bf16) (φ₂ := .bf16) none xs
      (shapeCast S256x256 W shapeCasts_S1x256x256_S256x256) (constant S256x256 .f32 0x00000000#32) r p
    rw [hd]
    refine e.trans ?_
    simp only [constant_apply, Scalar.ofBits]
    rw [Ideal.ofBits_zero_f32, zero_add]
    exact Finset.sum_congr rfl fun k _ => congrArg (xs (ix2 r k) * ·) (shapeCast_1ab_ab_apply W _ k p)
  by_cases h : q.val < 256
  · refine (concatenate_pair_apply_left (s₁ := S256x256) (s₂ := S256x256) (t := S256x512) 1 _ _ _ (ix2 r q) rfl (ix2 r (⟨q.val, h⟩ : Fin 256) : S256x256.Idx) fun b => by fin_cases b <;> rfl).trans ?_
    rw [key]
    unfold zc
    rw [dif_pos h]
    refine Finset.sum_congr rfl fun k _ => congrArg (· * W0 (ix3 (0 : Fin 1) k (⟨q.val, h⟩ : Fin 256))) ?_
    exact extractStridedSlice_apply ![0, 0] x slices_S256x512_o0_0_S256x256 (ix2 r k) (ix2 r (⟨k.val, by omega⟩ : Fin 512)) fun a => by
      fin_cases a
      · exact (Nat.zero_add _).symm
      · exact (Nat.zero_add _).symm
  · refine (concatenate_pair_apply_right (s₁ := S256x256) (s₂ := S256x256) (t := S256x512) 1 _ _ _ (ix2 r q) rfl rfl (ix2 r (⟨q.val - 256, by omega⟩ : Fin 256) : S256x256.Idx)
      (fun b hb => by
        fin_cases b
        · rfl
        · exact absurd rfl hb) (by show q.val - 256 + 256 = q.val; omega)).trans ?_
    rw [key]
    unfold zc
    rw [dif_neg h]
    refine Finset.sum_congr rfl fun k _ => congrArg (· * W1 (ix3 (0 : Fin 1) k (⟨q.val - 256, by omega⟩ : Fin 256))) ?_
    exact extractStridedSlice_apply ![0, 256] x slices_S256x512_o0_256_S256x256 (ix2 r k) (ix2 r (⟨256 + k.val, by omega⟩ : Fin 512)) fun a => by
      fin_cases a
      · exact (Nat.zero_add _).symm
      · rfl

theorem pay11_apply (v28 : FVec Ideal S256x512 .f32) (w3 : Vec Ideal S1x512 .f32) (e3 : Vec Ideal S256x512 .f32)
    (W0 W1 : Vec Ideal S1x256x256 .bf16) (b : Vec Ideal S1x512 .f32) (r : Fin 256) (q : Fin 512) :
    (k0_pay11 (F := Ideal) v28 w3 e3 W0 W1 b (ix2 r q) : EReal) = zc (k0_pay6 v28 w3 e3) W0 W1 r q + b (ix2 0 q) := by
  unfold k0_pay11
  rw [shapeCast_self]
  simp only [addf_apply, bc_row]
  exact congrArg (· + (b (ix2 0 q) : EReal)) (conc_apply (k0_pay6 v28 w3 e3) W0 W1 r q)

theorem sg_apply (z : FVec Ideal S256x512 .f32) (r : Fin 256) (q : Fin 512) :
    (divf (F := Ideal) (φ := .f32) (broadcast S256x512 (Scalar.ofBits .f32 0x3F800000#32))
      (addf (broadcast S256x512 (Scalar.ofBits .f32 0x3F800000#32))
        (exp (subf (broadcast S256x512 (Scalar.ofBits .f32 0x00000000#32)) z))) (ix2 r q) : EReal) = sg (z (ix2 r q)) := by
  show Ideal.div (Ideal.ofBits .f32 0x3F800000#32) (Ideal.ofBits .f32 0x3F800000#32 + Ideal.exp (Ideal.ofBits .f32 0x00000000#32 - z (ix2 r q))) = _
  rw [Ideal.ofBits_one_f32, Ideal.ofBits_zero_f32, zero_sub]
  rfl

theorem pay10_apply (v28 : FVec Ideal S256x512 .f32) (w3 : Vec Ideal S1x512 .f32) (e3 : Vec Ideal S256x512 .f32)
    (W0 W1 : Vec Ideal S1x256x256 .bf16) (b : Vec Ideal S1x512 .f32) (r : Fin 256) (q : Fin 512) :
    (k0_pay10 (F := Ideal) v28 w3 e3 W0 W1 b (ix2 r q) : EReal) = sg (zc (k0_pay6 v28 w3 e3) W0 W1 r q + b (ix2 0 q)) := by
  rw [← pay11_apply, ← sg_apply]
  rfl

theorem pay13_apply (g : FVec Ideal S256x512 .f32) (lam : Vec Ideal S1x512 .f32) (r : Fin 256) (q : Fin 512) :
    (k0_pay13 (F := Ideal) g lam (ix2 r q) : EReal) = Ideal.exp (m8 * sp (-(lam (ix2 0 q))) * g (ix2 r q)) := by
  unfold k0_pay13 k0_pay12
  rw [shapeCast_self, shapeCast_self]
  show Ideal.exp ((broadcastTo S256x512 _ broadcasts_S1x512_S256x512 (ix2 r q) : EReal) * g (ix2 r q)) = _
  rw [bc_row]
  show Ideal.exp (m8 * (max (Ideal.ofBits .f32 0x00000000#32 - lam (ix2 0 q)) (Ideal.ofBits .f32 0x00000000#32)
    + Ideal.log1p (Ideal.exp (Ideal.ofBits .f32 0x00000000#32 - (max (Ideal.ofBits .f32 0x00000000#32 - lam (ix2 0 q)) (-(Ideal.ofBits .f32 0x00000000#32 - lam (ix2 0 q))))))) * g (ix2 r q)) = _
  rw [Ideal.ofBits_zero_f32, zero_sub, zero_sub]
  rfl

theorem pay14_apply (x g z : FVec Ideal S256x512 .f32) (lam : Vec Ideal S1x512 .f32) (r : Fin 256) (q : Fin 512) :
    (k0_pay14 (F := Ideal) x g z lam (ix2 r q) : EReal)
      = uu (k0_pay13 (F := Ideal) g lam (ix2 r q)) (z (ix2 r q)) (x (ix2 r q)) := by
  unfold k0_pay14 k0_pay13
  rw [shapeCast_self, shapeCast_self]
  generalize k0_pay12 (F := Ideal) g lam = p
  show Ideal.sqrt (Ideal.ofBits .f32 0x3F800000#32 - p (ix2 r q) * p (ix2 r q)) * (_ * x (ix2 r q)) = _
  rw [Ideal.ofBits_one_f32]
  refine congrArg (Ideal.sqrt (1 - p (ix2 r q) * p (ix2 r q)) * ·) (congrArg (· * x (ix2 r q)) ?_)
  exact sg_apply z r q

theorem pay19_apply (h g : Vec Ideal S256x512 .f32) (r : Fin 256) (q : Fin 512) :
    (k0_pay19 (F := Ideal) h g (ix2 r q) : EReal) = h (ix2 r q) * gl (g (ix2 r q)) := by
  unfold k0_pay19
  show (h (ix2 r q) : EReal) * (Ideal.ofBits .f32 0x3F000000#32 * g (ix2 r q)
    * (Ideal.ofBits .f32 0x3F800000#32 + Ideal.tanh (Ideal.ofBits .f32 0x3F4C422A#32 * (g (ix2 r q) + Ideal.ofBits .f32 0x3D372713#32 * (g (ix2 r q) * g (ix2 r q) * g (ix2 r q)))))) = _
  rw [Ideal.ofBits_one_f32]
  rfl

theorem m8_eq : m8 = ((-8 : ℝ) : EReal) := by
  unfold m8
  simp [Ideal.ofBits, Ideal.ieee]
  rw [← EReal.coe_mul]
  exact congrArg _ (by norm_num)

theorem exp_nonneg (x : EReal) : 0 ≤ Ideal.exp x := by
  induction x with
  | bot => exact le_rfl
  | top => exact le_top
  | coe r => exact EReal.coe_nonneg.2 (Real.exp_pos r).le

theorem log1p_nonneg {x : EReal} (h : 0 ≤ x) : 0 ≤ Ideal.log1p x := by
  unfold Ideal.log1p
  induction x with
  | bot => exact absurd h (by simp)
  | top => exact le_top
  | coe r =>
    have hr : 0 ≤ r := by exact_mod_cast h
    rw [show (1 : EReal) + (r : EReal) = ((1 + r : ℝ) : EReal) by push_cast; rfl]
    show 0 ≤ (if 1 + r ≤ 0 then (⊥ : EReal) else (Real.log (1 + r) : EReal))
    rw [if_neg (by linarith)]
    exact_mod_cast Real.log_nonneg (by linarith)

theorem sp_nonneg (x : EReal) : 0 ≤ sp x :=
  add_nonneg (le_max_right _ _) (log1p_nonneg (exp_nonneg _))

theorem sg_nonneg (x : EReal) : 0 ≤ sg x := by
  unfold sg Ideal.div
  have h : (0 : EReal) < 1 + Ideal.exp (-x) := lt_of_lt_of_le zero_lt_one (le_add_of_nonneg_right (exp_nonneg _))
  rw [if_neg h.ne', one_mul]
  exact EReal.inv_nonneg_of_nonneg h.le

/-- The logarithm of the decay is never positive, -/
theorem la_nonpos (lam z : EReal) : m8 * sp (-lam) * sg z ≤ 0 := by
  have h1 : m8 * sp (-lam) ≤ 0 := by
    rw [m8_eq]
    exact EReal.mul_nonpos_iff.2 (.inr ⟨by exact_mod_cast (by norm_num : (-8 : ℝ) ≤ 0), sp_nonneg _⟩)
  exact EReal.mul_nonpos_iff.2 (.inr ⟨h1, sg_nonneg _⟩)

theorem exp_fac {x : EReal} (h : x ≤ 0) : Fac (Ideal.exp x) := by
  refine ⟨exp_nonneg x, ?_⟩
  induction x with
  | bot => exact EReal.zero_ne_top
  | top => exact absurd h (by simp)
  | coe r => exact EReal.coe_ne_top _

/-- so the decay is a factor neither negative nor infinite. -/
theorem aa_fac (lam z : EReal) : Fac (aa lam z) := exp_fac (la_nonpos lam z)

end Cert.KernelIdeal.Lru
-- ==== Proof.LruLoops.lean ====
/- The eight scan loops, one for each chunk of columns, each doing what `Loop` says. -/
module

public import proofs.«01_k».proof.Proof.LruScan

@[expose] public section

set_option maxRecDepth 8192

noncomputable section

namespace Cert.KernelIdeal.Lru

open Cert.KernelIdeal Cert.KernelIdeal.Gen Idealize.ShloMosaic Idealize.ShloMosaic.TcCoe Idealize.SL.Sem

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole)
  (X : BufTy.Contents (Elt Ideal) arg13.view.ty) (G : BufTy.Contents (Elt Ideal) arg14.view.ty) (init : Vec Ideal S1x512 .f32)

abbrev tr1 {k : ℕ} (hk : k < 32) : Fin k0_t1_loop.trips := ⟨k, lt_of_lt_of_eq hk (by decide +kernel : 32 = k0_t1_loop.trips)⟩
theorem loop1 (v33 : FVec Ideal S256x512 .f32) (v60 : FVec Ideal S256x512 .f32) (v65 : FVec Ideal S256x512 .f32) : Loop arg13 arg14 X G init (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v33 v60 v65 X G init) where
  zero := rfl
  succ k hk := ⟨k0_off1 (tr1 hk), k0_off1_inb (tr1 hk), k0_off1_eq (tr1 hk), (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v33 v60 v65 X G init (tr1 hk)).trans (by
    unfold tripR_k0_t1 tripL_k0_t1 trip_k0_t1
    rfl)⟩

abbrev tr2 {k : ℕ} (hk : k < 32) : Fin k0_t2_loop.trips := ⟨k, lt_of_lt_of_eq hk (by decide +kernel : 32 = k0_t2_loop.trips)⟩
theorem loop2 (v213 : FVec Ideal S256x512 .f32) : Loop arg13 arg14 X G init (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v213 X G init) where
  zero := rfl
  succ k hk := ⟨k0_off2 (tr2 hk), k0_off2_inb (tr2 hk), k0_off2_eq (tr2 hk), (st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v213 X G init (tr2 hk)).trans (by
    unfold tripR_k0_t2 tripL_k0_t2 trip_k0_t2
    rfl)⟩

abbrev tr3 {k : ℕ} (hk : k < 32) : Fin k0_t3_loop.trips := ⟨k, lt_of_lt_of_eq hk (by decide +kernel : 32 = k0_t3_loop.trips)⟩
theorem loop3 (v263 : FVec Ideal S256x512 .f32) (v302 : FVec Ideal S256x512 .f32) (v319 : FVec Ideal S256x512 .f32) (v320 : Vec Ideal S256x512 .f32) : Loop arg13 arg14 X G init (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v263 v302 v319 v320 X G init) where
  zero := rfl
  succ k hk := ⟨k0_off3 (tr3 hk), k0_off3_inb (tr3 hk), k0_off3_eq (tr3 hk), (st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v263 v302 v319 v320 X G init (tr3 hk)).trans (by
    unfold tripR_k0_t3 tripL_k0_t3 trip_k0_t3
    rfl)⟩

abbrev tr4 {k : ℕ} (hk : k < 32) : Fin k0_t4_loop.trips := ⟨k, lt_of_lt_of_eq hk (by decide +kernel : 32 = k0_t4_loop.trips)⟩
theorem loop4 (v378 : FVec Ideal S256x512 .f32) (v405 : FVec Ideal S256x512 .f32) (v417 : FVec Ideal S256x512 .f32) (v423 : FVec Ideal S1x512 .f32) (v426 : FVec Ideal S1x512 .f32) : Loop arg13 arg14 X G init (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v378 v405 v417 v423 v426 X G init) where
  zero := rfl
  succ k hk := ⟨k0_off4 (tr4 hk), k0_off4_inb (tr4 hk), k0_off4_eq (tr4 hk), (st_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v378 v405 v417 v423 v426 X G init (tr4 hk)).trans (by
    unfold tripR_k0_t4 tripL_k0_t4 trip_k0_t4
    rfl)⟩

abbrev tr5 {k : ℕ} (hk : k < 32) : Fin k0_t5_loop.trips := ⟨k, lt_of_lt_of_eq hk (by decide +kernel : 32 = k0_t5_loop.trips)⟩
theorem loop5 (v493 : FVec Ideal S256x512 .f32) (v520 : FVec Ideal S256x512 .f32) (v532 : FVec Ideal S256x512 .f32) : Loop arg13 arg14 X G init (st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v493 v520 v532 X G init) where
  zero := rfl
  succ k hk := ⟨k0_off5 (tr5 hk), k0_off5_inb (tr5 hk), k0_off5_eq (tr5 hk), (st_k0_t5_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v493 v520 v532 X G init (tr5 hk)).trans (by
    unfold tripR_k0_t5 tripL_k0_t5 trip_k0_t5
    rfl)⟩

abbrev tr6 {k : ℕ} (hk : k < 32) : Fin k0_t6_loop.trips := ⟨k, lt_of_lt_of_eq hk (by decide +kernel : 32 = k0_t6_loop.trips)⟩
theorem loop6 (v608 : FVec Ideal S256x512 .f32) (v635 : FVec Ideal S256x512 .f32) (v640 : FVec Ideal S256x512 .f32) : Loop arg13 arg14 X G init (st_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v608 v635 v640 X G init) where
  zero := rfl
  succ k hk := ⟨k0_off6 (tr6 hk), k0_off6_inb (tr6 hk), k0_off6_eq (tr6 hk), (st_k0_t6_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v608 v635 v640 X G init (tr6 hk)).trans (by
    unfold tripR_k0_t6 tripL_k0_t6 trip_k0_t6
    rfl)⟩

abbrev tr7 {k : ℕ} (hk : k < 32) : Fin k0_t7_loop.trips := ⟨k, lt_of_lt_of_eq hk (by decide +kernel : 32 = k0_t7_loop.trips)⟩
theorem loop7 (v788 : FVec Ideal S256x512 .f32) : Loop arg13 arg14 X G init (st_k0_t7 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v788 X G init) where
  zero := rfl
  succ k hk := ⟨k0_off7 (tr7 hk), k0_off7_inb (tr7 hk), k0_off7_eq (tr7 hk), (st_k0_t7_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v788 X G init (tr7 hk)).trans (by
    unfold tripR_k0_t7 tripL_k0_t7 trip_k0_t7
    rfl)⟩

abbrev tr8 {k : ℕ} (hk : k < 32) : Fin k0_t8_loop.trips := ⟨k, lt_of_lt_of_eq hk (by decide +kernel : 32 = k0_t8_loop.trips)⟩
theorem loop8 (v838 : FVec Ideal S256x512 .f32) (v877 : FVec Ideal S256x512 .f32) (v894 : FVec Ideal S256x512 .f32) (v895 : Vec Ideal S256x512 .f32) : Loop arg13 arg14 X G init (st_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v838 v877 v894 v895 X G init) where
  zero := rfl
  succ k hk := ⟨k0_off8 (tr8 hk), k0_off8_inb (tr8 hk), k0_off8_eq (tr8 hk), (st_k0_t8_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 rowN v838 v877 v894 v895 X G init (tr8 hk)).trans (by
    unfold tripR_k0_t8 tripL_k0_t8 trip_k0_t8
    rfl)⟩

end Cert.KernelIdeal.Lru
-- ==== Proof.LruBlock.lean ====
/- One block of the recurrent kernel as a function of what it is given: the rows before and in the block, the parameters,
   the carried row; and each chunk of columns as a block of that function. -/
module

public import proofs.«01_k».proof.Proof.LruChunk
public import proofs.«01_k».proof.Proof.LruLoops
public import Idealize.ShloMosaic.Lib.Pipeline.ReadBack

@[expose] public section

set_option maxRecDepth 8192

noncomputable section

namespace Cert.KernelIdeal.Lru

open Cert.KernelIdeal Cert.KernelIdeal.Gen Idealize.ShloMosaic Idealize.ShloMosaic.TcCoe Idealize.SL.Sem
open Idealize.ShloMosaic.ValueIdx

/-- The parameters: the convolution's weights and bias, the two gates' weights and biases, the decay's parameter. -/
structure Par where
  cw : Vec Ideal S4x4096 .f32
  cb : Vec Ideal S1x4096 .f32
  wa : Vec Ideal S16x256x256 .bf16
  ba : Vec Ideal S1x4096 .f32
  wx : Vec Ideal S16x256x256 .bf16
  bx : Vec Ideal S1x4096 .f32
  lam : Vec Ideal S1x4096 .f32

/-- The convolution of a row, from its four taps. -/
def CVR (P : Par) (t : Fin 4 → Fin 4096 → EReal) (Q : Fin 4096) : EReal :=
  cv (P.cb (ix2 0 Q)) (fun k => P.cw (ix2 k Q)) (fun k => t k Q)

/-- A block-diagonal product of a row. -/
def ZR (W : Vec Ideal S16x256x256 .bf16) (b : Vec Ideal S1x4096 .f32) (x : Fin 4096 → EReal) (Q : Fin 4096) : EReal :=
  (∑ k : Fin 256, (x (⟨256 * (Q.val / 256) + k.val, by omega⟩ : Fin 4096)
    * W (ix3 (⟨Q.val / 256, by omega⟩ : Fin 16) k (⟨Q.val % 256, Nat.mod_lt _ (by decide)⟩ : Fin 256)) : EReal)) + b (ix2 0 Q)

/-- The decay of a row. -/
def AR (P : Par) (x : Fin 4096 → EReal) (Q : Fin 4096) : EReal := aa (P.lam (ix2 0 Q)) (ZR P.wa P.ba x Q)
/-- The addend of a row. -/
def UR (P : Par) (x : Fin 4096 → EReal) (Q : Fin 4096) : EReal := uu (AR P x Q) (ZR P.wx P.bx x Q) (x Q)

/-- The convolved row `r` of a block, from the block and the eight rows before it. -/
def XR (P : Par) (E : Vec Ideal S264x4096 .f32) (r : Fin 256) : Fin 4096 → EReal :=
  CVR P fun k Q => E (ix2 (⟨5 + k.val + r.val, by omega⟩ : Fin 264) Q)

/-- The carried row after `n` rows of the block. -/
def HG (P : Par) (E : Vec Ideal S264x4096 .f32) (h : EReal) (Q : Fin 4096) (n : ℕ) : EReal :=
  hs (fun n => AR P (XR P E ⟨n % 256, Nat.mod_lt _ (by decide)⟩) Q) (fun n => UR P (XR P E ⟨n % 256, Nat.mod_lt _ (by decide)⟩) Q) h n

/-- The output block. -/
def OG (P : Par) (E : Vec Ideal S264x4096 .f32) (h : Fin 4096 → EReal) (g : Vec Ideal S256x4096 .f32) : Vec Ideal S256x4096 .bf16 :=
  fun y => (HG P E (h (y 1)) (y 1) ((y 0).val + 1) * gl (g y) : EReal)

/-- The carried row's buffer, after the block. -/
def RG (P : Par) (E : Vec Ideal S264x4096 .f32) (h : Fin 4096 → EReal) : Vec Ideal S8x4096 .f32 :=
  fun y => (HG P E (h (y 1)) (y 1) 256 : EReal)

theorem read_ld {s : Shape} {e : EltTy} {arg : Memref sig .tc .vmem s e} (harg : arg.IsWhole) (x : Vec Ideal s e)
    (off size : Fin s.rank → ℕ) (inb : ∀ a, off a + size a ≤ s.size a) (y : (Rect.unit off size inb).shape.Idx) (j : s.Idx)
    (hj : ∀ a, (j a : ℕ) = off a + y a) :
    View.readAt (Elt Ideal) arg.view (Rect.unit off size inb).toLoadRect (harg.unread x) y = x j := by
  rw [View.readAt_apply, harg.read_unread]
  exact View.ld_unit_apply_of x off size inb y j hj

theorem cov_ld {s : Shape} {e : EltTy} {arg : Memref sig .tc .vmem s e} (L : List (View.Piece (Elt Ideal) s e))
    (off size : Fin s.rank → ℕ) (inb : ∀ a, off a + size a ≤ s.size a) (y : (Rect.unit off size inb).shape.Idx) (j : s.Idx)
    (hj : ∀ a, (j a : ℕ) = off a + y a) :
    arg.view.readCov L (Rect.unit off size inb).toLoadRect y = View.canon L j := by
  rw [View.readCov_eq_canon']
  exact View.ld_unit_apply_of (View.canon L) off size inb y j hj

theorem inb1 {n : ℕ} (k o : ℕ) (hk : k < n) (ho : o + 512 ≤ 4096) (a : Fin 2) :
    (![k, o] : Fin 2 → ℕ) a + S1x512.size a ≤ (⟨2, ![n, 4096]⟩ : Shape).size a := by
  fin_cases a
  · exact hk
  · exact ho
theorem inb256 {n : ℕ} (k o : ℕ) (hk : k + 256 ≤ n) (ho : o + 512 ≤ 4096) (a : Fin 2) :
    (![k, o] : Fin 2 → ℕ) a + S256x512.size a ≤ (⟨2, ![n, 4096]⟩ : Shape).size a := by
  fin_cases a
  · exact hk
  · exact ho
theorem inbW (g : ℕ) (hg : g < 16) (a : Fin 3) : (![g, 0, 0] : Fin 3 → ℕ) a + S1x256x256.size a ≤ S16x256x256.size a := by
  fin_cases a
  · exact hg
  · exact Nat.le_refl 256
  · exact Nat.le_refl 256
theorem inbS (a : Fin 2) : (![0, 0] : Fin 2 → ℕ) a + S256x512.size a ≤ S256x512.size a := by
  fin_cases a
  · exact Nat.le_refl 256
  · exact Nat.le_refl 512

/-- Column `q` of the chunk from `o`, as a column of the block. -/
abbrev cI (o : ℕ) (ho : o + 512 ≤ 4096) (q : Fin 512) : Fin 4096 := ⟨o + q.val, Nat.lt_of_lt_of_le (Nat.add_lt_add_left q.isLt o) ho⟩

section chunk

variable {arg4 : Memref sig .tc .vmem S4x4096 .f32} (harg4 : arg4.IsWhole) {arg5 : Memref sig .tc .vmem S1x4096 .f32} (harg5 : arg5.IsWhole)
  {arg6 : Memref sig .tc .vmem S16x256x256 .bf16} (harg6 : arg6.IsWhole) {arg7 : Memref sig .tc .vmem S1x4096 .f32} (harg7 : arg7.IsWhole)
  {arg8 : Memref sig .tc .vmem S16x256x256 .bf16} (harg8 : arg8.IsWhole) {arg9 : Memref sig .tc .vmem S1x4096 .f32} (harg9 : arg9.IsWhole)
  {arg10 : Memref sig .tc .vmem S1x4096 .f32} (harg10 : arg10.IsWhole) (arg12 : Memref sig .tc .vmem S264x4096 .f32)
  (P : Par) (L0 : List (View.Piece (Elt Ideal) S264x4096 .f32)) (o g0 g1 : ℕ) (ho : o + 512 ≤ 4096) (h0 : 256 * g0 = o) (h1 : g1 = g0 + 1)

/-- A row of four, loaded at a chunk's columns. -/
abbrev ldw (k : ℕ) (hk : k < 4) : Vec Ideal S1x512 .f32 :=
  View.readAt (Elt Ideal) arg4.view (Rect.unit (s := S4x4096) ![k, o] S1x512.size (inb1 k o hk ho)).toLoadRect (harg4.unread P.cw)
/-- A row vector, loaded at a chunk's columns. -/
abbrev ldr {arg : Memref sig .tc .vmem S1x4096 .f32} (harg : arg.IsWhole) (x : Vec Ideal S1x4096 .f32) : Vec Ideal S1x512 .f32 :=
  View.readAt (Elt Ideal) arg.view (Rect.unit (s := S1x4096) ![0, o] S1x512.size (inb1 0 o (by decide) ho)).toLoadRect (harg.unread x)
/-- Two hundred and fifty-six rows of the extended block from `k`, loaded at a chunk's columns. -/
abbrev lde (k : ℕ) (hk : k + 256 ≤ 264) : Vec Ideal S256x512 .f32 :=
  arg12.view.readCov L0 (Rect.unit (s := S264x4096) ![k, o] S256x512.size (inb256 k o hk ho)).toLoadRect
/-- One head's weights. -/
abbrev ldW {arg : Memref sig .tc .vmem S16x256x256 .bf16} (harg : arg.IsWhole) (x : Vec Ideal S16x256x256 .bf16) (g : ℕ) (hg : g < 16) :
    Vec Ideal S1x256x256 .bf16 :=
  View.readAt (Elt Ideal) arg.view (Rect.unit (s := S16x256x256) ![g, 0, 0] S1x256x256.size (inbW g hg)).toLoadRect (harg.unread x)

/-- The first three taps, -/
def x3K : Vec Ideal S256x512 .f32 :=
  k0_pay5 (ldr o ho harg5 P.cb) (ldw harg4 P o ho 0 (by decide)) (lde arg12 L0 o ho 5 (by decide)) (ldw harg4 P o ho 1 (by decide))
    (lde arg12 L0 o ho 6 (by decide)) (ldw harg4 P o ho 2 (by decide)) (lde arg12 L0 o ho 7 (by decide))
/-- the convolution, -/
def xK : Vec Ideal S256x512 .f32 :=
  k0_pay6 (x3K harg4 harg5 arg12 P L0 o ho) (ldw harg4 P o ho 3 (by decide)) (lde arg12 L0 o ho 8 (by decide))
/-- the first gate, -/
def gK (hg0 : g0 < 16) (hg1 : g1 < 16) : Vec Ideal S256x512 .f32 :=
  k0_pay10 (x3K harg4 harg5 arg12 P L0 o ho) (ldw harg4 P o ho 3 (by decide)) (lde arg12 L0 o ho 8 (by decide))
    (ldW harg6 P.wa g0 hg0) (ldW harg6 P.wa g1 hg1) (ldr o ho harg7 P.ba)
/-- the second gate before its logistic function, -/
def zK (hg0 : g0 < 16) (hg1 : g1 < 16) : Vec Ideal S256x512 .f32 :=
  k0_pay11 (x3K harg4 harg5 arg12 P L0 o ho) (ldw harg4 P o ho 3 (by decide)) (lde arg12 L0 o ho 8 (by decide))
    (ldW harg8 P.wx g0 hg0) (ldW harg8 P.wx g1 hg1) (ldr o ho harg9 P.bx)
/-- the decay, -/
def aK (hg0 : g0 < 16) (hg1 : g1 < 16) : Vec Ideal S256x512 .f32 :=
  k0_pay13 (gK harg4 harg5 harg6 harg7 arg12 P L0 o g0 g1 ho hg0 hg1) (ldr o ho harg10 P.lam)
/-- and the addend of a chunk. -/
def uK (hg0 : g0 < 16) (hg1 : g1 < 16) : Vec Ideal S256x512 .f32 :=
  k0_pay14 (xK harg4 harg5 arg12 P L0 o ho) (gK harg4 harg5 harg6 harg7 arg12 P L0 o g0 g1 ho hg0 hg1)
    (zK harg4 harg5 harg8 harg9 arg12 P L0 o g0 g1 ho hg0 hg1) (ldr o ho harg10 P.lam)

theorem ldr_apply {arg : Memref sig .tc .vmem S1x4096 .f32} (harg : arg.IsWhole) (x : Vec Ideal S1x4096 .f32) (q : Fin 512) :
    ldr o ho harg x (ix2 0 q) = x (ix2 0 (cI o ho q)) :=
  read_ld harg x _ _ _ (ix2 0 q) _ fun a => by fin_cases a <;> rfl

theorem xK_apply (r : Fin 256) (q : Fin 512) :
    (xK harg4 harg5 arg12 P L0 o ho (ix2 r q) : EReal) = XR P (View.canon L0) r (cI o ho q) := by
  have hw : ∀ (k : ℕ) (hk : k < 4), ldw harg4 P o ho k hk (ix2 0 q) = P.cw (ix2 (⟨k, hk⟩ : Fin 4) (cI o ho q)) :=
    fun k hk => read_ld harg4 P.cw _ _ _ (ix2 0 q) _ fun a => by fin_cases a <;> rfl
  have he : ∀ (k : ℕ) (hk : k + 256 ≤ 264), lde arg12 L0 o ho k hk (ix2 r q)
      = View.canon L0 (ix2 (⟨k + r.val, by omega⟩ : Fin 264) (cI o ho q)) :=
    fun k hk => cov_ld L0 _ _ _ (ix2 r q) _ fun a => by fin_cases a <;> rfl
  unfold xK x3K
  rw [pay6_apply, ldr_apply, hw, hw, hw, hw, he, he, he, he]
  rfl

include h0 h1 in
theorem zc_apply (W : Vec Ideal S16x256x256 .bf16) {arg : Memref sig .tc .vmem S16x256x256 .bf16} (harg : arg.IsWhole)
    (hg0 : g0 < 16) (hg1 : g1 < 16) {x : Vec Ideal S256x512 .f32} {X : Fin 256 → Fin 4096 → EReal}
    (hx : ∀ (r : Fin 256) (q : Fin 512), (x (ix2 r q) : EReal) = X r (cI o ho q))
    (b : Vec Ideal S1x4096 .f32) (r : Fin 256) (q : Fin 512) :
    zc x (ldW harg W g0 hg0) (ldW harg W g1 hg1) r q + b (ix2 0 (cI o ho q)) = ZR W b (X r) (cI o ho q) := by
  have hW : ∀ (g : ℕ) (hg : g < 16) (k p : Fin 256), ldW harg W g hg (ix3 (0 : Fin 1) k p) = W (ix3 (⟨g, hg⟩ : Fin 16) k p) :=
    fun g hg k p => read_ld harg W _ _ _ (ix3 (0 : Fin 1) k p) _ fun a => by
      fin_cases a
      · rfl
      · exact (Nat.zero_add _).symm
      · exact (Nat.zero_add _).symm
  subst h0 h1
  unfold zc ZR
  refine congrArg (· + _) ?_
  by_cases h : q.val < 256
  · rw [dif_pos h]
    refine Finset.sum_congr rfl fun k _ => ?_
    rw [hx, hW]
    refine congrArg₂ (fun a b : EReal => a * b) (congrArg (X r) (Fin.ext ?_)) (congrArg W ?_)
    · show 256 * g0 + k.val = 256 * ((256 * g0 + q.val) / 256) + k.val
      omega
    · congr 1
      · exact Fin.ext (by show g0 = (256 * g0 + q.val) / 256; omega)
      · exact Fin.ext (by show q.val = (256 * g0 + q.val) % 256; omega)
  · rw [dif_neg h]
    refine Finset.sum_congr rfl fun k _ => ?_
    rw [hx, hW]
    refine congrArg₂ (fun a b : EReal => a * b) (congrArg (X r) (Fin.ext ?_)) (congrArg W ?_)
    · show 256 * g0 + (256 + k.val) = 256 * ((256 * g0 + q.val) / 256) + k.val
      omega
    · congr 1
      · exact Fin.ext (by show g0 + 1 = (256 * g0 + q.val) / 256; omega)
      · exact Fin.ext (by show q.val - 256 = (256 * g0 + q.val) % 256; omega)

include h0 h1 in
theorem aK_apply (hg0 : g0 < 16) (hg1 : g1 < 16) (r : Fin 256) (q : Fin 512) :
    (aK harg4 harg5 harg6 harg7 harg10 arg12 P L0 o g0 g1 ho hg0 hg1 (ix2 r q) : EReal)
      = AR P (XR P (View.canon L0) r) (cI o ho q) := by
  unfold aK
  rw [pay13_apply, ldr_apply]
  unfold gK
  rw [pay10_apply, ldr_apply]
  unfold AR aa
  rw [← zc_apply o g0 g1 ho h0 h1 P.wa harg6 hg0 hg1 (xK_apply harg4 harg5 arg12 P L0 o ho) P.ba r q]
  rfl

include h0 h1 in
theorem uK_apply (hg0 : g0 < 16) (hg1 : g1 < 16) (r : Fin 256) (q : Fin 512) :
    (uK harg4 harg5 harg6 harg7 harg8 harg9 harg10 arg12 P L0 o g0 g1 ho hg0 hg1 (ix2 r q) : EReal)
      = UR P (XR P (View.canon L0) r) (cI o ho q) := by
  unfold uK
  rw [pay14_apply]
  have ea := aK_apply harg4 harg5 harg6 harg7 harg10 arg12 P L0 o g0 g1 ho h0 h1 hg0 hg1 r q
  unfold aK at ea
  rw [ea, xK_apply]
  unfold zK
  rw [pay11_apply, ldr_apply]
  unfold UR
  rw [← zc_apply o g0 g1 ho h0 h1 P.wx harg8 hg0 hg1 (xK_apply harg4 harg5 arg12 P L0 o ho) P.bx r q]
  rfl

include h0 h1 in
theorem aK_of (hg0 : g0 < 16) (hg1 : g1 < 16) {a : Vec Ideal S256x512 .f32}
    (ea : a = aK harg4 harg5 harg6 harg7 harg10 arg12 P L0 o g0 g1 ho hg0 hg1) (r : Fin 256) (q : Fin 512) :
    (a (ix2 r q) : EReal) = AR P (XR P (View.canon L0) r) (cI o ho q) :=
  ea ▸ aK_apply harg4 harg5 harg6 harg7 harg10 arg12 P L0 o g0 g1 ho h0 h1 hg0 hg1 r q

include h0 h1 in
theorem uK_of (hg0 : g0 < 16) (hg1 : g1 < 16) {u : Vec Ideal S256x512 .f32}
    (eu : u = uK harg4 harg5 harg6 harg7 harg8 harg9 harg10 arg12 P L0 o g0 g1 ho hg0 hg1) (r : Fin 256) (q : Fin 512) :
    (u (ix2 r q) : EReal) = UR P (XR P (View.canon L0) r) (cI o ho q) :=
  eu ▸ uK_apply harg4 harg5 harg6 harg7 harg8 harg9 harg10 arg12 P L0 o g0 g1 ho h0 h1 hg0 hg1 r q

end chunk

theorem read_top {arg : Memref sig .tc .vmem S256x512 .f32} (inb : ∀ a, (![0, 0] : Fin 2 → ℕ) a + S256x512.size a ≤ S256x512.size a)
    (a : Vec Ideal S256x512 .f32) (L : List (View.Piece (Elt Ideal) S256x512 .f32)) :
    arg.view.read (Elt Ideal) (arg.view.writes (Elt Ideal) arg.view.junk (⟨Rect.unit ![0, 0] S256x512.size inb, a⟩ :: L)) = a := by
  rw [View.read_writes_junk_eq_canon]
  exact View.canon_cons_unit_zero (funext fun a => by fin_cases a <;> rfl) inb a L

/-- What a chunk's loop leaves in the scratch block and yields, over the block's own functions. -/
theorem Loop.fin {arg13 arg14 : Memref sig .tc .vmem S256x512 .f32} {X : BufTy.Contents (Elt Ideal) arg13.view.ty}
    {G : BufTy.Contents (Elt Ideal) arg14.view.ty} {init : Vec Ideal S1x512 .f32}
    {st : ℕ → (Vec Ideal S1x512 .f32) × List (View.Piece (Elt Ideal) S256x512 .f32)} (L : Loop arg13 arg14 X G init st)
    {P : Par} {E : Vec Ideal S264x4096 .f32} {h : Fin 4096 → EReal} {o : ℕ} (ho : o + 512 ≤ 4096)
    {a u : Vec Ideal S256x512 .f32} (L1 L2 : List (View.Piece (Elt Ideal) S256x512 .f32))
    (inb : ∀ a, (![0, 0] : Fin 2 → ℕ) a + S256x512.size a ≤ S256x512.size a) {n : ℕ} (hn : n = 32)
    (hX : X = arg13.view.writes (Elt Ideal) arg13.view.junk (⟨Rect.unit ![0, 0] S256x512.size inb, a⟩ :: L1))
    (hG : G = arg14.view.writes (Elt Ideal) arg14.view.junk (⟨Rect.unit ![0, 0] S256x512.size inb, u⟩ :: L2))
    (ha : ∀ (r : Fin 256) (q : Fin 512), (a (ix2 r q) : EReal) = AR P (XR P E r) (cI o ho q))
    (hu : ∀ (r : Fin 256) (q : Fin 512), (u (ix2 r q) : EReal) = UR P (XR P E r) (cI o ho q))
    (hi : ∀ q : Fin 512, (init (ix2 0 q) : EReal) = h (cI o ho q)) :
    (∀ q : Fin 512, ((st n).1 (ix2 0 q) : EReal) = HG P E (h (cI o ho q)) (cI o ho q) 256)
    ∧ (∀ (r : Fin 256) (q : Fin 512), (arg14.view.readCov ((st n).2 ++ (⟨Rect.unit ![0, 0] S256x512.size inb, u⟩ :: L2))
        (Rect.unit ![0, 0] S256x512.size inb).toLoadRect (ix2 r q) : EReal)
          = HG P E (h (cI o ho q)) (cI o ho q) (r.val + 1)) := by
  subst hn
  have hf : ∀ y, Fac (a y) := fun y => by
    rw [eq_ix2 y]
    exact (ha (y 0) (y 1)).symm ▸ aa_fac _ _
  have hcol : ∀ q : Fin 512, col a q = (fun n => AR P (XR P E ⟨n % 256, Nat.mod_lt _ (by decide)⟩) (cI o ho q)) :=
    fun q => funext fun n => ha _ q
  have hcou : ∀ q : Fin 512, col u q = (fun n => UR P (XR P E ⟨n % 256, Nat.mod_lt _ (by decide)⟩) (cI o ho q)) :=
    fun q => funext fun n => hu _ q
  obtain ⟨i1, i2⟩ := L.inv a u (hX ▸ read_top inb a L1) (hG ▸ read_top inb u L2) hf 32 le_rfl
  refine ⟨fun q => ?_, fun r q => ?_⟩
  · rw [i1 q, hcol, hcou, hi]
    rfl
  · have e : arg14.view.readCov ((st 32).2 ++ (⟨Rect.unit ![0, 0] S256x512.size inb, u⟩ :: L2))
        (Rect.unit ![0, 0] S256x512.size inb).toLoadRect (ix2 r q)
        = arg14.view.read (Elt Ideal) (arg14.view.writes (Elt Ideal) G (st 32).2) (ix2 r q) := by
      rw [hG, ← View.writes_append]
      show arg14.view.read (Elt Ideal) _ ((Rect.unit (s := S256x512) ![0, 0] S256x512.size inb).toLoadRect.idx (ix2 r q)) = _
      congr 1
      exact funext fun a => Fin.ext ((Rect.idx_unit_val _ _ inb (ix2 r q) a).trans (by
        fin_cases a
        · exact Nat.zero_add _
        · exact Nat.zero_add _))
    rw [e, i2, if_pos (by omega), hcol, hcou, hi]
    rfl

/-- The row a chunk's loop yields. -/
theorem Loop.row {arg13 arg14 : Memref sig .tc .vmem S256x512 .f32} {X : BufTy.Contents (Elt Ideal) arg13.view.ty}
    {G : BufTy.Contents (Elt Ideal) arg14.view.ty} {init : Vec Ideal S1x512 .f32}
    {st : ℕ → (Vec Ideal S1x512 .f32) × List (View.Piece (Elt Ideal) S256x512 .f32)} (L : Loop arg13 arg14 X G init st)
    {P : Par} {E : Vec Ideal S264x4096 .f32} {h : Fin 4096 → EReal} {o : ℕ} (ho : o + 512 ≤ 4096)
    {a u : Vec Ideal S256x512 .f32} (L1 L2 : List (View.Piece (Elt Ideal) S256x512 .f32))
    (inb : ∀ a, (![0, 0] : Fin 2 → ℕ) a + S256x512.size a ≤ S256x512.size a) {n : ℕ} (hn : n = 32)
    (hX : X = arg13.view.writes (Elt Ideal) arg13.view.junk (⟨Rect.unit ![0, 0] S256x512.size inb, a⟩ :: L1))
    (hG : G = arg14.view.writes (Elt Ideal) arg14.view.junk (⟨Rect.unit ![0, 0] S256x512.size inb, u⟩ :: L2))
    (ha : ∀ (r : Fin 256) (q : Fin 512), (a (ix2 r q) : EReal) = AR P (XR P E r) (cI o ho q))
    (hu : ∀ (r : Fin 256) (q : Fin 512), (u (ix2 r q) : EReal) = UR P (XR P E r) (cI o ho q))
    (hi : ∀ q : Fin 512, (init (ix2 0 q) : EReal) = h (cI o ho q)) (q : Fin 512) :
    ((st n).1 (ix2 0 q) : EReal) = HG P E (h (cI o ho q)) (cI o ho q) 256 :=
  (L.fin ho L1 L2 inb hn hX hG ha hu hi).1 q

/-- What a chunk's loop leaves in the scratch block. -/
theorem Loop.blk {arg13 arg14 : Memref sig .tc .vmem S256x512 .f32} {X : BufTy.Contents (Elt Ideal) arg13.view.ty}
    {G : BufTy.Contents (Elt Ideal) arg14.view.ty} {init : Vec Ideal S1x512 .f32}
    {st : ℕ → (Vec Ideal S1x512 .f32) × List (View.Piece (Elt Ideal) S256x512 .f32)} (L : Loop arg13 arg14 X G init st)
    {P : Par} {E : Vec Ideal S264x4096 .f32} {h : Fin 4096 → EReal} {o : ℕ} (ho : o + 512 ≤ 4096)
    {a u : Vec Ideal S256x512 .f32} (L1 L2 : List (View.Piece (Elt Ideal) S256x512 .f32))
    (inb : ∀ a, (![0, 0] : Fin 2 → ℕ) a + S256x512.size a ≤ S256x512.size a) {n : ℕ} (hn : n = 32)
    (hX : X = arg13.view.writes (Elt Ideal) arg13.view.junk (⟨Rect.unit ![0, 0] S256x512.size inb, a⟩ :: L1))
    (hG : G = arg14.view.writes (Elt Ideal) arg14.view.junk (⟨Rect.unit ![0, 0] S256x512.size inb, u⟩ :: L2))
    (ha : ∀ (r : Fin 256) (q : Fin 512), (a (ix2 r q) : EReal) = AR P (XR P E r) (cI o ho q))
    (hu : ∀ (r : Fin 256) (q : Fin 512), (u (ix2 r q) : EReal) = UR P (XR P E r) (cI o ho q))
    (hi : ∀ q : Fin 512, (init (ix2 0 q) : EReal) = h (cI o ho q)) (r : Fin 256) (q : Fin 512) :
    (arg14.view.readCov ((st n).2 ++ (⟨Rect.unit ![0, 0] S256x512.size inb, u⟩ :: L2))
        (Rect.unit ![0, 0] S256x512.size inb).toLoadRect (ix2 r q) : EReal)
          = HG P E (h (cI o ho q)) (cI o ho q) (r.val + 1) :=
  (L.fin ho L1 L2 inb hn hX hG ha hu hi).2 r q

/-- A chunk's piece of the output block. -/
theorem out_piece {P : Par} {E : Vec Ideal S264x4096 .f32} {h : Fin 4096 → EReal} {g : Vec Ideal S256x4096 .f32} {o : ℕ} (ho : o + 512 ≤ 4096)
    {p : Vec Ideal S256x512 .bf16} {v e : Vec Ideal S256x512 .f32} {arg3 : Memref sig .tc .vmem S256x4096 .f32} (harg3 : arg3.IsWhole)
    (inb : ∀ a : Fin 2, (![0, o] : Fin 2 → ℕ) a + S256x512.size a ≤ S256x4096.size a)
    (hp : p = k0_pay19 (F := Ideal) v e)
    (he : e = View.readAt (Elt Ideal) arg3.view (Rect.unit (s := S256x4096) ![0, o] S256x512.size inb).toLoadRect (harg3.unread g))
    (hv : ∀ (r : Fin 256) (q : Fin 512), (v (ix2 r q) : EReal) = HG P E (h (cI o ho q)) (cI o ho q) (r.val + 1))
    (x : S256x512.Idx) : p x = OG P E h g ((Rect.unit (s := S256x4096) ![0, o] S256x512.size inb).emb x) := by
  obtain ⟨r, q, rfl⟩ : ∃ (r : Fin 256) (q : Fin 512), x = ix2 r q := ⟨x 0, x 1, eq_ix2 x⟩
  have em : (Rect.unit (s := S256x4096) ![0, o] S256x512.size inb).emb (ix2 r q) = (ix2 r (cI o ho q) : S256x4096.Idx) :=
    Rect.emb_eq_of_coords _ _ _ fun a => by fin_cases a <;> simp [ix2]
  rw [em, hp, pay19_apply, hv, he, read_ld harg3 g _ _ inb (ix2 r q) (ix2 r (cI o ho q)) fun a => by
    fin_cases a
    · exact (Nat.zero_add _).symm
    · rfl]
  rfl

/-- A chunk's piece of the carried row. -/
theorem row_piece {P : Par} {E : Vec Ideal S264x4096 .f32} {h : Fin 4096 → EReal} {o : ℕ} (ho : o + 512 ≤ 4096)
    {p v : Vec Ideal S1x512 .f32} (inb : ∀ a, (![0, o] : Fin 2 → ℕ) a + S1x512.size a ≤ S8x4096.size a)
    (hp : p = k0_pay18 (F := Ideal) v)
    (hv : ∀ q : Fin 512, (v (ix2 0 q) : EReal) = HG P E (h (cI o ho q)) (cI o ho q) 256)
    (x : S1x512.Idx) : p x = RG P E h ((Rect.unit (s := S8x4096) ![0, o] S1x512.size inb).emb x) := by
  obtain ⟨r, q, rfl⟩ : ∃ (r : Fin 1) (q : Fin 512), x = ix2 r q := ⟨x 0, x 1, eq_ix2 x⟩
  obtain rfl : r = 0 := Subsingleton.elim _ _
  have em : (Rect.unit (s := S8x4096) ![0, o] S1x512.size inb).emb (ix2 0 q) = (ix2 (0 : Fin 8) (cI o ho q) : S8x4096.Idx) :=
    Rect.emb_eq_of_coords _ _ _ fun a => by fin_cases a <;> simp [ix2]
  rw [em, hp]
  unfold k0_pay18
  rw [shapeCast_self]
  exact hv q

/-- A carried row after a fill with zeros, -/
theorem fill0 (Q : Fin 4096) (inb0 : ∀ a, (![0, 0] : Fin 2 → ℕ) a + S8x4096.size a ≤ S8x4096.size a) :
    (View.canon (Val := Elt Ideal) (e := .f32) [⟨Rect.unit (s := S8x4096) ![0, 0] S8x4096.size inb0, k0_pay2 (F := Ideal)⟩] (ix2 0 Q) : EReal) = 0 := by
  refine (congrFun (View.canon_cons_unit_zero (funext fun a => by fin_cases a <;> rfl) inb0 _ _) (ix2 0 Q)).trans ?_
  unfold k0_pay2
  rw [shapeCast_self]
  exact Ideal.ofBits_zero_f32

/-- and after pieces that leave a column alone. -/
theorem skip0 {o : ℕ} (inb : ∀ a : Fin 2, (![0, o] : Fin 2 → ℕ) a + S1x512.size a ≤ S8x4096.size a) {w : Vec Ideal S1x512 .f32}
    {L : List (View.Piece (Elt Ideal) S8x4096 .f32)} {Q : Fin 4096} (h : o + 512 ≤ Q.val) (hL : (View.canon L (ix2 0 Q) : EReal) = 0) :
    (View.canon (⟨Rect.unit (s := S8x4096) ![0, o] S1x512.size inb, w⟩ :: L) (ix2 0 Q) : EReal) = 0 := by
  rw [View.canon_cons_of_not_mem, hL]
  intro hm
  rw [Rect.mem_set_unit] at hm
  exact absurd (hm 1).2 (Nat.not_lt.2 h)

end Cert.KernelIdeal.Lru
-- ==== Proof.LruGrid.lean ====
/- The recurrence over a whole sequence, and a block of it as the recurrence over the block's rows. -/
module

public import proofs.«01_k».proof.Proof.LruBlock

@[expose] public section

set_option maxRecDepth 8192

noncomputable section

namespace Cert.KernelIdeal.Lru

open Cert.KernelIdeal Cert.KernelIdeal.Gen Idealize.ShloMosaic Idealize.ShloMosaic.TcCoe Idealize.SL.Sem
open Idealize.ShloMosaic.ValueIdx

/-- Row `s - 3` of sequence `b`, columns of the recurrent branch; zeros before the sequence. -/
def tap (pr : Vec Ideal S16384x20480 .f32) (b : Fin 2) (s : ℕ) (Q : Fin 4096) : EReal :=
  if h : 3 ≤ s ∧ s < 8195 then pr (ix2 (⟨8192 * b.val + (s - 3), by omega⟩ : Fin 16384) (⟨Q.val, by omega⟩ : Fin 20480)) else 0

/-- The convolved row `n` of sequence `b`. -/
def XS (P : Par) (pr : Vec Ideal S16384x20480 .f32) (b : Fin 2) (n : ℕ) : Fin 4096 → EReal :=
  CVR P fun k Q => tap pr b (n + k.val) Q

/-- The recurrence's state after `n` rows of sequence `b`. -/
def HS (P : Par) (pr : Vec Ideal S16384x20480 .f32) (b : Fin 2) (Q : Fin 4096) (n : ℕ) : EReal :=
  hs (fun n => AR P (XS P pr b n) Q) (fun n => UR P (XS P pr b n) Q) 0 n

/-- The whole output. -/
def OUT (P : Par) (pr : Vec Ideal S16384x20480 .f32) : Vec Ideal S16384x4096 .bf16 := fun i =>
  (HS P pr (⟨(i 0).val / 8192, by have := (i 0).isLt; exact Nat.div_lt_of_lt_mul this⟩ : Fin 2) (i 1) ((i 0).val % 8192 + 1)
    * gl (pr (ix2 (i 0) (⟨4096 + (i 1).val, by have := (i 1).isLt; have h : (i 1).val < 4096 := this; omega⟩ : Fin 20480))) : EReal)

/-- The extended block `j` of sequence `b` holds the block's rows and the three before them. -/
def ExtOf (pr : Vec Ideal S16384x20480 .f32) (b : Fin 2) (j : ℕ) (E : Vec Ideal S264x4096 .f32) : Prop :=
  ∀ (i : Fin 264) (Q : Fin 4096), 5 ≤ i.val → (E (ix2 i Q) : EReal) = tap pr b (256 * j + i.val - 5) Q

theorem XR_eq {P : Par} {pr : Vec Ideal S16384x20480 .f32} {b : Fin 2} {j : ℕ} {E : Vec Ideal S264x4096 .f32} (hE : ExtOf pr b j E)
    (r : Fin 256) : XR P E r = XS P pr b (256 * j + r.val) := by
  unfold XR XS
  congr 1
  funext k Q
  rw [hE _ _ (by simp only; omega)]
  congr 1
  simp only
  omega

theorem HG_eq {P : Par} {pr : Vec Ideal S16384x20480 .f32} {b : Fin 2} {j : ℕ} {E : Vec Ideal S264x4096 .f32} (hE : ExtOf pr b j E)
    (Q : Fin 4096) : ∀ n ≤ 256, HG P E (HS P pr b Q (256 * j)) Q n = HS P pr b Q (256 * j + n)
  | 0, _ => rfl
  | n + 1, hn => by
    have ih := HG_eq hE Q n (by omega) (P := P)
    have e : XR P E ⟨n % 256, Nat.mod_lt _ (by decide)⟩ = XS P pr b (256 * j + n) := by
      rw [XR_eq hE]
      congr 1
      simp only
      omega
    show AR P (XR P E ⟨n % 256, Nat.mod_lt _ (by decide)⟩) Q * HG P E (HS P pr b Q (256 * j)) Q n
      + UR P (XR P E ⟨n % 256, Nat.mod_lt _ (by decide)⟩) Q = _
    rw [ih, e]
    rfl

/-- A block stored below eight rows, read in the block -/
theorem ext_hi (w : Vec Ideal S256x4096 .f32) (L : List (View.Piece (Elt Ideal) S264x4096 .f32))
    (inb : ∀ a : Fin 2, (![8, 0] : Fin 2 → ℕ) a + S256x4096.size a ≤ S264x4096.size a) (i : Fin 264) (Q : Fin 4096) (r : Fin 256) (h : i.val = 8 + r.val) :
    (View.canon (Val := Elt Ideal) (e := .f32) (⟨Rect.unit (s := S264x4096) ![8, 0] S256x4096.size inb, w⟩ :: L) (ix2 i Q) : EReal) = w (ix2 r Q) := by
  have em : (Rect.unit (s := S264x4096) ![8, 0] S256x4096.size inb).emb (ix2 r Q) = (ix2 i Q : S264x4096.Idx) :=
    Rect.emb_eq_of_coords _ _ _ fun a => by fin_cases a <;> simp [ix2, h]
  rw [← em]
  exact View.canon_cons_emb _ _ _ _

/-- and above it. -/
theorem ext_lo (w : Vec Ideal S256x4096 .f32) (w' : Vec Ideal S8x4096 .f32)
    (inb : ∀ a : Fin 2, (![8, 0] : Fin 2 → ℕ) a + S256x4096.size a ≤ S264x4096.size a)
    (inb' : ∀ a : Fin 2, (![0, 0] : Fin 2 → ℕ) a + S8x4096.size a ≤ S264x4096.size a) (i : Fin 264) (Q : Fin 4096) (r : Fin 8) (h : i.val = r.val) :
    (View.canon (Val := Elt Ideal) (e := .f32) [⟨Rect.unit (s := S264x4096) ![8, 0] S256x4096.size inb, w⟩,
      ⟨Rect.unit (s := S264x4096) ![0, 0] S8x4096.size inb', w'⟩] (ix2 i Q) : EReal) = w' (ix2 r Q) := by
  have em : (Rect.unit (s := S264x4096) ![0, 0] S8x4096.size inb').emb (ix2 r Q) = (ix2 i Q : S264x4096.Idx) :=
    Rect.emb_eq_of_coords _ _ _ fun a => by fin_cases a <;> simp [ix2, h]
  rw [View.canon_cons_of_not_mem]
  · rw [← em]
    exact View.canon_cons_emb _ _ _ _
  · intro hm
    rw [Rect.mem_set_unit] at hm
    have := (hm 0).1
    have hr := r.isLt
    rw [← h] at hr
    exact absurd (Nat.lt_of_le_of_lt this hr) (Nat.lt_irrefl 8)

end Cert.KernelIdeal.Lru

end
-- ==== Proof.LruIdealRunA.lean ====
/- The recurrent kernel body, run once from its inputs where a sequence begins. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition, from the grid coordinates: the sequence's first block. -/
abbrev cond0_0 (i : grid0.Coords) : Prop := (Scalar.cmpi .ne (Scalar.extui (Scalar.cmpi .eq (BitVec.ofNat 32 (i 1).val) 0#32)) 0#32) = 1#1
/-- The second branch's condition: a later block of a sequence. -/
abbrev cond0_1 (i : grid0.Coords) : Prop := (Scalar.cmpi .ne (Scalar.extui (Scalar.cmpi .sgt (BitVec.ofNat 32 (i 1).val) 0#32)) 0#32) = 1#1

set_option maxHeartbeats 16000000 in
/-- The whole body's run in case A: the pieces its stores leave in the output block, in the extended block and in
    the carried row, with the proof that the body runs from the inputs at their contents to those pieces written. -/
noncomputable def runA (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole) (hc0 : cond0_0 i) (hc1 : ¬cond0_1 i)
    (x0 : Vec F S256x4096 .f32) (x1 : Vec F S256x4096 .f32) (x2 : Vec F S4x4096 .f32) (x3 : Vec F S1x4096 .f32) (x4 : Vec F S16x256x256 .bf16) (x5 : Vec F S1x4096 .f32) (x6 : Vec F S16x256x256 .bf16) (x7 : Vec F S1x4096 .f32) (x8 : Vec F S1x4096 .f32) :
    Σ' (L9 : List (View.Piece (Elt F) S256x4096 .bf16)) (LS0 : List (View.Piece (Elt F) S264x4096 .f32)), { LS3 : List (View.Piece (Elt F) S8x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS3)) -∗ K ⟨⟩))
          ⊢ wp frame (wpE (defs₀ (F := F)) Variants.none c none) E (cc0_lru i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_lru_eq_skeleton]; unfold cc0_lru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.KernelIdeal.Lru

end
-- ==== Proof.LruIdealRunB.lean ====
/- The recurrent kernel body, run once from its inputs at a later block of a sequence. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.LruIdealRunA
@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The whole body's run in case B: the pieces its stores leave in the output block, in the extended block and in
    the carried row, with the proof that the body runs from the inputs at their contents to those pieces written. -/
noncomputable def runB (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole) (hc0 : ¬cond0_0 i) (hc1 : cond0_1 i)
    (x0 : Vec F S256x4096 .f32) (x1 : Vec F S256x4096 .f32) (x2 : Vec F S4x4096 .f32) (x3 : Vec F S1x4096 .f32) (x4 : Vec F S16x256x256 .bf16) (x5 : Vec F S1x4096 .f32) (x6 : Vec F S16x256x256 .bf16) (x7 : Vec F S1x4096 .f32) (x8 : Vec F S1x4096 .f32) (xs0 : Vec F S264x4096 .f32) (xs3 : Vec F S8x4096 .f32) :
    Σ' (L9 : List (View.Piece (Elt F) S256x4096 .bf16)) (LS0 : List (View.Piece (Elt F) S264x4096 .f32)), { LS3 : List (View.Piece (Elt F) S8x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ arg15.view.loc (c : Thread nD τ) ↦[arg15.view.set]{fullShare} arg15.view.writes (Elt F) (harg15.unread xs3) LS3) -∗ K ⟨⟩))
          ⊢ wp frame (wpE (defs₀ (F := F)) Variants.none c none) E (cc0_lru i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_lru_eq_skeleton]; unfold cc0_lru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]
    · iexists _, _; isplitr; swap; · iexact HS1
      ipureintro; rfl
    isplitl [HS2]
    · iexists _, _; isplitr; swap; · iexact HS2
      ipureintro; rfl
    iexact HS3

end Cert.KernelIdeal.Lru

end
-- ==== Proof.LruCov.lean ====
/- The carried buffers a block leaves: the pieces of the carried row cover it, and the extended block is the block below eight rows. -/
module

public import proofs.«01_k».proof.Proof.LruGrid
public import proofs.«01_k».proof.Proof.LruIdealRunA
public import proofs.«01_k».proof.Proof.LruIdealRunB

@[expose] public section

set_option maxRecDepth 16384

noncomputable section

namespace Cert.KernelIdeal.Lru

open Cert.KernelIdeal Cert.KernelIdeal.Gen Idealize.ShloMosaic Idealize.ShloMosaic.TcCoe Idealize.SL.Sem
open Idealize.ShloMosaic.ValueIdx

theorem mem_row {o : ℕ} (inb : ∀ a : Fin 2, (![0, o] : Fin 2 → ℕ) a + S1x512.size a ≤ S8x4096.size a) (Q : Fin 4096) (h : o ≤ Q.val)
    (h' : Q.val < o + 512) : (ix2 (0 : Fin 8) Q : S8x4096.Idx) ∈ (Rect.unit (s := S8x4096) ![0, o] S1x512.size inb).set := by
  rw [Rect.mem_set_unit]
  intro a
  fin_cases a
  · exact ⟨Nat.le_refl 0, Nat.one_pos⟩
  · exact ⟨h, h'⟩

/-- The eight pieces cover the carried row. -/
theorem row_cover (Q : Fin 4096) (w8 w7 w6 w5 w4 w3 w2 w1 : Vec Ideal S1x512 .f32) :
    ∃ p ∈ ([⟨Rect.unit (s := S8x4096) ![0, 3584] S1x512.size inb_S8x4096_S1x512_0_3584, w8⟩,
      ⟨Rect.unit (s := S8x4096) ![0, 3072] S1x512.size inb_S8x4096_S1x512_0_3072, w7⟩,
      ⟨Rect.unit (s := S8x4096) ![0, 2560] S1x512.size inb_S8x4096_S1x512_0_2560, w6⟩,
      ⟨Rect.unit (s := S8x4096) ![0, 2048] S1x512.size inb_S8x4096_S1x512_0_2048, w5⟩,
      ⟨Rect.unit (s := S8x4096) ![0, 1536] S1x512.size inb_S8x4096_S1x512_0_1536, w4⟩,
      ⟨Rect.unit (s := S8x4096) ![0, 1024] S1x512.size inb_S8x4096_S1x512_0_1024, w3⟩,
      ⟨Rect.unit (s := S8x4096) ![0, 512] S1x512.size inb_S8x4096_S1x512_0_512, w2⟩,
      ⟨Rect.unit (s := S8x4096) ![0, 0] S1x512.size inb_S8x4096_S1x512_0_0, w1⟩] : List (View.Piece (Elt Ideal) S8x4096 .f32)),
      (ix2 (0 : Fin 8) Q : S8x4096.Idx) ∈ p.1.set := by
  have hQ := Q.isLt
  by_cases h8 : 3584 ≤ Q.val
  · exact ⟨_, .head _, mem_row inb_S8x4096_S1x512_0_3584 Q h8 (by omega)⟩
  by_cases h7 : 3072 ≤ Q.val
  · exact ⟨_, .tail _ (.head _), mem_row inb_S8x4096_S1x512_0_3072 Q h7 (by omega)⟩
  by_cases h6 : 2560 ≤ Q.val
  · exact ⟨_, .tail _ (.tail _ (.head _)), mem_row inb_S8x4096_S1x512_0_2560 Q h6 (by omega)⟩
  by_cases h5 : 2048 ≤ Q.val
  · exact ⟨_, .tail _ (.tail _ (.tail _ (.head _))), mem_row inb_S8x4096_S1x512_0_2048 Q h5 (by omega)⟩
  by_cases h4 : 1536 ≤ Q.val
  · exact ⟨_, .tail _ (.tail _ (.tail _ (.tail _ (.head _)))), mem_row inb_S8x4096_S1x512_0_1536 Q h4 (by omega)⟩
  by_cases h3 : 1024 ≤ Q.val
  · exact ⟨_, .tail _ (.tail _ (.tail _ (.tail _ (.tail _ (.head _))))), mem_row inb_S8x4096_S1x512_0_1024 Q h3 (by omega)⟩
  by_cases h2 : 512 ≤ Q.val
  · exact ⟨_, .tail _ (.tail _ (.tail _ (.tail _ (.tail _ (.tail _ (.head _)))))), mem_row inb_S8x4096_S1x512_0_512 Q h2 (by omega)⟩
  exact ⟨_, .tail _ (.tail _ (.tail _ (.tail _ (.tail _ (.tail _ (.tail _ (.head _))))))), mem_row inb_S8x4096_S1x512_0_0 Q (Nat.zero_le _) (by omega)⟩

section A

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole)
  (hc0 : cond0_0 i) (hc1 : ¬cond0_1 i)
  (x0 : Vec Ideal S256x4096 .f32) (x1 : Vec Ideal S256x4096 .f32) (x2 : Vec Ideal S4x4096 .f32) (x3 : Vec Ideal S1x4096 .f32) (x4 : Vec Ideal S16x256x256 .bf16) (x5 : Vec Ideal S1x4096 .f32) (x6 : Vec Ideal S16x256x256 .bf16) (x7 : Vec Ideal S1x4096 .f32) (x8 : Vec Ideal S1x4096 .f32)

theorem rowA_cover (Q : Fin 4096) : ∃ p ∈ List.take 8 (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1, (ix2 (0 : Fin 8) Q : S8x4096.Idx) ∈ p.1.set :=
  row_cover Q _ _ _ _ _ _ _ _

theorem extA_hi (k : Fin 264) (Q : Fin 4096) (r : Fin 256) (h : k.val = 8 + r.val) :
    (View.canon (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 (ix2 k Q) : EReal) = x0 (ix2 r Q) := by
  refine (ext_hi (k0_pay4 (F := Ideal) (View.readAt (Elt Ideal) arg2.view (Rect.unit (s := S256x4096) ![0, 0] S256x4096.size inb_S256x4096_S256x4096_0_0).toLoadRect (harg2.unread x0))) _ inb_S264x4096_S256x4096_8_0 k Q r h).trans ?_
  unfold k0_pay4
  rw [shapeCast_self]
  exact read_ld harg2 x0 _ _ _ (ix2 r Q) (ix2 r Q) fun a => by fin_cases a <;> exact (Nat.zero_add _).symm

theorem extA_lo (k : Fin 264) (Q : Fin 4096) (r : Fin 8) (h : k.val = r.val) :
    (View.canon (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 (ix2 k Q) : EReal) = 0 := by
  refine (ext_lo (k0_pay4 (F := Ideal) (View.readAt (Elt Ideal) arg2.view (Rect.unit (s := S256x4096) ![0, 0] S256x4096.size inb_S256x4096_S256x4096_0_0).toLoadRect (harg2.unread x0))) (k0_pay1 (F := Ideal)) inb_S264x4096_S256x4096_8_0 inb_S264x4096_S8x4096_0_0 k Q r h).trans ?_
  unfold k0_pay1
  rw [shapeCast_self]
  exact Ideal.ofBits_zero_f32

end A

section B

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole)
  (hc0 : ¬cond0_0 i) (hc1 : cond0_1 i)
  (x0 : Vec Ideal S256x4096 .f32) (x1 : Vec Ideal S256x4096 .f32) (x2 : Vec Ideal S4x4096 .f32) (x3 : Vec Ideal S1x4096 .f32) (x4 : Vec Ideal S16x256x256 .bf16) (x5 : Vec Ideal S1x4096 .f32) (x6 : Vec Ideal S16x256x256 .bf16) (x7 : Vec Ideal S1x4096 .f32) (x8 : Vec Ideal S1x4096 .f32) (xs0 : Vec Ideal S264x4096 .f32) (xs3 : Vec Ideal S8x4096 .f32)

theorem rowB_cover (Q : Fin 4096) : ∃ p ∈ (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3).2.2.1, (ix2 (0 : Fin 8) Q : S8x4096.Idx) ∈ p.1.set :=
  row_cover Q _ _ _ _ _ _ _ _

theorem extB_hi (k : Fin 264) (Q : Fin 4096) (r : Fin 256) (h : k.val = 8 + r.val) :
    (View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3).2.1 (ix2 k Q) : EReal) = x0 (ix2 r Q) := by
  refine (ext_hi (k0_pay4 (F := Ideal) (View.readAt (Elt Ideal) arg2.view (Rect.unit (s := S256x4096) ![0, 0] S256x4096.size inb_S256x4096_S256x4096_0_0).toLoadRect (harg2.unread x0))) _ inb_S264x4096_S256x4096_8_0 k Q r h).trans ?_
  unfold k0_pay4
  rw [shapeCast_self]
  exact read_ld harg2 x0 _ _ _ (ix2 r Q) (ix2 r Q) fun a => by fin_cases a <;> exact (Nat.zero_add _).symm

theorem extB_lo (k k' : Fin 264) (Q : Fin 4096) (r : Fin 8) (h : k.val = r.val) (h' : k'.val = 256 + r.val) :
    (View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs3).2.1 (ix2 k Q) : EReal) = xs0 (ix2 k' Q) := by
  refine (ext_lo (k0_pay4 (F := Ideal) (View.readAt (Elt Ideal) arg2.view (Rect.unit (s := S256x4096) ![0, 0] S256x4096.size inb_S256x4096_S256x4096_0_0).toLoadRect (harg2.unread x0)))
    (k0_pay3 (F := Ideal) (View.readAt (Elt Ideal) arg12.view (Rect.unit (s := S264x4096) ![256, 0] S8x4096.size inb_S264x4096_S8x4096_256_0).toLoadRect (harg12.unread xs0)))
    inb_S264x4096_S256x4096_8_0 inb_S264x4096_S8x4096_0_0 k Q r h).trans ?_
  unfold k0_pay3
  rw [shapeCast_self]
  exact read_ld harg12 xs0 _ _ _ (ix2 r Q) (ix2 k' Q) fun a => by
    fin_cases a
    · exact h'
    · exact (Nat.zero_add _).symm

end B

end Cert.KernelIdeal.Lru

end
-- ==== Proof.LruBlockA.lean ====
/- What the recurrent kernel's body leaves at a sequence's first block, as a function of the block. -/
module

public import proofs.«01_k».proof.Proof.LruBlock
public import proofs.«01_k».proof.Proof.LruIdealRunA

@[expose] public section

set_option maxRecDepth 16384
set_option maxHeartbeats 1000000

noncomputable section

namespace Cert.KernelIdeal.Lru

open Cert.KernelIdeal Cert.KernelIdeal.Gen Idealize.ShloMosaic Idealize.ShloMosaic.TcCoe Idealize.SL.Sem
open Idealize.ShloMosaic.ValueIdx

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole)
  (hc0 : cond0_0 i) (hc1 : ¬cond0_1 i)
  (x0 : Vec Ideal S256x4096 .f32) (x1 : Vec Ideal S256x4096 .f32) (P : Par)

/-- The pieces of the output block are the block's. -/
theorem piecesA_out : View.PiecesOf (OG P (View.canon (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam).2.1) (fun _ => 0) x1) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam).1 :=
  ⟨out_piece (o := 3584) (by decide) harg3 inb_S256x4096_S256x512_0_3584 rfl rfl (fun r q => by
    unfold runA.sl.v913
    exact Loop.blk (h := (fun _ => 0)) (loop8 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 3584 14 15 (by decide) rfl rfl (by decide) (by decide) rfl) (uK_of harg4 harg5 harg6 harg7 harg8 harg9 harg10 arg12 P _ 3584 14 15 (by decide) rfl rfl (by decide) (by decide) rfl)
      (fun q => by
        unfold runA.sl.v907
        refine (cov_ld _ _ _ inb_S8x4096_S1x512_0_3584 (ix2 0 q) (ix2 0 (cI 3584 (by decide) q)) fun a => by fin_cases a <;> rfl).trans ?_
        unfold runA.sl.HS3_8
        refine skip0 _ (by simp only; omega) ?_
        unfold runA.sl.HS3_7
        refine skip0 _ (by simp only; omega) ?_
        unfold runA.sl.HS3_6
        refine skip0 _ (by simp only; omega) ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) r q),
  out_piece (o := 3072) (by decide) harg3 inb_S256x4096_S256x512_0_3072 rfl rfl (fun r q => by
    unfold runA.sl.v798
    exact Loop.blk (h := (fun _ => 0)) (loop7 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 3072 12 13 (by decide) rfl rfl (by decide) (by decide) rfl) (uK_of harg4 harg5 harg6 harg7 harg8 harg9 harg10 arg12 P _ 3072 12 13 (by decide) rfl rfl (by decide) (by decide) rfl)
      (fun q => by
        unfold runA.sl.v792
        refine (cov_ld _ _ _ inb_S8x4096_S1x512_0_3072 (ix2 0 q) (ix2 0 (cI 3072 (by decide) q)) fun a => by fin_cases a <;> rfl).trans ?_
        unfold runA.sl.HS3_7
        refine skip0 _ (by simp only; omega) ?_
        unfold runA.sl.HS3_6
        refine skip0 _ (by simp only; omega) ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) r q),
  out_piece (o := 2560) (by decide) harg3 inb_S256x4096_S256x512_0_2560 rfl rfl (fun r q => by
    unfold runA.sl.v683
    exact Loop.blk (h := (fun _ => 0)) (loop6 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2560 10 11 (by decide) rfl rfl (by decide) (by decide) rfl) (uK_of harg4 harg5 harg6 harg7 harg8 harg9 harg10 arg12 P _ 2560 10 11 (by decide) rfl rfl (by decide) (by decide) rfl)
      (fun q => by
        unfold runA.sl.v677
        refine (cov_ld _ _ _ inb_S8x4096_S1x512_0_2560 (ix2 0 q) (ix2 0 (cI 2560 (by decide) q)) fun a => by fin_cases a <;> rfl).trans ?_
        unfold runA.sl.HS3_6
        refine skip0 _ (by simp only; omega) ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) r q),
  out_piece (o := 2048) (by decide) harg3 inb_S256x4096_S256x512_0_2048 rfl rfl (fun r q => by
    unfold runA.sl.v568
    exact Loop.blk (h := (fun _ => 0)) (loop5 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2048 8 9 (by decide) rfl rfl (by decide) (by decide) rfl) (uK_of harg4 harg5 harg6 harg7 harg8 harg9 harg10 arg12 P _ 2048 8 9 (by decide) rfl rfl (by decide) (by decide) rfl)
      (fun q => by
        unfold runA.sl.v562
        refine (cov_ld _ _ _ inb_S8x4096_S1x512_0_2048 (ix2 0 q) (ix2 0 (cI 2048 (by decide) q)) fun a => by fin_cases a <;> rfl).trans ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) r q),
  out_piece (o := 1536) (by decide) harg3 inb_S256x4096_S256x512_0_1536 rfl rfl (fun r q => by
    unfold runA.sl.v453
    exact Loop.blk (h := (fun _ => 0)) (loop4 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _) (by decide) _ _ _ (by decide +kernel) rfl rfl (aK_of harg4 harg5 harg6 harg7 harg10 arg12 P _ 1536 6 7 (by decide) rfl rfl (by decide) (by decide) rfl) (uK_of harg4 harg5 harg6 harg7 harg8 harg9 harg10 arg12 P _ 1536 6 7 (by decide) rfl rfl (by decide) (by decide) rfl)
      (fun q => by
        unfold runA.sl.v447
        refine (cov_ld _ _ _ inb_S8x4096_S1x512_0_1536 (ix2 0 q) (ix2 0 (cI 1536 (by decide) q)) fun a => by fin_cases a <;> rfl).trans ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) r q),
  out_piece (o := 1024) (by decide) harg3 inb_S256x4096_S256x512_0_1024 rfl rfl (fun r q => by
    unfold runA.sl.v338
    exact Loop.blk (h := (fun _ => 0)) (loop3 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 1024 4 5 (by decide) rfl rfl (by decide) (by decide) rfl) (uK_of harg4 harg5 harg6 harg7 harg8 harg9 harg10 arg12 P _ 1024 4 5 (by decide) rfl rfl (by decide) (by decide) rfl)
      (fun q => by
        unfold runA.sl.v332
        refine (cov_ld _ _ _ inb_S8x4096_S1x512_0_1024 (ix2 0 q) (ix2 0 (cI 1024 (by decide) q)) fun a => by fin_cases a <;> rfl).trans ?_
        unfold runA.sl.HS3_3
        refine skip0 _ (by simp only; omega) ?_
        unfold runA.sl.HS3_2
        refine skip0 _ (by simp only; omega) ?_
        exact fill0 _ _) r q),
  out_piece (o := 512) (by decide) harg3 inb_S256x4096_S256x512_0_512 rfl rfl (fun r q => by
    unfold runA.sl.v223
    exact Loop.blk (h := (fun _ => 0)) (loop2 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 512 2 3 (by decide) rfl rfl (by decide) (by decide) rfl) (uK_of harg4 harg5 harg6 harg7 harg8 harg9 harg10 arg12 P _ 512 2 3 (by decide) rfl rfl (by decide) (by decide) rfl)
      (fun q => by
        unfold runA.sl.v217
        refine (cov_ld _ _ _ inb_S8x4096_S1x512_0_512 (ix2 0 q) (ix2 0 (cI 512 (by decide) q)) fun a => by fin_cases a <;> rfl).trans ?_
        unfold runA.sl.HS3_2
        refine skip0 _ (by simp only; omega) ?_
        exact fill0 _ _) r q),
  out_piece (o := 0) (by decide) harg3 inb_S256x4096_S256x512_0_0 rfl rfl (fun r q => by
    unfold runA.sl.v108
    exact Loop.blk (h := (fun _ => 0)) (loop1 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 0 0 1 (by decide) rfl rfl (by decide) (by decide) rfl) (uK_of harg4 harg5 harg6 harg7 harg8 harg9 harg10 arg12 P _ 0 0 1 (by decide) rfl rfl (by decide) (by decide) rfl)
      (fun q => by
        unfold runA.sl.v102
        refine (cov_ld _ _ _ inb_S8x4096_S1x512_0_0 (ix2 0 q) (ix2 0 (cI 0 (by decide) q)) fun a => by fin_cases a <;> rfl).trans ?_
        exact fill0 _ _) r q), trivial⟩

/-- The pieces of the carried row are the block's. -/
theorem piecesA_row : View.PiecesOf (RG P (View.canon (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam).2.1) (fun _ => 0)) (List.take 8 (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam).2.2.1) :=
  ⟨row_piece (o := 3584) (by decide) inb_S8x4096_S1x512_0_3584 rfl (fun q => by
    exact Loop.row (h := (fun _ => 0)) (loop8 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 3584 14 15 (by decide) rfl rfl (by decide) (by decide) rfl) (uK_of harg4 harg5 harg6 harg7 harg8 harg9 harg10 arg12 P _ 3584 14 15 (by decide) rfl rfl (by decide) (by decide) rfl)
      (fun q => by
        unfold runA.sl.v907
        refine (cov_ld _ _ _ inb_S8x4096_S1x512_0_3584 (ix2 0 q) (ix2 0 (cI 3584 (by decide) q)) fun a => by fin_cases a <;> rfl).trans ?_
        unfold runA.sl.HS3_8
        refine skip0 _ (by simp only; omega) ?_
        unfold runA.sl.HS3_7
        refine skip0 _ (by simp only; omega) ?_
        unfold runA.sl.HS3_6
        refine skip0 _ (by simp only; omega) ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) q),
  row_piece (o := 3072) (by decide) inb_S8x4096_S1x512_0_3072 rfl (fun q => by
    exact Loop.row (h := (fun _ => 0)) (loop7 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 3072 12 13 (by decide) rfl rfl (by decide) (by decide) rfl) (uK_of harg4 harg5 harg6 harg7 harg8 harg9 harg10 arg12 P _ 3072 12 13 (by decide) rfl rfl (by decide) (by decide) rfl)
      (fun q => by
        unfold runA.sl.v792
        refine (cov_ld _ _ _ inb_S8x4096_S1x512_0_3072 (ix2 0 q) (ix2 0 (cI 3072 (by decide) q)) fun a => by fin_cases a <;> rfl).trans ?_
        unfold runA.sl.HS3_7
        refine skip0 _ (by simp only; omega) ?_
        unfold runA.sl.HS3_6
        refine skip0 _ (by simp only; omega) ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) q),
  row_piece (o := 2560) (by decide) inb_S8x4096_S1x512_0_2560 rfl (fun q => by
    exact Loop.row (h := (fun _ => 0)) (loop6 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2560 10 11 (by decide) rfl rfl (by decide) (by decide) rfl) (uK_of harg4 harg5 harg6 harg7 harg8 harg9 harg10 arg12 P _ 2560 10 11 (by decide) rfl rfl (by decide) (by decide) rfl)
      (fun q => by
        unfold runA.sl.v677
        refine (cov_ld _ _ _ inb_S8x4096_S1x512_0_2560 (ix2 0 q) (ix2 0 (cI 2560 (by decide) q)) fun a => by fin_cases a <;> rfl).trans ?_
        unfold runA.sl.HS3_6
        refine skip0 _ (by simp only; omega) ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) q),
  row_piece (o := 2048) (by decide) inb_S8x4096_S1x512_0_2048 rfl (fun q => by
    exact Loop.row (h := (fun _ => 0)) (loop5 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2048 8 9 (by decide) rfl rfl (by decide) (by decide) rfl) (uK_of harg4 harg5 harg6 harg7 harg8 harg9 harg10 arg12 P _ 2048 8 9 (by decide) rfl rfl (by decide) (by decide) rfl)
      (fun q => by
        unfold runA.sl.v562
        refine (cov_ld _ _ _ inb_S8x4096_S1x512_0_2048 (ix2 0 q) (ix2 0 (cI 2048 (by decide) q)) fun a => by fin_cases a <;> rfl).trans ?_
        unfold runA.sl.HS3_5
        refine skip0 _ (by simp only; omega) ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) q),
  row_piece (o := 1536) (by decide) inb_S8x4096_S1x512_0_1536 rfl (fun q => by
    exact Loop.row (h := (fun _ => 0)) (loop4 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _) (by decide) _ _ _ (by decide +kernel) rfl rfl (aK_of harg4 harg5 harg6 harg7 harg10 arg12 P _ 1536 6 7 (by decide) rfl rfl (by decide) (by decide) rfl) (uK_of harg4 harg5 harg6 harg7 harg8 harg9 harg10 arg12 P _ 1536 6 7 (by decide) rfl rfl (by decide) (by decide) rfl)
      (fun q => by
        unfold runA.sl.v447
        refine (cov_ld _ _ _ inb_S8x4096_S1x512_0_1536 (ix2 0 q) (ix2 0 (cI 1536 (by decide) q)) fun a => by fin_cases a <;> rfl).trans ?_
        unfold runA.sl.HS3_4
        refine skip0 _ (by simp only; omega) ?_
        unfold runA.sl.HS3_3
        refine skip0 _ (by simp only; omega) ?_
        unfold runA.sl.HS3_2
        refine skip0 _ (by simp only; omega) ?_
        exact fill0 _ _) q),
  row_piece (o := 1024) (by decide) inb_S8x4096_S1x512_0_1024 rfl (fun q => by
    exact Loop.row (h := (fun _ => 0)) (loop3 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 1024 4 5 (by decide) rfl rfl (by decide) (by decide) rfl) (uK_of harg4 harg5 harg6 harg7 harg8 harg9 harg10 arg12 P _ 1024 4 5 (by decide) rfl rfl (by decide) (by decide) rfl)
      (fun q => by
        unfold runA.sl.v332
        refine (cov_ld _ _ _ inb_S8x4096_S1x512_0_1024 (ix2 0 q) (ix2 0 (cI 1024 (by decide) q)) fun a => by fin_cases a <;> rfl).trans ?_
        unfold runA.sl.HS3_3
        refine skip0 _ (by simp only; omega) ?_
        unfold runA.sl.HS3_2
        refine skip0 _ (by simp only; omega) ?_
        exact fill0 _ _) q),
  row_piece (o := 512) (by decide) inb_S8x4096_S1x512_0_512 rfl (fun q => by
    exact Loop.row (h := (fun _ => 0)) (loop2 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 512 2 3 (by decide) rfl rfl (by decide) (by decide) rfl) (uK_of harg4 harg5 harg6 harg7 harg8 harg9 harg10 arg12 P _ 512 2 3 (by decide) rfl rfl (by decide) (by decide) rfl)
      (fun q => by
        unfold runA.sl.v217
        refine (cov_ld _ _ _ inb_S8x4096_S1x512_0_512 (ix2 0 q) (ix2 0 (cI 512 (by decide) q)) fun a => by fin_cases a <;> rfl).trans ?_
        unfold runA.sl.HS3_2
        refine skip0 _ (by simp only; omega) ?_
        exact fill0 _ _) q),
  row_piece (o := 0) (by decide) inb_S8x4096_S1x512_0_0 rfl (fun q => by
    exact Loop.row (h := (fun _ => 0)) (loop1 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 0 0 1 (by decide) rfl rfl (by decide) (by decide) rfl) (uK_of harg4 harg5 harg6 harg7 harg8 harg9 harg10 arg12 P _ 0 0 1 (by decide) rfl rfl (by decide) (by decide) rfl)
      (fun q => by
        unfold runA.sl.v102
        refine (cov_ld _ _ _ inb_S8x4096_S1x512_0_0 (ix2 0 q) (ix2 0 (cI 0 (by decide) q)) fun a => by fin_cases a <;> rfl).trans ?_
        exact fill0 _ _) q), trivial⟩

end Cert.KernelIdeal.Lru
-- ==== Proof.LruBlockB.lean ====
/- What the recurrent kernel's body leaves at a sequence's later blocks, as a function of the block. -/
module

public import proofs.«01_k».proof.Proof.LruBlock
public import proofs.«01_k».proof.Proof.LruIdealRunB

@[expose] public section

set_option maxRecDepth 16384
set_option maxHeartbeats 1000000

noncomputable section

namespace Cert.KernelIdeal.Lru

open Cert.KernelIdeal Cert.KernelIdeal.Gen Idealize.ShloMosaic Idealize.ShloMosaic.TcCoe Idealize.SL.Sem
open Idealize.ShloMosaic.ValueIdx

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S1x4096 .f32) (harg5 : arg5.IsWhole) (arg6 : Memref sig .tc .vmem S16x256x256 .bf16) (harg6 : arg6.IsWhole) (arg7 : Memref sig .tc .vmem S1x4096 .f32) (harg7 : arg7.IsWhole) (arg8 : Memref sig .tc .vmem S16x256x256 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S264x4096 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S8x4096 .f32) (harg15 : arg15.IsWhole)
  (hc0 : ¬cond0_0 i) (hc1 : cond0_1 i)
  (x0 : Vec Ideal S256x4096 .f32) (x1 : Vec Ideal S256x4096 .f32) (P : Par) (xs0 : Vec Ideal S264x4096 .f32) (xs3 : Vec Ideal S8x4096 .f32)

/-- The pieces of the output block are the block's. -/
theorem piecesB_out : View.PiecesOf (OG P (View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam xs0 xs3).2.1) (fun Q => xs3 (ix2 0 Q)) x1) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam xs0 xs3).1 :=
  ⟨out_piece (o := 3584) (by decide) harg3 inb_S256x4096_S256x512_0_3584 rfl rfl (fun r q => by
    unfold runB.sl.v913
    exact Loop.blk (h := (fun Q => xs3 (ix2 0 Q))) (loop8 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 3584 14 15 (by decide) rfl rfl (by decide) (by decide) rfl) (uK_of harg4 harg5 harg6 harg7 harg8 harg9 harg10 arg12 P _ 3584 14 15 (by decide) rfl rfl (by decide) (by decide) rfl)
      (fun q => read_ld harg15 xs3 _ _ inb_S8x4096_S1x512_0_3584 (ix2 0 q) (ix2 0 (cI 3584 (by decide) q)) fun a => by fin_cases a <;> rfl) r q),
  out_piece (o := 3072) (by decide) harg3 inb_S256x4096_S256x512_0_3072 rfl rfl (fun r q => by
    unfold runB.sl.v798
    exact Loop.blk (h := (fun Q => xs3 (ix2 0 Q))) (loop7 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 3072 12 13 (by decide) rfl rfl (by decide) (by decide) rfl) (uK_of harg4 harg5 harg6 harg7 harg8 harg9 harg10 arg12 P _ 3072 12 13 (by decide) rfl rfl (by decide) (by decide) rfl)
      (fun q => read_ld harg15 xs3 _ _ inb_S8x4096_S1x512_0_3072 (ix2 0 q) (ix2 0 (cI 3072 (by decide) q)) fun a => by fin_cases a <;> rfl) r q),
  out_piece (o := 2560) (by decide) harg3 inb_S256x4096_S256x512_0_2560 rfl rfl (fun r q => by
    unfold runB.sl.v683
    exact Loop.blk (h := (fun Q => xs3 (ix2 0 Q))) (loop6 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2560 10 11 (by decide) rfl rfl (by decide) (by decide) rfl) (uK_of harg4 harg5 harg6 harg7 harg8 harg9 harg10 arg12 P _ 2560 10 11 (by decide) rfl rfl (by decide) (by decide) rfl)
      (fun q => read_ld harg15 xs3 _ _ inb_S8x4096_S1x512_0_2560 (ix2 0 q) (ix2 0 (cI 2560 (by decide) q)) fun a => by fin_cases a <;> rfl) r q),
  out_piece (o := 2048) (by decide) harg3 inb_S256x4096_S256x512_0_2048 rfl rfl (fun r q => by
    unfold runB.sl.v568
    exact Loop.blk (h := (fun Q => xs3 (ix2 0 Q))) (loop5 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2048 8 9 (by decide) rfl rfl (by decide) (by decide) rfl) (uK_of harg4 harg5 harg6 harg7 harg8 harg9 harg10 arg12 P _ 2048 8 9 (by decide) rfl rfl (by decide) (by decide) rfl)
      (fun q => read_ld harg15 xs3 _ _ inb_S8x4096_S1x512_0_2048 (ix2 0 q) (ix2 0 (cI 2048 (by decide) q)) fun a => by fin_cases a <;> rfl) r q),
  out_piece (o := 1536) (by decide) harg3 inb_S256x4096_S256x512_0_1536 rfl rfl (fun r q => by
    unfold runB.sl.v453
    exact Loop.blk (h := (fun Q => xs3 (ix2 0 Q))) (loop4 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _) (by decide) _ _ _ (by decide +kernel) rfl rfl (aK_of harg4 harg5 harg6 harg7 harg10 arg12 P _ 1536 6 7 (by decide) rfl rfl (by decide) (by decide) rfl) (uK_of harg4 harg5 harg6 harg7 harg8 harg9 harg10 arg12 P _ 1536 6 7 (by decide) rfl rfl (by decide) (by decide) rfl)
      (fun q => read_ld harg15 xs3 _ _ inb_S8x4096_S1x512_0_1536 (ix2 0 q) (ix2 0 (cI 1536 (by decide) q)) fun a => by fin_cases a <;> rfl) r q),
  out_piece (o := 1024) (by decide) harg3 inb_S256x4096_S256x512_0_1024 rfl rfl (fun r q => by
    unfold runB.sl.v338
    exact Loop.blk (h := (fun Q => xs3 (ix2 0 Q))) (loop3 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 1024 4 5 (by decide) rfl rfl (by decide) (by decide) rfl) (uK_of harg4 harg5 harg6 harg7 harg8 harg9 harg10 arg12 P _ 1024 4 5 (by decide) rfl rfl (by decide) (by decide) rfl)
      (fun q => read_ld harg15 xs3 _ _ inb_S8x4096_S1x512_0_1024 (ix2 0 q) (ix2 0 (cI 1024 (by decide) q)) fun a => by fin_cases a <;> rfl) r q),
  out_piece (o := 512) (by decide) harg3 inb_S256x4096_S256x512_0_512 rfl rfl (fun r q => by
    unfold runB.sl.v223
    exact Loop.blk (h := (fun Q => xs3 (ix2 0 Q))) (loop2 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 512 2 3 (by decide) rfl rfl (by decide) (by decide) rfl) (uK_of harg4 harg5 harg6 harg7 harg8 harg9 harg10 arg12 P _ 512 2 3 (by decide) rfl rfl (by decide) (by decide) rfl)
      (fun q => read_ld harg15 xs3 _ _ inb_S8x4096_S1x512_0_512 (ix2 0 q) (ix2 0 (cI 512 (by decide) q)) fun a => by fin_cases a <;> rfl) r q),
  out_piece (o := 0) (by decide) harg3 inb_S256x4096_S256x512_0_0 rfl rfl (fun r q => by
    unfold runB.sl.v108
    exact Loop.blk (h := (fun Q => xs3 (ix2 0 Q))) (loop1 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 0 0 1 (by decide) rfl rfl (by decide) (by decide) rfl) (uK_of harg4 harg5 harg6 harg7 harg8 harg9 harg10 arg12 P _ 0 0 1 (by decide) rfl rfl (by decide) (by decide) rfl)
      (fun q => read_ld harg15 xs3 _ _ inb_S8x4096_S1x512_0_0 (ix2 0 q) (ix2 0 (cI 0 (by decide) q)) fun a => by fin_cases a <;> rfl) r q), trivial⟩

/-- The pieces of the carried row are the block's. -/
theorem piecesB_row : View.PiecesOf (RG P (View.canon (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam xs0 xs3).2.1) (fun Q => xs3 (ix2 0 Q))) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 P.cw P.cb P.wa P.ba P.wx P.bx P.lam xs0 xs3).2.2.1 :=
  ⟨row_piece (o := 3584) (by decide) inb_S8x4096_S1x512_0_3584 rfl (fun q => by
    exact Loop.row (h := (fun Q => xs3 (ix2 0 Q))) (loop8 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 3584 14 15 (by decide) rfl rfl (by decide) (by decide) rfl) (uK_of harg4 harg5 harg6 harg7 harg8 harg9 harg10 arg12 P _ 3584 14 15 (by decide) rfl rfl (by decide) (by decide) rfl)
      (fun q => read_ld harg15 xs3 _ _ inb_S8x4096_S1x512_0_3584 (ix2 0 q) (ix2 0 (cI 3584 (by decide) q)) fun a => by fin_cases a <;> rfl) q),
  row_piece (o := 3072) (by decide) inb_S8x4096_S1x512_0_3072 rfl (fun q => by
    exact Loop.row (h := (fun Q => xs3 (ix2 0 Q))) (loop7 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 3072 12 13 (by decide) rfl rfl (by decide) (by decide) rfl) (uK_of harg4 harg5 harg6 harg7 harg8 harg9 harg10 arg12 P _ 3072 12 13 (by decide) rfl rfl (by decide) (by decide) rfl)
      (fun q => read_ld harg15 xs3 _ _ inb_S8x4096_S1x512_0_3072 (ix2 0 q) (ix2 0 (cI 3072 (by decide) q)) fun a => by fin_cases a <;> rfl) q),
  row_piece (o := 2560) (by decide) inb_S8x4096_S1x512_0_2560 rfl (fun q => by
    exact Loop.row (h := (fun Q => xs3 (ix2 0 Q))) (loop6 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2560 10 11 (by decide) rfl rfl (by decide) (by decide) rfl) (uK_of harg4 harg5 harg6 harg7 harg8 harg9 harg10 arg12 P _ 2560 10 11 (by decide) rfl rfl (by decide) (by decide) rfl)
      (fun q => read_ld harg15 xs3 _ _ inb_S8x4096_S1x512_0_2560 (ix2 0 q) (ix2 0 (cI 2560 (by decide) q)) fun a => by fin_cases a <;> rfl) q),
  row_piece (o := 2048) (by decide) inb_S8x4096_S1x512_0_2048 rfl (fun q => by
    exact Loop.row (h := (fun Q => xs3 (ix2 0 Q))) (loop5 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 2048 8 9 (by decide) rfl rfl (by decide) (by decide) rfl) (uK_of harg4 harg5 harg6 harg7 harg8 harg9 harg10 arg12 P _ 2048 8 9 (by decide) rfl rfl (by decide) (by decide) rfl)
      (fun q => read_ld harg15 xs3 _ _ inb_S8x4096_S1x512_0_2048 (ix2 0 q) (ix2 0 (cI 2048 (by decide) q)) fun a => by fin_cases a <;> rfl) q),
  row_piece (o := 1536) (by decide) inb_S8x4096_S1x512_0_1536 rfl (fun q => by
    exact Loop.row (h := (fun Q => xs3 (ix2 0 Q))) (loop4 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _) (by decide) _ _ _ (by decide +kernel) rfl rfl (aK_of harg4 harg5 harg6 harg7 harg10 arg12 P _ 1536 6 7 (by decide) rfl rfl (by decide) (by decide) rfl) (uK_of harg4 harg5 harg6 harg7 harg8 harg9 harg10 arg12 P _ 1536 6 7 (by decide) rfl rfl (by decide) (by decide) rfl)
      (fun q => read_ld harg15 xs3 _ _ inb_S8x4096_S1x512_0_1536 (ix2 0 q) (ix2 0 (cI 1536 (by decide) q)) fun a => by fin_cases a <;> rfl) q),
  row_piece (o := 1024) (by decide) inb_S8x4096_S1x512_0_1024 rfl (fun q => by
    exact Loop.row (h := (fun Q => xs3 (ix2 0 Q))) (loop3 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _) (by decide) _ _ _ (by decide +kernel) rfl rfl (aK_of harg4 harg5 harg6 harg7 harg10 arg12 P _ 1024 4 5 (by decide) rfl rfl (by decide) (by decide) rfl) (uK_of harg4 harg5 harg6 harg7 harg8 harg9 harg10 arg12 P _ 1024 4 5 (by decide) rfl rfl (by decide) (by decide) rfl)
      (fun q => read_ld harg15 xs3 _ _ inb_S8x4096_S1x512_0_1024 (ix2 0 q) (ix2 0 (cI 1024 (by decide) q)) fun a => by fin_cases a <;> rfl) q),
  row_piece (o := 512) (by decide) inb_S8x4096_S1x512_0_512 rfl (fun q => by
    exact Loop.row (h := (fun Q => xs3 (ix2 0 Q))) (loop2 c i arg2 harg2 arg3 harg3 arg4 harg4 arg5 harg5 arg6 harg6 arg7 harg7 arg8 harg8 arg9 harg9 arg10 harg10 arg11 harg11 arg12 harg12 arg13 harg13 arg14 harg14 arg15 harg15 _ _ _ _) (by decide) _ _ _ (by decide +kernel) rfl rfl (aK_of harg4 harg5 harg6 harg7 harg10 arg12 P _ 512 2 3 (by decide) rfl rfl (by decide) (by decide) rfl) (uK_of harg4 harg5 harg6 harg7 harg8 harg9 harg10 arg12 P _ 512 2 3 (by decide) rfl rfl (by decide) (by decide) rfl)
      (fun q => read_ld harg15 xs3 _ _ inb_S8x4096_S1x512_0_512 (ix2 0 q) (ix2 0 (cI 512 (by decide) q)) fun a => by fin_cases a <;> rfl) q),
  row_piece (o := 0) (by decide) inb_S8x4096_S1x512_0_0 rfl (fun q => by
    exact Loop.row (h := (fun Q => xs3 (ix2 0 Q))) (loop1 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _) (by decide) _ _ _ (by decide +kernel) rfl rfl (aK_of harg4 harg5 harg6 harg7 harg10 arg12 P _ 0 0 1 (by decide) rfl rfl (by decide) (by decide) rfl) (uK_of harg4 harg5 harg6 harg7 harg8 harg9 harg10 arg12 P _ 0 0 1 (by decide) rfl rfl (by decide) (by decide) rfl)
      (fun q => read_ld harg15 xs3 _ _ inb_S8x4096_S1x512_0_0 (ix2 0 q) (ix2 0 (cI 0 (by decide) q)) fun a => by fin_cases a <;> rfl) q), trivial⟩

end Cert.KernelIdeal.Lru
-- ==== Proof.LruIdealFrame.lean ====
/- The recurrent kernel's run as a whole: what its output block and its two carried buffers hold after each grid point, and the frame. -/
module

public import proofs.«01_k».proof.Proof.LruIdealRunA
public import proofs.«01_k».proof.Proof.LruIdealRunB
public import Idealize.ShloMosaic.Lib.Claim
@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken at a sequence's first block only. -/
theorem hcond0_0 : ∀ t : Fin cfg0.N, cond0_0 (grid0.coords t) ↔ t.val % 32 = 0 :=
  (by decide +kernel : ∀ t : Fin grid0.N, cond0_0 (grid0.coords t) ↔ t.val % 32 = 0)
/-- The second branch is taken at every other block. -/
theorem hcond0_1 : ∀ t : Fin cfg0.N, cond0_1 (grid0.coords t) ↔ ¬ t.val % 32 = 0 :=
  (by decide +kernel : ∀ t : Fin grid0.N, cond0_1 (grid0.coords t) ↔ ¬ t.val % 32 = 0)

/-- The output's staging buffer, the extended block's and the carried row's buffers, as views to state contents through. -/
abbrev VO : View sig .tc .vmem S256x4096 .bf16 := (Memref.whole cc0_stg9_0 : Memref sig .tc .vmem S256x4096 .bf16).view
abbrev scM0 : Memref sig .tc .vmem S264x4096 .f32 := Memref.whole cc0_scratch0
abbrev scM1 : Memref sig .tc .vmem S256x512 .f32 := Memref.whole cc0_scratch1
abbrev scM2 : Memref sig .tc .vmem S256x512 .f32 := Memref.whole cc0_scratch2
abbrev scM3 : Memref sig .tc .vmem S8x4096 .f32 := Memref.whole cc0_scratch3
abbrev VS0 : View sig .tc .vmem S264x4096 .f32 := scM0.view
abbrev VS3 : View sig .tc .vmem S8x4096 .f32 := scM3.view
/-- The carried row's buffer is whole. -/
theorem hscM3 : scM3.IsWhole := Memref.isWhole_whole _

/-- The body's run at grid point `t`, at a sequence's first block. -/
abbrev resA (c : Dev nD) (t : Fin cfg0.N) (h0 : cond0_0 (grid0.coords t)) (h1 : ¬cond0_1 (grid0.coords t)) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t)
/-- The body's run at grid point `t`, at a later block, over what the point before left. -/
abbrev resB (c : Dev nD) (t : Fin cfg0.N) (h0 : ¬cond0_0 (grid0.coords t)) (h1 : cond0_1 (grid0.coords t)) (xs0 : Vec F S264x4096 .f32) (xs3 : Vec F S8x4096 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) xs0 xs3

theorem coverA (c : Dev nD) (t : Fin cfg0.N) (h0 h1) (y : S256x4096.Idx) : ∃ pc ∈ (resA m c t h0 h1).1, y ∈ pc.1.set :=
  View.cover_of_tiledL (resA m c t h0 h1).1 S256x512.size (by sl_kernel_rfl) y
theorem coverA0 (c : Dev nD) (t : Fin cfg0.N) (h0 h1) (y : S264x4096.Idx) : ∃ pc ∈ (resA m c t h0 h1).2.1, y ∈ pc.1.set :=
  View.cover_of_tiledBy (resA m c t h0 h1).2.1 ![8, 4096] (by sl_kernel_rfl) y
theorem coverA3 (c : Dev nD) (t : Fin cfg0.N) (h0 h1) (y : S8x4096.Idx) : ∃ pc ∈ (resA m c t h0 h1).2.2.1, y ∈ pc.1.set :=
  View.cover_of_wholeMem (resA m c t h0 h1).2.2.1 (by sl_whole_mem) y
theorem coverB (c : Dev nD) (t : Fin cfg0.N) (h0 h1 xs0 xs3) (y : S256x4096.Idx) : ∃ pc ∈ (resB m c t h0 h1 xs0 xs3).1, y ∈ pc.1.set :=
  View.cover_of_tiledL (resB m c t h0 h1 xs0 xs3).1 S256x512.size (by sl_kernel_rfl) y
theorem coverB0 (c : Dev nD) (t : Fin cfg0.N) (h0 h1 xs0 xs3) (y : S264x4096.Idx) : ∃ pc ∈ (resB m c t h0 h1 xs0 xs3).2.1, y ∈ pc.1.set :=
  View.cover_of_tiledBy (resB m c t h0 h1 xs0 xs3).2.1 ![8, 4096] (by sl_kernel_rfl) y

/-- What a sequence's first block leaves: the output block, the extended block, the carried row's buffer. -/
def stepA (c : Dev nD) (t : Fin cfg0.N) (h0 : cond0_0 (grid0.coords t)) (h1 : ¬cond0_1 (grid0.coords t)) : Vec F S256x4096 .bf16 × Vec F S264x4096 .f32 × Vec F S8x4096 .f32 :=
  (VO.read (Elt F) (VO.writes (Elt F) VO.junk (resA m c t h0 h1).1),
   VS0.read (Elt F) (VS0.writes (Elt F) VS0.junk (resA m c t h0 h1).2.1),
   VS3.read (Elt F) (VS3.writes (Elt F) VS3.junk (resA m c t h0 h1).2.2.1))
/-- What a later block leaves, over the carried buffers' contents `s`. -/
def stepB (c : Dev nD) (t : Fin cfg0.N) (h0 : ¬cond0_0 (grid0.coords t)) (h1 : cond0_1 (grid0.coords t)) (s : Vec F S264x4096 .f32 × Vec F S8x4096 .f32) : Vec F S256x4096 .bf16 × Vec F S264x4096 .f32 × Vec F S8x4096 .f32 :=
  (VO.read (Elt F) (VO.writes (Elt F) VO.junk (resB m c t h0 h1 s.1 s.2).1),
   VS0.read (Elt F) (VS0.writes (Elt F) VS0.junk (resB m c t h0 h1 s.1 s.2).2.1),
   VS3.read (Elt F) (VS3.writes (Elt F) (hscM3.unread s.2) (resB m c t h0 h1 s.1 s.2).2.2.1))

/-- What the output block and the carried buffers hold after the body at position `n`. -/
def outsAt (c : Dev nD) : (n : ℕ) → n < cfg0.N → Vec F S256x4096 .bf16 × Vec F S264x4096 .f32 × Vec F S8x4096 .f32
  | 0, hn => stepA m c ⟨0, hn⟩ ((hcond0_0 ⟨0, hn⟩).mpr (Nat.zero_mod _)) (fun h => (hcond0_1 ⟨0, hn⟩).mp h (Nat.zero_mod _))
  | n + 1, hn =>
    if h0 : (n + 1) % 32 = 0 then
      stepA m c ⟨n + 1, hn⟩ ((hcond0_0 ⟨n + 1, hn⟩).mpr h0) (fun h => (hcond0_1 ⟨n + 1, hn⟩).mp h h0)
    else
      stepB m c ⟨n + 1, hn⟩ (fun h => h0 ((hcond0_0 ⟨n + 1, hn⟩).mp h)) ((hcond0_1 ⟨n + 1, hn⟩).mpr h0) (outsAt c n (by omega)).2

theorem outsAt_A (c : Dev nD) (t : Fin cfg0.N) (h0 : t.val % 32 = 0) :
    outsAt m c t.val t.isLt = stepA m c t ((hcond0_0 t).mpr h0) (fun h => (hcond0_1 t).mp h h0) := by
  obtain ⟨n, hn⟩ := t
  cases n with
  | zero => exact rfl
  | succ n => exact (dif_pos h0).trans rfl

theorem outsAt_B (c : Dev nD) (t : Fin cfg0.N) (h0 : ¬t.val % 32 = 0) :
    outsAt m c t.val t.isLt = stepB m c t (fun h => h0 ((hcond0_0 t).mp h)) ((hcond0_1 t).mpr h0) (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The scratch buffers and the generator's register, all at anything. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The invariant between points: after a point the carried buffers hold what it left. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ (∃ d, owns (c : Thread nD τ) scM1 fullShare d) ∗ (∃ d, owns (c : Thread nD τ) scM2 fullShare d) ∗ owns (c : Thread nD τ) scM3 fullShare ((outsAt m c n hn).2.2)) ∗ (∃ r, prngReg c r))

theorem PhiS_succ (c : Dev nD) (n : ℕ) (hn : n < cfg0.N) :
    PhiS m c (n + 1) hn = iprop(iprop(owns (c : Thread nD τ) scM0 fullShare ((outsAt m c n hn).2.1) ∗ (∃ d, owns (c : Thread nD τ) scM1 fullShare d) ∗ (∃ d, owns (c : Thread nD τ) scM2 fullShare d) ∗ owns (c : Thread nD τ) scM3 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ (∃ d, owns (c : Thread nD τ) scM1 fullShare d) ∗ (∃ d, owns (c : Thread nD τ) scM2 fullShare d) ∗ owns (c : Thread nD τ) scM3 fullShare ((outsAt m c (n - 1) (by omega)).2.2)) ∗ (∃ r, prngReg c r)) := by
  cases n with
  | zero => exact absurd rfl hz
  | succ n => rfl

/-- The invariant forgets to the scratch buffers at anything. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨HS0, HS1, HS2, HS3⟩, Hg⟩
    isplitl [HS0 HS1 HS2 HS3]
    · isplitl [HS0]
      · iexists _; iexact HS0
      isplitl [HS1]; · iexact HS1
      isplitl [HS2]; · iexact HS2
      iexists _; iexact HS3
    iexact Hg

/-- The proof data of the one pipeline: inputs at their blocks, the output at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 6400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ, PhiS_castSucc m c t]
  by_cases h0 : t.val % 32 = 0
  · refine BIBase.Entails.trans (sep_mono_left (PhiS_any m c _ _)) ?_
    rw [PhiA_eq, outsAt_A m c t h0]
    unfold stepA; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((resA m c t ((hcond0_0 t).mpr h0) (fun h => (hcond0_1 t).mp h h0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, ⟨%e9, H9⟩, ⟨%es0, HS0⟩, HS1, HS2, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (coverA0 m c t _ _)
        isplitl [HS1]; · iexact HS1
        isplitl [HS2]; · iexact HS2
        unfold owns; iexists _; isplitr
        swap; · iexact HS3
        ipureintro; exact View.read_writes_of_cover _ _ _ _ _ (coverA3 m c t _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverA m c t _ _)
  · have hz : t.val ≠ 0 := fun h => h0 (by rw [h])
    rw [PhiS_pos m c _ _ hz, outsAt_B m c t h0]
    unfold stepB; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((resB m c t (fun h => h0 ((hcond0_0 t).mp h)) ((hcond0_1 t).mpr h0) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, ⟨%e9, H9⟩, ⟨%es0, HS0⟩, HS1, HS2, HS3⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (coverB0 m c t _ _ _ _)
        isplitl [HS1]; · iexact HS1
        isplitl [HS2]; · iexact HS2
        unfold owns; iexists _; isplitr
        swap; · iexact HS3
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverB m c t _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _

theorem hout (c : Dev nD) : (dats m 0 c).Φ (Fin.last cfg0.N) ⊢ Pipeline.ΦA spec0 c := by
  exact Phi_out m c _

set_option backward.isDefEq.respectTransparency.types false in
/-- The launch: the arrays at what the proof data computes, every other buffer as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Lru

end
-- ==== Proof.LruValue.lean ====
/- The recurrent call over its grid: after every block the carried buffers hold the sequence's last rows and the recurrence's state, and
   the output's blocks tile the whole output. -/
module

public import proofs.«01_k».proof.Proof.LruCov
public import proofs.«01_k».proof.Proof.LruBlockA
public import proofs.«01_k».proof.Proof.LruBlockB
public import proofs.«01_k».proof.Proof.LruIdealFrame

@[expose] public section

set_option maxRecDepth 16384

noncomputable section

namespace Cert.KernelIdeal.Lru

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The parameters as the body is given them at point `t`, -/
def Pt (c : Dev nD) (t : Fin cfg0.N) : Par :=
  ⟨iblk m c 2 t, iblk m c 3 t, iblk m c 4 t, iblk m c 5 t, iblk m c 6 t, iblk m c 7 t, iblk m c 8 t⟩

/-- and from the call's arguments. -/
def PM (c : Dev nD) : Par :=
  ⟨m ((c : Thread nD τ).loc main_arg1),
   shapeCast S1x4096 (m ((c : Thread nD τ).loc main_arg2) : Vec Ideal S4096 .f32) shapeCasts_S4096_S1x4096,
   (truncf (F := Ideal) (s := S16x256x256) .bf16 (m ((c : Thread nD τ).loc main_arg3) : Vec Ideal S16x256x256 .f32) bitsLt_bf16_f32 : Vec Ideal S16x256x256 .bf16),
   shapeCast S1x4096 (m ((c : Thread nD τ).loc main_arg4) : Vec Ideal S4096 .f32) shapeCasts_S4096_S1x4096,
   (truncf (F := Ideal) (s := S16x256x256) .bf16 (m ((c : Thread nD τ).loc main_arg5) : Vec Ideal S16x256x256 .f32) bitsLt_bf16_f32 : Vec Ideal S16x256x256 .bf16),
   shapeCast S1x4096 (m ((c : Thread nD τ).loc main_arg6) : Vec Ideal S4096 .f32) shapeCasts_S4096_S1x4096,
   shapeCast S1x4096 (m ((c : Thread nD τ).loc main_arg7) : Vec Ideal S4096 .f32) shapeCasts_S4096_S1x4096⟩

theorem V_v0 (c : Dev nD) : V m c main_v0 = (PM m c).cb := by
  unfold V; simp only [hostOps0, List.flatten_cons, List.flatten_nil, List.append_nil]; after_results; rfl
theorem V_v1 (c : Dev nD) : V m c main_v1 = (PM m c).wa := by
  unfold V; simp only [hostOps0, List.flatten_cons, List.flatten_nil, List.append_nil]; after_results; rfl
theorem V_v2 (c : Dev nD) : V m c main_v2 = (PM m c).ba := by
  unfold V; simp only [hostOps0, List.flatten_cons, List.flatten_nil, List.append_nil]; after_results; rfl
theorem V_v3 (c : Dev nD) : V m c main_v3 = (PM m c).wx := by
  unfold V; simp only [hostOps0, List.flatten_cons, List.flatten_nil, List.append_nil]; after_results; rfl
theorem V_v4 (c : Dev nD) : V m c main_v4 = (PM m c).bx := by
  unfold V; simp only [hostOps0, List.flatten_cons, List.flatten_nil, List.append_nil]; after_results; rfl
theorem V_v5 (c : Dev nD) : V m c main_v5 = (PM m c).lam := by
  unfold V; simp only [hostOps0, List.flatten_cons, List.flatten_nil, List.append_nil]; after_results; rfl

/-- Where each window's block lies. -/
theorem idx_facts : ∀ t : Fin cfg0.N, (win0_9.index t (0 : Fin 2) = t.val ∧ win0_9.index t (1 : Fin 2) = 0)
    ∧ (win0_0.index t (0 : Fin 2) = t.val ∧ win0_0.index t (1 : Fin 2) = 0)
    ∧ (win0_1.index t (0 : Fin 2) = t.val ∧ win0_1.index t (1 : Fin 2) = 1) :=
  (by decide +kernel : ∀ t : Fin grid0.N, _)

theorem idx_par : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Every point is given the parameters whole. -/
theorem Pt_eq (c : Dev nD) (t : Fin cfg0.N) : Pt m c t = PM m c := by
  obtain ⟨⟨e20, e21⟩, ⟨e30, e31⟩, ⟨e40, e41, e42⟩, ⟨e50, e51⟩, ⟨e60, e61, e62⟩, ⟨e70, e71⟩, ⟨e80, e81⟩⟩ := idx_par t
  have h2 : iblk m c 2 t = (PM m c).cw := by
    funext y
    show (V m c main_arg1 : Vec Ideal S4x4096 .f32) (((cfg0.win 2).blk t).view.emb y) = _
    rw [V_main_arg1]
    refine congrArg (m ((c : Thread nD τ).loc main_arg1) : Vec Ideal S4x4096 .f32) (funext fun a => Fin.ext ?_)
    match a with
    | ⟨0, _⟩ => show win0_2.index t (0 : Fin 2) * 4 + 1 * (y 0).val = (y 0).val; omega
    | ⟨1, _⟩ => show win0_2.index t (1 : Fin 2) * 4096 + 1 * (y 1).val = (y 1).val; omega
  have h3 : iblk m c 3 t = (PM m c).cb := by
    funext y
    show (V m c main_v0 : Vec Ideal S1x4096 .f32) (((cfg0.win 3).blk t).view.emb y) = _
    rw [V_v0]
    refine congrArg (PM m c).cb (funext fun a => Fin.ext ?_)
    match a with
    | ⟨0, _⟩ => show win0_3.index t (0 : Fin 2) * 1 + 1 * (y 0).val = (y 0).val; omega
    | ⟨1, _⟩ => show win0_3.index t (1 : Fin 2) * 4096 + 1 * (y 1).val = (y 1).val; omega
  have h4 : iblk m c 4 t = (PM m c).wa := by
    funext y
    show (V m c main_v1 : Vec Ideal S16x256x256 .bf16) (((cfg0.win 4).blk t).view.emb y) = _
    rw [V_v1]
    refine congrArg (PM m c).wa (funext fun a => Fin.ext ?_)
    match a with
    | ⟨0, _⟩ => show win0_4.index t (0 : Fin 3) * 16 + 1 * (y 0).val = (y 0).val; omega
    | ⟨1, _⟩ => show win0_4.index t (1 : Fin 3) * 256 + 1 * (y 1).val = (y 1).val; omega
    | ⟨2, _⟩ => show win0_4.index t (2 : Fin 3) * 256 + 1 * (y 2).val = (y 2).val; omega
  have h5 : iblk m c 5 t = (PM m c).ba := by
    funext y
    show (V m c main_v2 : Vec Ideal S1x4096 .f32) (((cfg0.win 5).blk t).view.emb y) = _
    rw [V_v2]
    refine congrArg (PM m c).ba (funext fun a => Fin.ext ?_)
    match a with
    | ⟨0, _⟩ => show win0_5.index t (0 : Fin 2) * 1 + 1 * (y 0).val = (y 0).val; omega
    | ⟨1, _⟩ => show win0_5.index t (1 : Fin 2) * 4096 + 1 * (y 1).val = (y 1).val; omega
  have h6 : iblk m c 6 t = (PM m c).wx := by
    funext y
    show (V m c main_v3 : Vec Ideal S16x256x256 .bf16) (((cfg0.win 6).blk t).view.emb y) = _
    rw [V_v3]
    refine congrArg (PM m c).wx (funext fun a => Fin.ext ?_)
    match a with
    | ⟨0, _⟩ => show win0_6.index t (0 : Fin 3) * 16 + 1 * (y 0).val = (y 0).val; omega
    | ⟨1, _⟩ => show win0_6.index t (1 : Fin 3) * 256 + 1 * (y 1).val = (y 1).val; omega
    | ⟨2, _⟩ => show win0_6.index t (2 : Fin 3) * 256 + 1 * (y 2).val = (y 2).val; omega
  have h7 : iblk m c 7 t = (PM m c).bx := by
    funext y
    show (V m c main_v4 : Vec Ideal S1x4096 .f32) (((cfg0.win 7).blk t).view.emb y) = _
    rw [V_v4]
    refine congrArg (PM m c).bx (funext fun a => Fin.ext ?_)
    match a with
    | ⟨0, _⟩ => show win0_7.index t (0 : Fin 2) * 1 + 1 * (y 0).val = (y 0).val; omega
    | ⟨1, _⟩ => show win0_7.index t (1 : Fin 2) * 4096 + 1 * (y 1).val = (y 1).val; omega
  have h8 : iblk m c 8 t = (PM m c).lam := by
    funext y
    show (V m c main_v5 : Vec Ideal S1x4096 .f32) (((cfg0.win 8).blk t).view.emb y) = _
    rw [V_v5]
    refine congrArg (PM m c).lam (funext fun a => Fin.ext ?_)
    match a with
    | ⟨0, _⟩ => show win0_8.index t (0 : Fin 2) * 1 + 1 * (y 0).val = (y 0).val; omega
    | ⟨1, _⟩ => show win0_8.index t (1 : Fin 2) * 4096 + 1 * (y 1).val = (y 1).val; omega
  unfold Pt
  rw [h2, h3, h4, h5, h6, h7, h8]

/-- The sequences' rows, as given. -/
abbrev pr (c : Dev nD) : Vec Ideal S16384x20480 .f32 := m ((c : Thread nD τ).loc main_arg0)

theorem blk0 (c : Dev nD) (t : Fin cfg0.N) (r : Fin 256) (Q : Fin 4096) (i : Fin 16384) (hi : i.val = 256 * t.val + r.val) :
    ((iblk m c 0 t : Vec Ideal S256x4096 .f32) (ix2 r Q) : EReal) = pr m c (ix2 i (⟨Q.val, by omega⟩ : Fin 20480)) := by
  obtain ⟨-, ⟨e0, e1⟩, -⟩ := idx_facts t
  show (V m c main_arg0 : Vec Ideal S16384x20480 .f32) (((cfg0.win 0).blk t).view.emb (ix2 r Q)) = _
  rw [V_main_arg0]
  refine congrArg (pr m c) (funext fun a => Fin.ext ?_)
  match a with
  | ⟨0, _⟩ => show win0_0.index t (0 : Fin 2) * 256 + 1 * r.val = i.val; omega
  | ⟨1, _⟩ => show win0_0.index t (1 : Fin 2) * 4096 + 1 * Q.val = Q.val; omega

theorem blk1 (c : Dev nD) (t : Fin cfg0.N) (r : Fin 256) (Q : Fin 4096) (i : Fin 16384) (hi : i.val = 256 * t.val + r.val) :
    ((iblk m c 1 t : Vec Ideal S256x4096 .f32) (ix2 r Q) : EReal) = pr m c (ix2 i (⟨4096 + Q.val, by omega⟩ : Fin 20480)) := by
  obtain ⟨-, -, ⟨e0, e1⟩⟩ := idx_facts t
  show (V m c main_arg0 : Vec Ideal S16384x20480 .f32) (((cfg0.win 1).blk t).view.emb (ix2 r Q)) = _
  rw [V_main_arg0]
  refine congrArg (pr m c) (funext fun a => Fin.ext ?_)
  match a with
  | ⟨0, _⟩ => show win0_1.index t (0 : Fin 2) * 256 + 1 * r.val = i.val; omega
  | ⟨1, _⟩ => show win0_1.index t (1 : Fin 2) * 4096 + 1 * Q.val = 4096 + Q.val; omega

/-! ## What a block leaves -/

theorem canon_of {S : Shape} {e : EltTy} {G : S.Idx → Elt Ideal e} {L : List (View.Piece (Elt Ideal) S e)} (h : View.PiecesOf G L) (y : S.Idx)
    (hc : ∃ p ∈ L, y ∈ p.1.set) : View.canon L y = G y := by
  have e := View.canon_append_of_piecesOf G [] L h y hc
  rwa [List.append_nil] at e

variable (c : Dev nD) (t : Fin cfg0.N)

theorem stepA_0 (h0 : cond0_0 (grid0.coords t)) (h1 : ¬cond0_1 (grid0.coords t)) :
    (stepA m c t h0 h1).1 = VO.read (Elt Ideal) (VO.writes (Elt Ideal) VO.junk (resA m c t h0 h1).1) := by
  delta stepA
  with_reducible rfl
theorem stepA_1 (h0 : cond0_0 (grid0.coords t)) (h1 : ¬cond0_1 (grid0.coords t)) :
    (stepA m c t h0 h1).2.1 = VS0.read (Elt Ideal) (VS0.writes (Elt Ideal) VS0.junk (resA m c t h0 h1).2.1) := by
  delta stepA
  with_reducible rfl
theorem stepA_2 (h0 : cond0_0 (grid0.coords t)) (h1 : ¬cond0_1 (grid0.coords t)) :
    (stepA m c t h0 h1).2.2 = VS3.read (Elt Ideal) (VS3.writes (Elt Ideal) VS3.junk (resA m c t h0 h1).2.2.1) := by
  delta stepA
  with_reducible rfl
theorem stepB_0 (h0 : ¬cond0_0 (grid0.coords t)) (h1 : cond0_1 (grid0.coords t)) (s : Vec Ideal S264x4096 .f32 × Vec Ideal S8x4096 .f32) :
    (stepB m c t h0 h1 s).1 = VO.read (Elt Ideal) (VO.writes (Elt Ideal) VO.junk (resB m c t h0 h1 s.1 s.2).1) := by
  delta stepB
  with_reducible rfl
theorem stepB_1 (h0 : ¬cond0_0 (grid0.coords t)) (h1 : cond0_1 (grid0.coords t)) (s : Vec Ideal S264x4096 .f32 × Vec Ideal S8x4096 .f32) :
    (stepB m c t h0 h1 s).2.1 = VS0.read (Elt Ideal) (VS0.writes (Elt Ideal) VS0.junk (resB m c t h0 h1 s.1 s.2).2.1) := by
  delta stepB
  with_reducible rfl
theorem stepB_2 (h0 : ¬cond0_0 (grid0.coords t)) (h1 : cond0_1 (grid0.coords t)) (s : Vec Ideal S264x4096 .f32 × Vec Ideal S8x4096 .f32) :
    (stepB m c t h0 h1 s).2.2 = VS3.read (Elt Ideal) (VS3.writes (Elt Ideal) (hscM3.unread s.2) (resB m c t h0 h1 s.1 s.2).2.2.1) := by
  delta stepB
  with_reducible rfl

theorem readVO (L : List (View.Piece (Elt Ideal) S256x4096 .bf16)) : VO.read (Elt Ideal) (VO.writes (Elt Ideal) VO.junk L) = View.canon L :=
  View.read_writes_junk_eq_canon VO L
theorem readVS0 (L : List (View.Piece (Elt Ideal) S264x4096 .f32)) : VS0.read (Elt Ideal) (VS0.writes (Elt Ideal) VS0.junk L) = View.canon L :=
  View.read_writes_junk_eq_canon VS0 L
theorem readVS3 (L : List (View.Piece (Elt Ideal) S8x4096 .f32)) : VS3.read (Elt Ideal) (VS3.writes (Elt Ideal) VS3.junk L) = View.canon L :=
  View.read_writes_junk_eq_canon VS3 L

theorem outA_of {L : List (View.Piece (Elt Ideal) S256x4096 .bf16)} {G : S256x4096.Idx → Elt Ideal .bf16} (h : View.PiecesOf G L)
    (hc : ∀ y, ∃ p ∈ L, y ∈ p.1.set) : VO.read (Elt Ideal) (VO.writes (Elt Ideal) VO.junk L) = G :=
  (readVO L).trans (funext fun y => canon_of h y (hc y))
theorem rowA_of {L : List (View.Piece (Elt Ideal) S8x4096 .f32)} {G : S8x4096.Idx → Elt Ideal .f32} (h : View.PiecesOf G (List.take 8 L)) (y : S8x4096.Idx)
    (hc : ∃ p ∈ List.take 8 L, y ∈ p.1.set) : VS3.read (Elt Ideal) (VS3.writes (Elt Ideal) VS3.junk L) y = G y := by
  rw [readVS3]
  have e := View.canon_append_of_piecesOf G (List.drop 8 L) _ h y hc
  rwa [List.take_append_drop] at e
theorem rowB_of {L : List (View.Piece (Elt Ideal) S8x4096 .f32)} {G : S8x4096.Idx → Elt Ideal .f32} (h : View.PiecesOf G L) (y : S8x4096.Idx)
    (hc : ∃ p ∈ L, y ∈ p.1.set) (x : Vec Ideal S8x4096 .f32) : VS3.read (Elt Ideal) (VS3.writes (Elt Ideal) (hscM3.unread x) L) y = G y :=
  (View.read_writes_apply_eq_canon VS3 _ _ _ hc).trans (canon_of h y hc)

theorem stepA_ext (h0 : cond0_0 (grid0.coords t)) (h1 : ¬cond0_1 (grid0.coords t)) :
    (stepA m c t h0 h1).2.1 = View.canon (resA m c t h0 h1).2.1 := (stepA_1 m c t h0 h1).trans (readVS0 _)
theorem stepB_ext (h0 : ¬cond0_0 (grid0.coords t)) (h1 : cond0_1 (grid0.coords t)) (s : Vec Ideal S264x4096 .f32 × Vec Ideal S8x4096 .f32) :
    (stepB m c t h0 h1 s).2.1 = View.canon (resB m c t h0 h1 s.1 s.2).2.1 := (stepB_1 m c t h0 h1 s).trans (readVS0 _)

theorem stepA_out (h0 : cond0_0 (grid0.coords t)) (h1 : ¬cond0_1 (grid0.coords t)) :
    (stepA m c t h0 h1).1 = OG (Pt m c t) (View.canon (resA m c t h0 h1).2.1) (fun _ => 0) (iblk m c 1 t) :=
  (stepA_0 m c t h0 h1).trans (outA_of (piecesA_out c _ _ _ _ _ _ _ _ _ _ _ _ _ _ _ _ _ _ _ _ _ _ _ _ _ _ _ _ _ h0 h1 (iblk m c 0 t) (iblk m c 1 t) (Pt m c t)) (coverA m c t h0 h1))

theorem stepB_out (h0 : ¬cond0_0 (grid0.coords t)) (h1 : cond0_1 (grid0.coords t)) (s : Vec Ideal S264x4096 .f32 × Vec Ideal S8x4096 .f32) :
    (stepB m c t h0 h1 s).1 = OG (Pt m c t) (View.canon (resB m c t h0 h1 s.1 s.2).2.1) (fun Q => s.2 (ix2 0 Q)) (iblk m c 1 t) :=
  (stepB_0 m c t h0 h1 s).trans (outA_of (piecesB_out c _ _ _ _ _ _ _ _ _ _ _ _ _ _ _ _ _ _ _ _ _ _ _ _ _ _ _ _ _ h0 h1 (iblk m c 0 t) (iblk m c 1 t) (Pt m c t) s.1 s.2) (coverB m c t h0 h1 s.1 s.2))

/-- The first carried row is what a first block leaves, -/
theorem rowA_fin {P : Par} {E : Vec Ideal S264x4096 .f32} {h : Fin 4096 → EReal} {L : List (View.Piece (Elt Ideal) S8x4096 .f32)} {v : Vec Ideal S8x4096 .f32}
    (hv : v = VS3.read (Elt Ideal) (VS3.writes (Elt Ideal) VS3.junk L)) (hp : View.PiecesOf (RG P E h) (List.take 8 L))
    (hc : ∀ Q : Fin 4096, ∃ p ∈ List.take 8 L, (ix2 (0 : Fin 8) Q : S8x4096.Idx) ∈ p.1.set) (Q : Fin 4096) :
    (v (ix2 (0 : Fin 8) Q) : EReal) = HG P E (h Q) Q 256 := by
  rw [hv]
  exact rowA_of hp _ (hc Q)

/-- and what a later block leaves. -/
theorem rowB_fin {P : Par} {E : Vec Ideal S264x4096 .f32} {h : Fin 4096 → EReal} {L : List (View.Piece (Elt Ideal) S8x4096 .f32)} {v x : Vec Ideal S8x4096 .f32}
    (hv : v = VS3.read (Elt Ideal) (VS3.writes (Elt Ideal) (hscM3.unread x) L)) (hp : View.PiecesOf (RG P E h) L)
    (hc : ∀ Q : Fin 4096, ∃ p ∈ L, (ix2 (0 : Fin 8) Q : S8x4096.Idx) ∈ p.1.set) (Q : Fin 4096) :
    (v (ix2 (0 : Fin 8) Q) : EReal) = HG P E (h Q) Q 256 := by
  rw [hv]
  exact rowB_of hp _ (hc Q) x

attribute [local irreducible] RG HG hs

theorem piecesA' (h0 : cond0_0 (grid0.coords t)) (h1 : ¬cond0_1 (grid0.coords t)) : View.PiecesOf (RG (Pt m c t) (View.canon (resA m c t h0 h1).2.1) (fun _ => 0)) (List.take 8 (resA m c t h0 h1).2.2.1) := by
  have h := piecesA_row c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (Pt m c t)
  have e : runA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (Pt m c t).cw (Pt m c t).cb (Pt m c t).wa (Pt m c t).ba (Pt m c t).wx (Pt m c t).bx (Pt m c t).lam = resA m c t h0 h1 := rfl
  rw [e] at h
  exact h

theorem coverA' (h0 : cond0_0 (grid0.coords t)) (h1 : ¬cond0_1 (grid0.coords t)) (Q : Fin 4096) : ∃ p ∈ List.take 8 (resA m c t h0 h1).2.2.1, (ix2 (0 : Fin 8) Q : S8x4096.Idx) ∈ p.1.set :=
  rowA_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) Q

theorem stepA_row (h0 : cond0_0 (grid0.coords t)) (h1 : ¬cond0_1 (grid0.coords t)) (Q : Fin 4096) :
    ((stepA m c t h0 h1).2.2 (ix2 (0 : Fin 8) Q) : EReal) = HG (Pt m c t) (View.canon (resA m c t h0 h1).2.1) 0 Q 256 :=
  rowA_fin (h := fun _ => 0) (stepA_2 m c t h0 h1) (piecesA' m c t h0 h1) (coverA' m c t h0 h1) Q

theorem piecesB' (h0 : ¬cond0_0 (grid0.coords t)) (h1 : cond0_1 (grid0.coords t)) (s : Vec Ideal S264x4096 .f32 × Vec Ideal S8x4096 .f32) : View.PiecesOf (RG (Pt m c t) (View.canon (resB m c t h0 h1 s.1 s.2).2.1) (fun Q => s.2 (ix2 0 Q))) ((resB m c t h0 h1 s.1 s.2).2.2.1) := by
  have h := piecesB_row c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (Pt m c t) s.1 s.2
  have e : runB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (Pt m c t).cw (Pt m c t).cb (Pt m c t).wa (Pt m c t).ba (Pt m c t).wx (Pt m c t).bx (Pt m c t).lam s.1 s.2 = resB m c t h0 h1 s.1 s.2 := rfl
  rw [e] at h
  exact h

theorem coverB' (h0 : ¬cond0_0 (grid0.coords t)) (h1 : cond0_1 (grid0.coords t)) (s : Vec Ideal S264x4096 .f32 × Vec Ideal S8x4096 .f32) (Q : Fin 4096) : ∃ p ∈ (resB m c t h0 h1 s.1 s.2).2.2.1, (ix2 (0 : Fin 8) Q : S8x4096.Idx) ∈ p.1.set :=
  rowB_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) s.1 s.2 Q

theorem stepB_row (h0 : ¬cond0_0 (grid0.coords t)) (h1 : cond0_1 (grid0.coords t)) (s : Vec Ideal S264x4096 .f32 × Vec Ideal S8x4096 .f32) (Q : Fin 4096) :
    ((stepB m c t h0 h1 s).2.2 (ix2 (0 : Fin 8) Q) : EReal) = HG (Pt m c t) (View.canon (resB m c t h0 h1 s.1 s.2).2.1) (s.2 (ix2 (0 : Fin 8) Q) ) Q 256 :=
  rowB_fin (h := fun Q => s.2 (ix2 0 Q)) (stepB_2 m c t h0 h1 s) (piecesB' m c t h0 h1 s) (coverB' m c t h0 h1 s) Q

end Cert.KernelIdeal.Lru

end
-- ==== Proof.LruFinal.lean ====
/- The recurrent call's output: block after block by induction, then the whole array. -/
module

public import proofs.«01_k».proof.Proof.LruValue

@[expose] public section

set_option maxRecDepth 16384

noncomputable section

namespace Cert.KernelIdeal.Lru

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

attribute [local irreducible] RG HG hs

theorem t_lt (t : Fin cfg0.N) : t.val < 64 := lt_of_lt_of_eq t.isLt N_0

/-- The sequence of point `t`. -/
def bq (t : Fin cfg0.N) : Fin 2 := ⟨t.val / 32, by have := t_lt t; omega⟩

theorem tap_row (c : Dev nD) (t : Fin cfg0.N) (r : Fin 256) (Q : Fin 4096) (s : ℕ) (hs : s = 256 * (t.val % 32) + 3 + r.val) :
    ((iblk m c 0 t : Vec Ideal S256x4096 .f32) (ix2 r Q) : EReal) = tap (pr m c) (bq t) s Q := by
  have ht := t_lt t
  have hr := r.isLt
  unfold tap
  rw [dif_pos (by omega)]
  exact blk0 m c t r Q _ (by unfold bq; simp only; omega)

theorem tap_zero (pr : Vec Ideal S16384x20480 .f32) (b : Fin 2) (s : ℕ) (Q : Fin 4096) (h : s < 3) : tap pr b s Q = 0 := by
  unfold tap
  rw [dif_neg (by omega)]

theorem extA_of (c : Dev nD) (t : Fin cfg0.N) (h : t.val % 32 = 0) (E : Vec Ideal S264x4096 .f32)
    (hi : ∀ (k : Fin 264) (Q : Fin 4096) (r : Fin 256), k.val = 8 + r.val → (E (ix2 k Q) : EReal) = (iblk m c 0 t : Vec Ideal S256x4096 .f32) (ix2 r Q))
    (lo : ∀ (k : Fin 264) (Q : Fin 4096) (r : Fin 8), k.val = r.val → (E (ix2 k Q) : EReal) = 0) : ExtOf (pr m c) (bq t) (t.val % 32) E := by
  intro i Q hi5
  have hil := i.isLt
  by_cases h8 : i.val < 8
  · rw [lo i Q ⟨i.val, h8⟩ rfl, tap_zero _ _ _ _ (by omega)]
  · rw [hi i Q ⟨i.val - 8, by omega⟩ (by simp only; omega)]
    exact tap_row m c t _ Q _ (by simp only; omega)

theorem extB_of (c : Dev nD) (t t' : Fin cfg0.N) (h : ¬ t.val % 32 = 0) (ht' : t'.val = t.val - 1) (E E' : Vec Ideal S264x4096 .f32)
    (hE' : ExtOf (pr m c) (bq t') (t'.val % 32) E')
    (hi : ∀ (k : Fin 264) (Q : Fin 4096) (r : Fin 256), k.val = 8 + r.val → (E (ix2 k Q) : EReal) = (iblk m c 0 t : Vec Ideal S256x4096 .f32) (ix2 r Q))
    (lo : ∀ (k k' : Fin 264) (Q : Fin 4096) (r : Fin 8), k.val = r.val → k'.val = 256 + r.val → (E (ix2 k Q) : EReal) = E' (ix2 k' Q)) :
    ExtOf (pr m c) (bq t) (t.val % 32) E := by
  intro i Q hi5
  have hil := i.isLt
  by_cases h8 : i.val < 8
  · rw [lo i ⟨256 + i.val, by omega⟩ Q ⟨i.val, h8⟩ rfl rfl, hE' _ _ (by simp only; omega)]
    have hb : bq t' = bq t := by unfold bq; apply Fin.ext; simp only; omega
    rw [hb]
    congr 1
    simp only
    omega
  · rw [hi i Q ⟨i.val - 8, by omega⟩ (by simp only; omega)]
    exact tap_row m c t _ Q _ (by simp only; omega)

/-- What the carried buffers hold after point `t`. -/
def Inv (c : Dev nD) (t : Fin cfg0.N) : Prop :=
  ExtOf (pr m c) (bq t) (t.val % 32) (outsAt m c t.val t.isLt).2.1
    ∧ ∀ Q : Fin 4096, ((outsAt m c t.val t.isLt).2.2 (ix2 (0 : Fin 8) Q) : EReal) = HS (PM m c) (pr m c) (bq t) Q (256 * (t.val % 32) + 256)

/-- The output's block at point `t`. -/
def Outp (c : Dev nD) (t : Fin cfg0.N) : Prop :=
  ∀ (r : Fin 256) (Q : Fin 4096), ((outsAt m c t.val t.isLt).1 (ix2 r Q) : EReal)
    = HS (PM m c) (pr m c) (bq t) Q (256 * (t.val % 32) + r.val + 1) * gl ((iblk m c 1 t : Vec Ideal S256x4096 .f32) (ix2 r Q))

theorem OG_apply (P : Par) (E : Vec Ideal S264x4096 .f32) (h : Fin 4096 → EReal) (g : Vec Ideal S256x4096 .f32) (r : Fin 256) (Q : Fin 4096) :
    (OG P E h g (ix2 r Q) : EReal) = HG P E (h Q) Q (r.val + 1) * gl (g (ix2 r Q)) := rfl

theorem HS_zero (P : Par) (pr : Vec Ideal S16384x20480 .f32) (b : Fin 2) (Q : Fin 4096) : HS P pr b Q 0 = 0 := by
  unfold HS hs
  rfl

theorem inv_A (c : Dev nD) (t : Fin cfg0.N) (h : t.val % 32 = 0) : Inv m c t ∧ Outp m c t := by
  unfold Inv Outp
  rw [outsAt_A m c t h]
  have h0 := (hcond0_0 t).mpr h
  have h1 : ¬cond0_1 (grid0.coords t) := fun x => (hcond0_1 t).mp x h
  have e := stepA_ext m c t h0 h1
  have hE : ExtOf (pr m c) (bq t) (t.val % 32) (stepA m c t h0 h1).2.1 := by
    rw [e]
    exact extA_of m c t h _ (fun k Q r hk => extA_hi c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) k Q r hk) (fun k Q r hk => extA_lo c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) k Q r hk)
  have hz : ∀ Q, (0 : EReal) = HS (PM m c) (pr m c) (bq t) Q (256 * (t.val % 32)) := fun Q => by rw [h]; exact (HS_zero _ _ _ _).symm
  refine ⟨⟨hE, fun Q => ?_⟩, fun r Q => ?_⟩
  · rw [stepA_row, ← e, Pt_eq, hz Q]
    exact HG_eq hE Q 256 (Nat.le_refl _)
  · rw [stepA_out, ← e, Pt_eq, OG_apply, hz Q, HG_eq hE Q _ r.isLt]
    rfl

theorem inv_B (c : Dev nD) (t t' : Fin cfg0.N) (h : ¬ t.val % 32 = 0) (ht' : t'.val = t.val - 1) (ih : Inv m c t') : Inv m c t ∧ Outp m c t := by
  unfold Inv Outp
  rw [outsAt_B m c t h]
  have h0 : ¬cond0_0 (grid0.coords t) := fun x => h ((hcond0_0 t).mp x)
  have h1 := (hcond0_1 t).mpr h
  obtain ⟨iE, iR⟩ := ih
  have es : (outsAt m c (t.val - 1) (Nat.lt_of_le_of_lt (Nat.sub_le _ _) t.isLt)).2 = (outsAt m c t'.val t'.isLt).2 := by
    congr 2
    exact ht'.symm
  rw [es]
  generalize (outsAt m c t'.val t'.isLt).2 = s at iE iR
  have e := stepB_ext m c t h0 h1 s
  have hE : ExtOf (pr m c) (bq t) (t.val % 32) (stepB m c t h0 h1 s).2.1 := by
    rw [e]
    exact extB_of m c t t' h ht' _ _ iE (fun k Q r hk => extB_hi c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) s.1 s.2 k Q r hk)
      (fun k k' Q r hk hk' => extB_lo c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0 (Memref.isWhole_whole _) scM1 (Memref.isWhole_whole _) scM2 (Memref.isWhole_whole _) scM3 hscM3 h0 h1 (iblk m c 0 t) (iblk m c 1 t) (iblk m c 2 t) (iblk m c 3 t) (iblk m c 4 t) (iblk m c 5 t) (iblk m c 6 t) (iblk m c 7 t) (iblk m c 8 t) s.1 s.2 k k' Q r hk hk')
  have hb : bq t' = bq t := by unfold bq; apply Fin.ext; simp only; omega
  have hz : ∀ Q, (s.2 (ix2 (0 : Fin 8) Q) : EReal) = HS (PM m c) (pr m c) (bq t) Q (256 * (t.val % 32)) := fun Q => by
    rw [iR, hb]
    congr 1
    omega
  refine ⟨⟨hE, fun Q => ?_⟩, fun r Q => ?_⟩
  · rw [stepB_row, ← e, Pt_eq, hz Q]
    exact HG_eq hE Q 256 (Nat.le_refl _)
  · rw [stepB_out, ← e, Pt_eq, OG_apply, hz Q, HG_eq hE Q _ r.isLt]
    rfl

theorem inv (c : Dev nD) : ∀ (n : ℕ) (hn : n < cfg0.N), Inv m c ⟨n, hn⟩ ∧ Outp m c ⟨n, hn⟩
  | 0, hn => inv_A m c ⟨0, hn⟩ (Nat.zero_mod _)
  | n + 1, hn => by
    by_cases h : (n + 1) % 32 = 0
    · exact inv_A m c ⟨n + 1, hn⟩ h
    · exact inv_B m c ⟨n + 1, hn⟩ ⟨n, by omega⟩ h rfl (inv c n (by omega)).1

theorem flushed_eq (c : Dev nD) (t : Fin cfg0.N) :
    (dats m 0 c).flushed 9 t = ((cfg0.win 9).blk t).view.read (Elt Ideal) (OUT (PM m c) (pr m c)) := by
  refine Eq.trans (show (dats m 0 c).flushed 9 t = (dats m 0 c).after 9 t from rfl) ?_
  rw [after_9]
  obtain ⟨⟨e0, e1⟩, -, -⟩ := idx_facts t
  have ht := t_lt t
  funext y
  obtain ⟨r, Q, rfl⟩ : ∃ (r : Fin 256) (Q : Fin 4096), y = ix2 r Q := ⟨y 0, y 1, eq_ix2 y⟩
  have hr := r.isLt
  show _ = OUT (PM m c) (pr m c) (((cfg0.win 9).blk t).view.emb (ix2 r Q))
  have em : (((cfg0.win 9).blk t).view.emb (ix2 r Q) : S16384x4096.Idx) = ix2 (⟨256 * t.val + r.val, by omega⟩ : Fin 16384) Q := by
    funext a; apply Fin.ext
    match a with
    | ⟨0, _⟩ => show win0_9.index t (0 : Fin 2) * 256 + 1 * r.val = 256 * t.val + r.val; omega
    | ⟨1, _⟩ => show win0_9.index t (1 : Fin 2) * 4096 + 1 * Q.val = Q.val; omega
  rw [em]
  refine ((inv m c t.val t.isLt).2 r Q).trans ?_
  rw [blk1 m c t r Q ⟨256 * t.val + r.val, by omega⟩ rfl]
  show HS _ _ (bq t) Q _ * _ = HS _ _ (⟨(256 * t.val + r.val) / 8192, _⟩ : Fin 2) Q ((256 * t.val + r.val) % 8192 + 1) * _
  have hb : (⟨(256 * t.val + r.val) / 8192, by omega⟩ : Fin 2) = bq t := by unfold bq; apply Fin.ext; simp only; omega
  have hn : (256 * t.val + r.val) % 8192 = 256 * (t.val % 32) + r.val := by omega
  rw [hb, hn]

theorem mem_blk9 (t : Fin cfg0.N) (i : S16384x4096.Idx) :
    i ∈ ((cfg0.win 9).blk t).view.set ↔ ∀ a : Fin 2, win0_9.index t a * S256x4096.size a ≤ (i a).val ∧ (i a).val < win0_9.index t a * S256x4096.size a + S256x4096.size a := by
  show i ∈ ((View.whole main_v6).slice (win0_9.rect t)).set ↔ _
  rw [View.set_slice_whole, Rect.mem_set_unit]
  exact Iff.rfl

/-- The array after the run: the blocks tile it. -/
theorem final (c : Dev nD) : (dats m 0 c).arrAt 9 cfg0.N = OUT (PM m c) (pr m c) :=
  (dats m 0 c).arrAt_eq_of_cover 9 _ (fun t _ => flushed_eq m c t) (fun i => by
    have h0 : (i 0).val < 16384 := (i 0).isLt
    have h1 : (i 1).val < 4096 := (i 1).isLt
    obtain ⟨⟨e0, e1⟩, -⟩ := idx_facts ⟨(i 0).val / 256, lt_of_lt_of_eq (by omega) N_0.symm⟩
    refine ⟨⟨(i 0).val / 256, lt_of_lt_of_eq (by omega) N_0.symm⟩, flush0_9 _, ?_⟩
    rw [mem_blk9]
    dsimp only at e0 e1
    intro a
    match a with
    | ⟨0, _⟩ => show win0_9.index _ (0 : Fin 2) * 256 ≤ (i 0).val ∧ (i 0).val < win0_9.index _ (0 : Fin 2) * 256 + 256; rw [e0]; omega
    | ⟨1, _⟩ => show win0_9.index _ (1 : Fin 2) * 4096 ≤ (i 1).val ∧ (i 1).val < win0_9.index _ (1 : Fin 2) * 4096 + 4096; rw [e1]; omega)

/-- The run, at the output and the arguments. -/
theorem run_out : θ_run defs (onTc (τ := τ) (main (F := Ideal))) ⟨m, fun _ => 0, ρ⟩ (fun r => ∀ c : Dev nD,
      r.2.mem ((c : Thread nD τ).loc main_v6) = OUT (PM m c) (pr m c)) :=
  (θ_run defs _ _).mono (fun r h c => ((h c).1 9).trans (final m c)) (run_main m ρ)

end Cert.KernelIdeal.Lru

end
-- ==== Proof.LruRefScan.lean ====
/- The recurrent reference's loop: the carried arrays after `k` trips. -/
module

public import proofs.«01_k».proof.Proof.Gen.ReferenceIdeal.Run
public import proofs.«01_k».proof.Proof.LruScan
public import Idealize.ShloMosaic.Lib.Pointwise.ShapeOpsCore
public import Idealize.ShloMosaic.Lib.ValueLayout

@[expose] public section

set_option maxRecDepth 16384

noncomputable section

namespace Cert.ReferenceIdeal.Lru

open Cert.ReferenceIdeal Cert.ReferenceIdeal.Gen Cert.ReferenceIdeal.Value Idealize.ShloMosaic.TcCoe Idealize.SL.Sem
open Idealize.ShloMosaic hiding ix1 ix2 ix3
open Idealize.ShloMosaic.StableHlo
open Idealize.ShloMosaic.ValueIdx
open Cert.KernelIdeal.Lru (hs)

/-- Row `k` of an array of rows, sliced at a start that is the row's number. -/
theorem ds_row (x : S8192x2x4096.Idx → EReal) (start : Fin 3 → Int) (k : Fin 8192) (h0 : start 0 = (k.val : Int)) (h1 : start 1 = 0) (h2 : start 2 = 0)
    (h : S8192x2x4096.Slices (fun _ => 0) S1x2x4096) (b : Fin 2) (Q : Fin 4096) :
    Host.dynamicSlice S1x2x4096 x start h (ix3 (0 : Fin 1) b Q) = x (ix3 k b Q) := by
  rw [Host.dynamicSlice_apply]
  have c0 := Host.clampedStart_of_le (s := S8192x2x4096) (t := S1x2x4096) h.1 start (0 : Fin 3) k.val h0 (by show k.val + 1 ≤ 8192; omega)
  have c1 := Host.clampedStart_of_le (s := S8192x2x4096) (t := S1x2x4096) h.1 start (1 : Fin 3) 0 h1 (by show 0 + 2 ≤ 2; omega)
  have c2 := Host.clampedStart_of_le (s := S8192x2x4096) (t := S1x2x4096) h.1 start (2 : Fin 3) 0 h2 (by show 0 + 4096 ≤ 4096; omega)
  refine congrArg x (funext fun a => Fin.ext ?_)
  match a with
  | ⟨0, _⟩ => show Host.clampedStart S8192x2x4096 S1x2x4096 h.1 start (0 : Fin 3) + 0 = k.val; omega
  | ⟨1, _⟩ => show Host.clampedStart S8192x2x4096 S1x2x4096 h.1 start (1 : Fin 3) + b.val = b.val; omega
  | ⟨2, _⟩ => show Host.clampedStart S8192x2x4096 S1x2x4096 h.1 start (2 : Fin 3) + Q.val = Q.val; omega

/-- An array of rows with row `k` replaced. -/
theorem dus_row (x : S8192x2x4096.Idx → EReal) (u : S1x2x4096.Idx → EReal) (start : Fin 3 → Int) (k : Fin 8192) (h0 : start 0 = (k.val : Int)) (h1 : start 1 = 0) (h2 : start 2 = 0)
    (h : S8192x2x4096.Slices (fun _ => 0) S1x2x4096) (n : Fin 8192) (b : Fin 2) (Q : Fin 4096) :
    Host.dynamicUpdateSlice x u start h (ix3 n b Q) = if n = k then u (ix3 (0 : Fin 1) b Q) else x (ix3 n b Q) := by
  rw [Host.dynamicUpdateSlice_apply]
  have c0 := Host.clampedStart_of_le (s := S8192x2x4096) (t := S1x2x4096) h.1 start (0 : Fin 3) k.val h0 (by show k.val + 1 ≤ 8192; omega)
  have c1 := Host.clampedStart_of_le (s := S8192x2x4096) (t := S1x2x4096) h.1 start (1 : Fin 3) 0 h1 (by show 0 + 2 ≤ 2; omega)
  have c2 := Host.clampedStart_of_le (s := S8192x2x4096) (t := S1x2x4096) h.1 start (2 : Fin 3) 0 h2 (by show 0 + 4096 ≤ 4096; omega)
  by_cases e : n = k
  · rw [if_pos e, dif_pos ?_]
    · refine congrArg u (funext fun a => Fin.ext ?_)
      match a with
      | ⟨0, _⟩ => show n.val - Host.clampedStart S8192x2x4096 S1x2x4096 h.1 start (0 : Fin 3) = 0; rw [e]; omega
      | ⟨1, _⟩ => show b.val - Host.clampedStart S8192x2x4096 S1x2x4096 h.1 start (1 : Fin 3) = b.val; omega
      | ⟨2, _⟩ => show Q.val - Host.clampedStart S8192x2x4096 S1x2x4096 h.1 start (2 : Fin 3) = Q.val; omega
    · intro a
      match a with
      | ⟨0, _⟩ => show Host.clampedStart S8192x2x4096 S1x2x4096 h.1 start (0 : Fin 3) ≤ n.val ∧ n.val < Host.clampedStart S8192x2x4096 S1x2x4096 h.1 start (0 : Fin 3) + 1; rw [e]; omega
      | ⟨1, _⟩ => show Host.clampedStart S8192x2x4096 S1x2x4096 h.1 start (1 : Fin 3) ≤ b.val ∧ b.val < Host.clampedStart S8192x2x4096 S1x2x4096 h.1 start (1 : Fin 3) + 2; omega
      | ⟨2, _⟩ => show Host.clampedStart S8192x2x4096 S1x2x4096 h.1 start (2 : Fin 3) ≤ Q.val ∧ Q.val < Host.clampedStart S8192x2x4096 S1x2x4096 h.1 start (2 : Fin 3) + 4096; omega
  · rw [if_neg e, dif_neg ?_]
    intro hin
    have h' : Host.clampedStart S8192x2x4096 S1x2x4096 h.1 start (0 : Fin 3) ≤ n.val ∧ n.val < Host.clampedStart S8192x2x4096 S1x2x4096 h.1 start (0 : Fin 3) + 1 := hin (0 : Fin 3)
    exact e (Fin.ext (by omega))

theorem toInt_of (k : ℕ) (h : k < 8192) : (BitVec.ofNat 32 k).toInt = (k : Int) := by
  rw [BitVec.toInt_eq_toNat_of_lt (by rw [BitVec.toNat_ofNat]; omega), BitVec.toNat_ofNat, Nat.mod_eq_of_lt (by omega)]

variable (V : Valuation τ sig (Elt Ideal))

/-- The carried arrays: the decays, the addends, the state, the rows. -/
def g0 : S8192x2x4096.Idx → EReal := V (Proc.devRef .tc main_v79_0)
def g1 : S8192x2x4096.Idx → EReal := V (Proc.devRef .tc main_v79_1)
def g3 : S2x4096.Idx → EReal := V (Proc.devRef .tc main_v79_3)
def g4 : S8192x2x4096.Idx → EReal := V (Proc.devRef .tc main_v79_4)

theorem keep0 : ∀ k, STEP^[k] V (Proc.devRef .tc main_v79_0) = V (Proc.devRef .tc main_v79_0)
  | 0 => rfl
  | k + 1 => by rw [Function.iterate_succ_apply', STEP_main_v79_0, keep0 k]

theorem keep1 : ∀ k, STEP^[k] V (Proc.devRef .tc main_v79_1) = V (Proc.devRef .tc main_v79_1)
  | 0 => rfl
  | k + 1 => by rw [Function.iterate_succ_apply', STEP_main_v79_1, keep1 k]

theorem ctr (h : V (Proc.devRef .tc main_v79_2) = fun _ => (0#32 : BitVec 32)) :
    ∀ k : ℕ, STEP^[k] V (Proc.devRef .tc main_v79_2) = fun _ => (BitVec.ofNat 32 k : BitVec 32)
  | 0 => h
  | k + 1 => by
    rw [Function.iterate_succ_apply', STEP_main_v79_2]
    unfold step_main_v79_2
    rw [ctr h k]
    funext i
    show (BitVec.ofNat 32 k : BitVec 32) + 1#32 = BitVec.ofNat 32 (k + 1)
    exact (BitVec.ofNat_add k 1).symm

theorem g0_keep (k : ℕ) : g0 (STEP^[k] V) = g0 V := keep0 V k
theorem g1_keep (k : ℕ) : g1 (STEP^[k] V) = g1 V := keep1 V k
theorem g3_step : g3 (STEP V) = step_main_v79_3 V := STEP_main_v79_3 V
theorem g4_step : g4 (STEP V) = step_main_v79_4 V := STEP_main_v79_4 V

/-- One trip's row. -/
theorem row_val (W : Valuation τ sig (Elt Ideal)) (k : Fin 8192) (hk : W (Proc.devRef .tc main_v79_2) = fun _ => (BitVec.ofNat 32 k.val : BitVec 32))
    (b : Fin 2) (Q : Fin 4096) :
    ((res_main_while0b_v100 W : Vec Ideal S2x4096 .f32) (ix2 b Q) : EReal)
      = g0 W (ix3 k b Q) * g3 W (ix2 b Q)
        + g1 W (ix3 k b Q) := by
  unfold res_main_while0b_v100
  rw [hk]
  show (shapeCast S2x4096 _ _ (ix2 b Q) : EReal) * _ + (shapeCast S2x4096 _ _ (ix2 b Q) : EReal) = _
  rw [shapeCast_1ab_ab_apply, shapeCast_1ab_ab_apply]
  rw [ds_row _ _ k (toInt_of k.val k.isLt) rfl rfl, ds_row _ _ k (toInt_of k.val k.isLt) rfl rfl]
  rfl

/-- The carried state and the rows stored, after `k` trips. -/
theorem scan (A U : ℕ → Fin 2 → Fin 4096 → EReal)
    (hA : ∀ (n : Fin 8192) b Q, (g0 V (ix3 n b Q) : EReal) = A n.val b Q)
    (hU : ∀ (n : Fin 8192) b Q, (g1 V (ix3 n b Q) : EReal) = U n.val b Q)
    (hc : V (Proc.devRef .tc main_v79_2) = fun _ => (0#32 : BitVec 32))
    (h3 : ∀ b Q, (g3 V (ix2 b Q) : EReal) = 0) :
    ∀ k, k ≤ 8192 →
      (∀ b Q, (g3 (STEP^[k] V) (ix2 b Q) : EReal) = hs (fun n => A n b Q) (fun n => U n b Q) 0 k)
      ∧ ∀ (n : Fin 8192) b Q, n.val < k →
        (g4 (STEP^[k] V) (ix3 n b Q) : EReal) = hs (fun n => A n b Q) (fun n => U n b Q) 0 (n.val + 1)
  | 0, _ => ⟨h3, fun n b Q h => absurd h (Nat.not_lt_zero _)⟩
  | k + 1, hk => by
    obtain ⟨i3, i4⟩ := scan A U hA hU hc h3 k (by omega)
    have hrow : ∀ b Q, ((res_main_while0b_v100 (STEP^[k] V) : Vec Ideal S2x4096 .f32) (ix2 b Q) : EReal)
        = hs (fun n => A n b Q) (fun n => U n b Q) 0 (k + 1) := fun b Q => by
      rw [row_val (STEP^[k] V) ⟨k, by omega⟩ (ctr V hc k) b Q, g0_keep, g1_keep, hA, hU, i3]
      rfl
    rw [Function.iterate_succ_apply']
    constructor
    · intro b Q
      rw [g3_step]
      exact hrow b Q
    · intro n b Q hn
      rw [g4_step]
      unfold step_main_v79_4
      rw [ctr V hc k]
      refine (dus_row _ _ _ (⟨k, by omega⟩ : Fin 8192) (toInt_of k (by omega)) rfl rfl _ n b Q).trans ?_
      by_cases e : n = ⟨k, by omega⟩
      · rw [if_pos e, broadcastInDim_apply _ _ _ _ (ix2 b Q) (fun a => by fin_cases a <;> rfl), hrow, e]
      · rw [if_neg e]
        exact i4 n b Q (by have : n.val ≠ k := fun h => e (Fin.ext h); omega)

end Cert.ReferenceIdeal.Lru

end
-- ==== Proof.LruRefOps.lean ====
/- The recurrent reference's operations before and after its loop, read one element at a time. -/
module

public import proofs.«01_k».proof.Proof.Gen.ReferenceIdeal.Run
public import proofs.«01_k».proof.Proof.LruGrid
public import Idealize.ShloMosaic.Lib.IdealHost
public import Idealize.ShloMosaic.Lib.Pointwise.ShapeOpsCore
public import Idealize.ShloMosaic.Lib.ValueLayout
public import Idealize.ShloMosaic.Lib.ValueIdx
public import Idealize.ShloMosaic.Lib.KernelVsHost
public import Idealize.ShloMosaic.PureOps.Ideal.Laws

@[expose] public section

set_option maxRecDepth 16384

noncomputable section

namespace Cert.ReferenceIdeal.Lru

open Cert.ReferenceIdeal Cert.ReferenceIdeal.Gen Idealize.ShloMosaic.TcCoe Idealize.SL.Sem
open Idealize.ShloMosaic hiding ix1 ix2 ix3
open Idealize.ShloMosaic.ValueIdx
open Cert.KernelIdeal.Lru (Par ZR AR UR CVR XS HS OUT tap sg sp m8 m8_eq aa uu gl cv hs la_nonpos)

/-! ## The operations, as functions of the arguments -/

abbrev A3 := FVec Ideal S2x8192x4096 .f32

def v0 (a0 : FVec Ideal S16384x20480 .f32) : FVec Ideal S2x8192x20480 .f32 := shapeCast S2x8192x20480 a0 shapeCasts_S16384x20480_S2x8192x20480
def v2 (a0 : FVec Ideal S16384x20480 .f32) : A3 := extractStridedSlice S2x8192x4096 ![0, 0, 4096] (v0 a0) slices_S2x8192x20480_S2x8192x4096_0_0_4096
def v3 (a0 : FVec Ideal S16384x20480 .f32) : FVec Ideal S2x8195x4096 .f32 :=
  pad S2x8195x4096 ![0, 3, 0] ![0, 0, 0] ![0, 0, 0] (extractStridedSlice S2x8192x4096 ![0, 0, 0] (v0 a0) slices_S2x8192x20480_S2x8192x4096_0_0_0)
    (sitofp (F := Ideal) .f32 (constantI S_ 32 0#32)) pads_S2x8192x4096_S2x8195x4096_000_300_000 h_S_
def bc (x : FVec Ideal S4096 .f32) : A3 :=
  broadcastInDim S2x8192x4096 ![0, 1, 2] bcast_S1x1x4096_S2x8192x4096_0_1_2 (broadcastInDim S1x1x4096 ![2] bcast_S4096_S1x1x4096_2 x)
def bk (w : BitVec 32) : A3 := broadcastInDim S2x8192x4096 ![] bcast_S_S2x8192x4096 (constant (F := Ideal) S_ .f32 w)
def v33 (a0 : FVec Ideal S16384x20480 .f32) (a1 : FVec Ideal S4x4096 .f32) (a2 : FVec Ideal S4096 .f32) : A3 :=
  addf (addf (addf (addf (bc a2)
    (mulf (bc (shapeCast S4096 (extractStridedSlice S1x4096 ![0, 0] a1 slices_S4x4096_S1x4096_0_0) shapeCasts_S1x4096_S4096))
      (extractStridedSlice S2x8192x4096 ![0, 0, 0] (v3 a0) slices_S2x8195x4096_S2x8192x4096_0_0_0)))
    (mulf (bc (shapeCast S4096 (extractStridedSlice S1x4096 ![1, 0] a1 slices_S4x4096_S1x4096_1_0) shapeCasts_S1x4096_S4096))
      (extractStridedSlice S2x8192x4096 ![0, 1, 0] (v3 a0) slices_S2x8195x4096_S2x8192x4096_0_1_0)))
    (mulf (bc (shapeCast S4096 (extractStridedSlice S1x4096 ![2, 0] a1 slices_S4x4096_S1x4096_2_0) shapeCasts_S1x4096_S4096))
      (extractStridedSlice S2x8192x4096 ![0, 2, 0] (v3 a0) slices_S2x8195x4096_S2x8192x4096_0_2_0)))
    (mulf (bc (shapeCast S4096 (extractStridedSlice S1x4096 ![3, 0] a1 slices_S4x4096_S1x4096_3_0) shapeCasts_S1x4096_S4096))
      (extractStridedSlice S2x8192x4096 ![0, 3, 0] (v3 a0) slices_S2x8195x4096_S2x8192x4096_0_3_0))
def zz (x : A3) (w : FVec Ideal S16x256x256 .f32) (b : FVec Ideal S4096 .f32) : A3 :=
  addf (shapeCast S2x8192x4096 (transpose S2x8192x16x256 [2, 3, 0, 1]
    (Host.dotGeneral (φ₁ := .f32) (φ₂ := .f32) dot_S16x256x256_S2x8192x16x256_S16x256x2x8192_1_3_2_01_0_2 none w
      (shapeCast S2x8192x16x256 x shapeCasts_S2x8192x4096_S2x8192x16x256))
    transposes_S16x256x2x8192_S2x8192x16x256_2_3_0_1) shapeCasts_S2x8192x16x256_S2x8192x4096) (bc b)
def sgv (z : A3) : A3 := Host.divf (bk 0x3F800000#32) (addf (bk 0x3F800000#32) (Host.exp (Host.negf z)))
def b0 : FVec Ideal S4096 .f32 := broadcastInDim S4096 ![] bcast_S_S4096 (constant (F := Ideal) S_ .f32 0x00000000#32)
def spv (x : FVec Ideal S4096 .f32) : FVec Ideal S4096 .f32 :=
  select (cmpf .une (subf x b0) (subf x b0)) (addf x b0)
    (addf (maximumf x b0) (Host.log1p (Host.exp (Host.negf (Host.absf (subf x b0))))))
def lv (r : A3) (lam : FVec Ideal S4096 .f32) : A3 := mulf (mulf (bk 0xC1000000#32) r) (bc (spv (Host.negf lam)))
def uv (l i x : A3) : A3 := mulf (Host.sqrt (Host.negf (Host.expm1 (mulf (bk 0x40000000#32) l)))) (mulf i x)
def glv (g : A3) : A3 :=
  mulf g (mulf (bk 0x3F000000#32) (addf (bk 0x3F800000#32) (Host.tanh (mulf (bk 0x3F4C422A#32)
    (addf g (mulf (bk 0x3D372713#32) (mulf (mulf g g) g)))))))

/-! ## Read at an index -/

variable (a0 : FVec Ideal S16384x20480 .f32) (a1 : FVec Ideal S4x4096 .f32) (a2 : FVec Ideal S4096 .f32)
  (b : Fin 2) (n : Fin 8192) (Q : Fin 4096)

theorem v0_apply (k : Fin 20480) : v0 a0 (ix3 b n k) = a0 (ix2 (⟨8192 * b.val + n.val, by omega⟩ : Fin 16384) k) :=
  shapeCast_apply _ _ _ _ (by
    rw [Shape.rowMajor_val_two, Shape.rowMajor_val_three]
    show (8192 * b.val + n.val) * 20480 + k.val = (b.val * 8192 + n.val) * 20480 + k.val
    omega)

theorem v2_apply : v2 a0 (ix3 b n Q) = a0 (ix2 (⟨8192 * b.val + n.val, by omega⟩ : Fin 16384) (⟨4096 + Q.val, by omega⟩ : Fin 20480)) := by
  rw [← v0_apply a0 b n]
  exact extractStridedSlice_apply _ _ _ _ _ fun a => by
    match a with
    | ⟨0, _⟩ => show b.val = 0 + b.val; omega
    | ⟨1, _⟩ => show n.val = 0 + n.val; omega
    | ⟨2, _⟩ => show 4096 + Q.val = 4096 + Q.val; rfl

theorem v3_apply (s : Fin 8195) : (v3 a0 (ix3 b s Q) : EReal) = tap a0 b s.val Q := by
  unfold v3 tap
  by_cases h : 3 ≤ s.val
  · rw [dif_pos ⟨h, s.isLt⟩]
    refine (pad_apply_of_inside _ _ _ _ _ _ _ _ (ix3 b (⟨s.val - 3, by omega⟩ : Fin 8192) Q) fun a => by
      match a with
      | ⟨0, _⟩ => show b.val = 0 + b.val * 1; omega
      | ⟨1, _⟩ => show s.val = 3 + (s.val - 3) * 1; omega
      | ⟨2, _⟩ => show Q.val = 0 + Q.val * 1; omega).trans ?_
    refine (extractStridedSlice_apply _ _ _ _ (ix3 b (⟨s.val - 3, by omega⟩ : Fin 8192) (⟨Q.val, by omega⟩ : Fin 20480)) fun a => by
      match a with
      | ⟨0, _⟩ => show b.val = 0 + b.val; omega
      | ⟨1, _⟩ => show s.val - 3 = 0 + (s.val - 3); omega
      | ⟨2, _⟩ => show Q.val = 0 + Q.val; omega).trans ?_
    exact v0_apply a0 b _ _
  · rw [dif_neg fun h' => h h'.1]
    refine (pad_apply_of_not_inside _ _ _ _ _ _ _ _ (1 : Fin 3) fun h' => h h'.1).trans ?_
    show (((0#32 : BitVec 32).toInt : ℝ) : EReal) = 0
    simp

theorem bc_apply (x : FVec Ideal S4096 .f32) : bc x (ix3 b n Q) = x (ix1 Q) := by
  unfold bc
  rw [broadcastInDim_apply _ _ _ _ (ix3 (0 : Fin 1) (0 : Fin 1) Q) (fun a => by fin_cases a <;> rfl),
    broadcastInDim_apply _ _ _ _ (ix1 Q) (fun a => by fin_cases a; rfl)]

theorem bk_apply (w : BitVec 32) (i : S2x8192x4096.Idx) : (bk w i : EReal) = Ideal.ofBits .f32 w := rfl

theorem row_apply (k : Fin 4) (off : Fin 2 → ℕ) (h : S4x4096.Slices off S1x4096) (ho : off = ![k.val, 0]) :
    shapeCast S4096 (extractStridedSlice S1x4096 off a1 h) shapeCasts_S1x4096_S4096 (ix1 Q) = a1 (ix2 k Q) := by
  refine (shapeCast_apply _ _ _ (ix2 (0 : Fin 1) Q) (by
    rw [Shape.rowMajor_val_two, Shape.rowMajor_val_one]
    show 0 * 4096 + Q.val = Q.val
    omega)).trans ?_
  subst ho
  exact extractStridedSlice_apply _ _ _ _ _ fun a => by
    match a with
    | ⟨0, _⟩ => show k.val = k.val + 0; rfl
    | ⟨1, _⟩ => show Q.val = 0 + Q.val; omega

theorem tap_apply (k : Fin 4) (off : Fin 3 → ℕ) (h : S2x8195x4096.Slices off S2x8192x4096) (ho : off = ![0, k.val, 0]) :
    (extractStridedSlice S2x8192x4096 off (v3 a0) h (ix3 b n Q) : EReal) = tap a0 b (n.val + k.val) Q := by
  subst ho
  refine (extractStridedSlice_apply _ _ _ _ (ix3 b (⟨n.val + k.val, by omega⟩ : Fin 8195) Q) fun a => by
    match a with
    | ⟨0, _⟩ => show b.val = 0 + b.val; omega
    | ⟨1, _⟩ => show n.val + k.val = k.val + n.val; omega
    | ⟨2, _⟩ => show Q.val = 0 + Q.val; omega).trans ?_
  exact v3_apply a0 b Q _

/-- A row vector of the arguments as the kernel holds it. -/
def up (x : FVec Ideal Cert.KernelIdeal.S4096 .f32) : FVec Ideal Cert.KernelIdeal.S1x4096 .f32 :=
  shapeCast Cert.KernelIdeal.S1x4096 x Cert.KernelIdeal.Gen.shapeCasts_S4096_S1x4096

theorem up_apply (x : FVec Ideal S4096 .f32) : up x (ix2 (0 : Fin 1) Q) = x (ix1 Q) :=
  shapeCast_apply _ _ _ (ix1 Q) (by
    rw [Shape.rowMajor_val_one, Shape.rowMajor_val_two]
    show Q.val = 0 * 4096 + Q.val
    omega)

/-- The convolution. -/
theorem v33_apply : (v33 a0 a1 a2 (ix3 b n Q) : EReal)
    = cv (a2 (ix1 Q)) (fun k => a1 (ix2 k Q)) (fun k => tap a0 b (n.val + k.val) Q) := by
  unfold v33
  simp only [addf_apply, mulf_apply, bc_apply]
  rw [row_apply a1 Q 0 ![0, 0] slices_S4x4096_S1x4096_0_0 rfl, row_apply a1 Q 1 ![1, 0] slices_S4x4096_S1x4096_1_0 rfl, row_apply a1 Q 2 ![2, 0] slices_S4x4096_S1x4096_2_0 rfl, row_apply a1 Q 3 ![3, 0] slices_S4x4096_S1x4096_3_0 rfl]
  rw [tap_apply a0 b n Q 0 ![0, 0, 0] slices_S2x8195x4096_S2x8192x4096_0_0_0 rfl, tap_apply a0 b n Q 1 ![0, 1, 0] slices_S2x8195x4096_S2x8192x4096_0_1_0 rfl, tap_apply a0 b n Q 2 ![0, 2, 0] slices_S2x8195x4096_S2x8192x4096_0_2_0 rfl, tap_apply a0 b n Q 3 ![0, 3, 0] slices_S2x8195x4096_S2x8192x4096_0_3_0 rfl]
  rfl

/-- A gate's product. -/
theorem zz_apply (x : A3) (w : FVec Ideal S16x256x256 .f32) (c : FVec Ideal S4096 .f32) :
    (zz x w c (ix3 b n Q) : EReal) = ZR w (up c) (fun Q => x (ix3 b n Q)) Q := by
  unfold zz
  rw [addf_apply, bc_apply]
  have h1 : Q.val / 256 < 16 := by omega
  have h2 : Q.val % 256 < 256 := Nat.mod_lt _ (by decide)
  let j4 : S2x8192x16x256.Idx := fun a => match a with
    | ⟨0, _⟩ => ⟨b.val, b.isLt⟩ | ⟨1, _⟩ => ⟨n.val, n.isLt⟩ | ⟨2, _⟩ => ⟨Q.val / 256, h1⟩ | ⟨3, _⟩ => ⟨Q.val % 256, h2⟩
  let jt : S16x256x2x8192.Idx := fun a => match a with
    | ⟨0, _⟩ => ⟨Q.val / 256, h1⟩ | ⟨1, _⟩ => ⟨Q.val % 256, h2⟩ | ⟨2, _⟩ => ⟨b.val, b.isLt⟩ | ⟨3, _⟩ => ⟨n.val, n.isLt⟩
  rw [shapeCast_apply _ _ (ix3 b n Q) j4 (by
    rw [Shape.rowMajor_val_four, Shape.rowMajor_val_three]
    show ((b.val * 8192 + n.val) * 16 + Q.val / 256) * 256 + Q.val % 256 = (b.val * 8192 + n.val) * 4096 + Q.val
    omega)]
  rw [transpose_apply _ _ _ j4 jt (fun a => by
    match a with
    | ⟨0, _⟩ => rfl
    | ⟨1, _⟩ => rfl
    | ⟨2, _⟩ => rfl
    | ⟨3, _⟩ => rfl)]
  unfold ZR
  rw [up_apply]
  refine congrArg (· + _) ?_
  simp only [Host.dotGeneral]
  rw [Ideal.dotGeneral_apply, ← Equiv.sum_comp (ValueIdx.contrEquiv1 dot_S16x256x256_S2x8192x16x256_S16x256x2x8192_1_3_2_01_0_2 256 rfl rfl).symm]
  refine Finset.sum_congr rfl fun k _ => ?_
  have hk := ValueIdx.contrEquiv1_symm_val dot_S16x256x256_S2x8192x16x256_S16x256x2x8192_1_3_2_01_0_2 256 rfl rfl k
  rw [mul_comm]
  congr 1
  · refine shapeCast_apply _ _ _ _ ?_
    rw [Shape.rowMajor_val_four, Shape.rowMajor_val_three]
    show (b.val * 8192 + n.val) * 4096 + (256 * (Q.val / 256) + k.val) = ((b.val * 8192 + n.val) * 16 + Q.val / 256) * 256 + _
    refine Eq.trans ?_ (congrArg (((b.val * 8192 + n.val) * 16 + Q.val / 256) * 256 + ·) hk.symm)
    omega
  · refine congrArg w (funext fun a => Fin.ext ?_)
    match a with
    | ⟨0, _⟩ => rfl
    | ⟨1, _⟩ => exact hk
    | ⟨2, _⟩ => rfl

theorem sgv_apply (z : A3) (i : S2x8192x4096.Idx) : (sgv z i : EReal) = sg (z i) := by
  show Ideal.div (Ideal.ofBits .f32 0x3F800000#32) (Ideal.ofBits .f32 0x3F800000#32 + Ideal.exp (-(z i : EReal))) = _
  rw [Ideal.ofBits_one_f32]
  rfl

theorem spv_apply (x : FVec Ideal S4096 .f32) (i : S4096.Idx) : (spv x i : EReal) = sp (x i) := by
  have h0 : (b0 i : EReal) = 0 := Ideal.ofBits_zero_f32
  have hs : (subf x b0 i : EReal) = x i := by
    show (x i : EReal) - b0 i = x i
    rw [h0, sub_zero]
  have hc : cmpf (F := Ideal) .une (subf x b0) (subf x b0) i = 0#1 := by
    rw [cmpf_apply]
    simp [Ideal.cmpf_def, Ideal.cmp]
  unfold spv
  show (if cmpf (F := Ideal) .une (subf x b0) (subf x b0) i = 1#1 then _ else _ : EReal) = _
  rw [if_neg (by rw [hc]; decide)]
  show max (x i : EReal) (b0 i) + Ideal.log1p (Ideal.exp (-(max (subf x b0 i : EReal) (-(subf x b0 i : EReal))))) = _
  rw [hs, h0]
  rfl

theorem lv_apply (r : A3) (lam : FVec Ideal S4096 .f32) : (lv r lam (ix3 b n Q) : EReal) = m8 * sp (-(lam (ix1 Q) : EReal)) * r (ix3 b n Q) := by
  unfold lv
  rw [mulf_apply, mulf_apply, bc_apply, spv_apply]
  exact mul_right_comm _ _ _

theorem two_eq : Ideal.ofBits .f32 0x40000000#32 = ((2 : ℝ) : EReal) := by
  simp [Ideal.ofBits, Ideal.ieee]
  rw [← EReal.coe_mul]
  exact congrArg _ (by norm_num)

/-- The square of the decay, from the exponent's double. -/
theorem exp_sq {l : EReal} (h : l ≤ 0) : -(Ideal.exp (((2 : ℝ) : EReal) * l) - 1) = 1 - Ideal.exp l * Ideal.exp l := by
  induction l with
  | top => exact absurd h (by simp)
  | bot =>
    rw [EReal.coe_mul_bot_of_pos (by norm_num)]
    show -((0 : EReal) - 1) = 1 - 0 * 0
    simp
  | coe r =>
    rw [← EReal.coe_mul]
    show -(((Real.exp (2 * r) : ℝ) : EReal) - ((1 : ℝ) : EReal)) = ((1 : ℝ) : EReal) - ((Real.exp r : ℝ) : EReal) * ((Real.exp r : ℝ) : EReal)
    rw [← EReal.coe_mul, ← EReal.coe_sub, ← EReal.coe_sub, ← EReal.coe_neg, ← Real.exp_add]
    refine congrArg _ ?_
    rw [two_mul]
    ring

theorem uv_apply (l i x : A3) (j : S2x8192x4096.Idx) (a z : EReal) (hl : (l j : EReal) ≤ 0) (ha : a = Ideal.exp (l j)) (hi : (i j : EReal) = sg z) :
    (uv l i x j : EReal) = uu a z (x j) := by
  show Ideal.sqrt (-(Ideal.exp (Ideal.ofBits .f32 0x40000000#32 * l j) - 1)) * ((i j : EReal) * x j) = _
  rw [two_eq, exp_sq hl, hi, ← ha]
  rfl

theorem glv_apply (g : A3) (i : S2x8192x4096.Idx) : (glv g i : EReal) = gl (g i) := by
  show (g i : EReal) * (Ideal.ofBits .f32 0x3F000000#32 * (Ideal.ofBits .f32 0x3F800000#32 + Ideal.tanh (Ideal.ofBits .f32 0x3F4C422A#32
    * (g i + Ideal.ofBits .f32 0x3D372713#32 * (g i * g i * g i))))) = _
  rw [Ideal.ofBits_one_f32]
  unfold gl
  rw [← mul_assoc, mul_comm (g i : EReal) (Ideal.ofBits .f32 0x3F000000#32)]

end Cert.ReferenceIdeal.Lru

end
-- ==== Proof.LruRefFinal.lean ====
/- The recurrent reference's run: the arrays its loop starts from, and its output. -/
module

public import proofs.«01_k».proof.Proof.LruRefScan
public import proofs.«01_k».proof.Proof.LruRefOps

@[expose] public section

set_option maxRecDepth 16384

noncomputable section

namespace Cert.ReferenceIdeal.Lru

open Cert.ReferenceIdeal Cert.ReferenceIdeal.Gen Cert.ReferenceIdeal.Value Idealize.ShloMosaic.TcCoe Idealize.SL.Sem
open Idealize.ShloMosaic hiding ix1 ix2 ix3
open Idealize.ShloMosaic.StableHlo
open Idealize.ShloMosaic.ValueIdx
open Cert.KernelIdeal.Lru (Par ZR AR UR CVR XS HS OUT tap sg sp m8 m8_eq aa uu gl cv hs la_nonpos)

variable (m : (ℓ : Loc nD τ sig) → Buf (Elt Ideal) ℓ) (ρ : Dev nD → PrngReg) (c : Dev nD)

def x0 : FVec Ideal S16384x20480 .f32 := m ((c : Thread nD τ).loc main_arg0)
def x1 : FVec Ideal S4x4096 .f32 := m ((c : Thread nD τ).loc main_arg1)
def x2 : FVec Ideal S4096 .f32 := m ((c : Thread nD τ).loc main_arg2)
def x3 : FVec Ideal S16x256x256 .f32 := m ((c : Thread nD τ).loc main_arg3)
def x4 : FVec Ideal S4096 .f32 := m ((c : Thread nD τ).loc main_arg4)
def x5 : FVec Ideal S16x256x256 .f32 := m ((c : Thread nD τ).loc main_arg5)
def x6 : FVec Ideal S4096 .f32 := m ((c : Thread nD τ).loc main_arg6)
def x7 : FVec Ideal S4096 .f32 := m ((c : Thread nD τ).loc main_arg7)

/-- The convolved input, the two gates, the exponent. -/
def cx : A3 := v33 (x0 m c) (x1 m c) (x2 m c)
def rr : A3 := sgv (zz (cx m c) (x3 m c) (x4 m c))
def ii : A3 := sgv (zz (cx m c) (x5 m c) (x6 m c))
def ll : A3 := lv (rr m c) (x7 m c)

/-- The parameters as the kernel holds them. -/
def PR : Par := ⟨x1 m c, up (x2 m c), x3 m c, up (x4 m c), x5 m c, up (x6 m c), up (x7 m c)⟩

/-! ## The loop's entry -/

theorem entry0 : g0 (entryContents preI m c) = transpose S8192x2x4096 [1, 0, 2] (Host.exp (ll m c)) transposes_S2x8192x4096_S8192x2x4096_1_0_2 := by
  unfold g0
  simp only [entryContents, afterL_cons, afterL_nil]
  after_reads_simp
  rfl

theorem entry1 : g1 (entryContents preI m c) = transpose S8192x2x4096 [1, 0, 2] (uv (ll m c) (ii m c) (cx m c)) transposes_S2x8192x4096_S8192x2x4096_1_0_2 := by
  unfold g1
  simp only [entryContents, afterL_cons, afterL_nil]
  after_reads_simp
  rfl

theorem entry3 (b : Fin 2) (Q : Fin 4096) : g3 (entryContents preI m c) (ix2 b Q) = 0 := by
  unfold g3
  simp only [entryContents, afterL_cons, afterL_nil]
  after_reads_simp
  exact Ideal.ofBits_zero_f32

variable (b : Fin 2) (n : Fin 8192) (Q : Fin 4096)

theorem cx_apply : (cx m c (ix3 b n Q) : EReal) = XS (PR m c) (x0 m c) b n.val Q := by
  unfold cx
  rw [v33_apply]
  unfold XS CVR
  show _ = cv (up (x2 m c) (ix2 (0 : Fin 1) Q)) _ _
  rw [up_apply]
  rfl

theorem cx_row : (fun Q => (cx m c (ix3 b n Q) : EReal)) = XS (PR m c) (x0 m c) b n.val := funext fun Q => cx_apply m c b n Q

theorem ll_apply : (ll m c (ix3 b n Q) : EReal)
    = m8 * sp (-((PR m c).lam (ix2 (0 : Fin 1) Q) : EReal)) * sg (ZR (PR m c).wa (PR m c).ba (XS (PR m c) (x0 m c) b n.val) Q) := by
  unfold ll rr
  rw [lv_apply, sgv_apply, zz_apply, cx_row]
  show _ = m8 * sp (-(up (x7 m c) (ix2 (0 : Fin 1) Q) : EReal)) * _
  rw [up_apply]
  rfl

theorem aR : (Ideal.exp (ll m c (ix3 b n Q)) : EReal) = AR (PR m c) (XS (PR m c) (x0 m c) b n.val) Q := by
  rw [ll_apply]
  rfl

theorem a_apply : g0 (entryContents preI m c) (ix3 n b Q) = AR (PR m c) (XS (PR m c) (x0 m c) b n.val) Q := by
  rw [entry0, transpose_apply _ _ _ _ (ix3 b n Q) (fun a => by fin_cases a <;> rfl), ← aR]
  rfl

theorem u_apply : g1 (entryContents preI m c) (ix3 n b Q) = UR (PR m c) (XS (PR m c) (x0 m c) b n.val) Q := by
  rw [entry1, transpose_apply _ _ _ _ (ix3 b n Q) (fun a => by fin_cases a <;> rfl)]
  refine (uv_apply (ll m c) (ii m c) (cx m c) (ix3 b n Q) (AR (PR m c) (XS (PR m c) (x0 m c) b n.val) Q)
    (ZR (PR m c).wx (PR m c).bx (XS (PR m c) (x0 m c) b n.val) Q) ?_ (aR m c b n Q).symm ?_).trans ?_
  · rw [ll_apply]
    exact la_nonpos _ _
  · unfold ii
    rw [sgv_apply, zz_apply, cx_row]
    rfl
  · rw [cx_apply]
    rfl

/-! ## The loop, and after it -/

theorem rows : g4 (atK m 8192 c) (ix3 n b Q) = HS (PR m c) (x0 m c) b Q (n.val + 1) := by
  have e : g4 (atK m 8192 c) = g4 (STEP^[8192] (entryContents preI m c)) := atK_agree m c 8192 main_v79_4 (by decide)
  rw [e]
  exact (scan (entryContents preI m c) (fun n b Q => AR (PR m c) (XS (PR m c) (x0 m c) b n) Q)
    (fun n b Q => UR (PR m c) (XS (PR m c) (x0 m c) b n) Q) (fun n b Q => a_apply m c b n Q) (fun n b Q => u_apply m c b n Q)
    (ctr_entry m c) (fun b Q => entry3 m c b Q) 8192 le_rfl).2 n b Q n.isLt

/-- A buffer the loop does not write is the entry's. -/
theorem loop_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact loop_keep r hc h0 h1 h2 h3 h4 k

theorem post0 (X : Valuation τ sig (Elt Ideal)) : afterL postI X (Proc.devRef .tc main_arg0) = X (Proc.devRef .tc main_arg0) := by
  simp only [afterL_cons, afterL_nil]
  after_reads_simp

theorem post1 (X : Valuation τ sig (Elt Ideal)) : afterL postI X (Proc.devRef .tc main_arg1) = X (Proc.devRef .tc main_arg1) := by
  simp only [afterL_cons, afterL_nil]
  after_reads_simp

theorem post2 (X : Valuation τ sig (Elt Ideal)) : afterL postI X (Proc.devRef .tc main_arg2) = X (Proc.devRef .tc main_arg2) := by
  simp only [afterL_cons, afterL_nil]
  after_reads_simp

theorem post3 (X : Valuation τ sig (Elt Ideal)) : afterL postI X (Proc.devRef .tc main_arg3) = X (Proc.devRef .tc main_arg3) := by
  simp only [afterL_cons, afterL_nil]
  after_reads_simp

theorem post4 (X : Valuation τ sig (Elt Ideal)) : afterL postI X (Proc.devRef .tc main_arg4) = X (Proc.devRef .tc main_arg4) := by
  simp only [afterL_cons, afterL_nil]
  after_reads_simp

theorem post5 (X : Valuation τ sig (Elt Ideal)) : afterL postI X (Proc.devRef .tc main_arg5) = X (Proc.devRef .tc main_arg5) := by
  simp only [afterL_cons, afterL_nil]
  after_reads_simp

theorem post6 (X : Valuation τ sig (Elt Ideal)) : afterL postI X (Proc.devRef .tc main_arg6) = X (Proc.devRef .tc main_arg6) := by
  simp only [afterL_cons, afterL_nil]
  after_reads_simp

theorem post7 (X : Valuation τ sig (Elt Ideal)) : afterL postI X (Proc.devRef .tc main_arg7) = X (Proc.devRef .tc main_arg7) := by
  simp only [afterL_cons, afterL_nil]
  after_reads_simp

/-- A buffer nothing writes is as it was at the start. -/
theorem fin_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (k0 : r ∉ hostOps0_W) (k1 : r ∉ hostOps0_1_W) (k2 : r ∉ hostOps0_2_W)
    (k3 : r ∉ hostOps0_3_W) (k4 : r ∉ hostOps0_4_W) (k5 : ∀ X : Valuation τ sig (Elt Ideal), afterL postI X (Proc.devRef .tc r) = X (Proc.devRef .tc r)) :
    finalContents condOps preI bodyI postI 8192 m c (Proc.devRef .tc r) = m ((c : Thread nD τ).loc r) := by
  show afterL postI (after condOps (atK m 8192 c)) (Proc.devRef .tc r) = _
  rw [k5, after_of_writes_sub condOps _ condOps_writes hc, loop_keep m c r hc h0 h1 h2 h3 h4]
  simp only [entryContents, afterL_cons, afterL_nil]
  rw [after_of_writes_sub hostOps0_4 _ hostOps0_4_writes k4, after_of_writes_sub hostOps0_3 _ hostOps0_3_writes k3,
    after_of_writes_sub hostOps0_2 _ hostOps0_2_writes k2, after_of_writes_sub hostOps0_1 _ hostOps0_1_writes k1,
    after_of_writes_sub hostOps0 _ hostOps0_writes k0]

theorem post (X : Valuation τ sig (Elt Ideal)) : (afterL postI X (Proc.devRef .tc main_v96) : FVec Ideal S16384x4096 .bf16)
    = truncf .bf16 (shapeCast S16384x4096 (mulf (transpose S2x8192x4096 [1, 0, 2] (g4 X) transposes_S8192x2x4096_S2x8192x4096_1_0_2)
        (glv (X (Proc.devRef .tc main_v2)))) shapeCasts_S2x8192x4096_S16384x4096 : FVec Ideal S16384x4096 .f32) bitsLt_bf16_f32 := by
  simp only [afterL_cons, afterL_nil]
  after_reads_simp
  rfl

theorem gate : (atK m 8192 c (Proc.devRef .tc main_v2) : A3) = v2 (x0 m c) := by
  rw [loop_keep m c main_v2 (by decide) (by decide) (by decide) (by decide) (by decide) (by decide)]
  simp only [entryContents, afterL_cons, afterL_nil]
  after_reads_simp
  rfl

theorem cond_g4 (X : Valuation τ sig (Elt Ideal)) : g4 (after condOps X) = g4 X := cond_keeps X main_v79_4 (by decide)

theorem cond_v2 (X : Valuation τ sig (Elt Ideal)) : after condOps X (Proc.devRef .tc main_v2) = X (Proc.devRef .tc main_v2) :=
  after_of_writes_sub condOps _ condOps_writes (by decide)

/-- The reference's output. -/
theorem final_out : (finalContents condOps preI bodyI postI 8192 m c (Proc.devRef .tc main_v96) : FVec Ideal S16384x4096 .bf16)
    = OUT (PR m c) (x0 m c) := by
  show (afterL postI (after condOps (atK m 8192 c)) (Proc.devRef .tc main_v96) : FVec Ideal S16384x4096 .bf16) = _
  rw [post, cond_g4, cond_v2, gate]
  funext i
  have hi0 : (i 0).val < 16384 := (i 0).isLt
  have hi1 : (i 1).val < 4096 := (i 1).isLt
  rw [truncf_apply, shapeCast_apply _ _ i (ix3 (⟨(i 0).val / 8192, by omega⟩ : Fin 2) (⟨(i 0).val % 8192, by omega⟩ : Fin 8192) (⟨(i 1).val, hi1⟩ : Fin 4096)) (by
    rw [Shape.rowMajor_val_three, Shape.rowMajor_val_two]
    show ((i 0).val / 8192 * 8192 + (i 0).val % 8192) * 4096 + (i 1).val = (i 0).val * 4096 + (i 1).val
    rw [Nat.div_add_mod' (i 0).val 8192])]
  rw [mulf_apply, transpose_apply _ _ _ _ (ix3 (⟨(i 0).val % 8192, by omega⟩ : Fin 8192) (⟨(i 0).val / 8192, by omega⟩ : Fin 2) (⟨(i 1).val, hi1⟩ : Fin 4096)) (fun a => by fin_cases a <;> rfl),
    rows, glv_apply, v2_apply]
  unfold OUT
  congr 3
  · funext a
    match a with
    | ⟨0, _⟩ => exact Fin.ext (by show 8192 * ((i 0).val / 8192) + (i 0).val % 8192 = (i 0).val; exact Nat.div_add_mod _ _)
    | ⟨1, _⟩ => rfl

/-- The run: the output is the recurrence's, the arguments are as they were. -/
theorem run_out : θ_run (defs (F := Ideal)) (onTc (τ := τ) (main (F := Ideal))) ⟨m, fun _ => 0, ρ⟩ (fun r => ∀ c : Dev nD,
    r.2.mem ((c : Thread nD τ).loc main_v96) = OUT (PR m c) (x0 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run (defs (F := Ideal)) _ _).mono (fun r h c =>
    ⟨(h c main_v96 (by decide)).trans (final_out m c),
      (h c main_arg0 (by decide)).trans (fin_keep m c main_arg0 (by decide) (by decide) (by decide) (by decide) (by decide) (by decide) (by decide) (by decide) (by decide) (by decide) (by decide) post0),
      (h c main_arg1 (by decide)).trans (fin_keep m c main_arg1 (by decide) (by decide) (by decide) (by decide) (by decide) (by decide) (by decide) (by decide) (by decide) (by decide) (by decide) post1),
      (h c main_arg2 (by decide)).trans (fin_keep m c main_arg2 (by decide) (by decide) (by decide) (by decide) (by decide) (by decide) (by decide) (by decide) (by decide) (by decide) (by decide) post2),
      (h c main_arg3 (by decide)).trans (fin_keep m c main_arg3 (by decide) (by decide) (by decide) (by decide) (by decide) (by decide) (by decide) (by decide) (by decide) (by decide) (by decide) post3),
      (h c main_arg4 (by decide)).trans (fin_keep m c main_arg4 (by decide) (by decide) (by decide) (by decide) (by decide) (by decide) (by decide) (by decide) (by decide) (by decide) (by decide) post4),
      (h c main_arg5 (by decide)).trans (fin_keep m c main_arg5 (by decide) (by decide) (by decide) (by decide) (by decide) (by decide) (by decide) (by decide) (by decide) (by decide) (by decide) post5),
      (h c main_arg6 (by decide)).trans (fin_keep m c main_arg6 (by decide) (by decide) (by decide) (by decide) (by decide) (by decide) (by decide) (by decide) (by decide) (by decide) (by decide) post6),
      (h c main_arg7 (by decide)).trans (fin_keep m c main_arg7 (by decide) (by decide) (by decide) (by decide) (by decide) (by decide) (by decide) (by decide) (by decide) (by decide) (by decide) post7)⟩)
    (run_fold m ρ)

end Cert.ReferenceIdeal.Lru

end
-- ==== Proof.LruPair.lean ====
/- The recurrent call's claims: the frames, and that the two programs agree. -/
module

public import proofs.«01_k».proof.Defs
public import proofs.«01_k».proof.Proof.LruFrame
public import proofs.«01_k».proof.Proof.LruFinal
public import proofs.«01_k».proof.Proof.LruRefFinal

@[expose] public section

noncomputable section

namespace Cert.LruPair

open Idealize.ShloMosaic Idealize.SL.Sem

theorem frame : Cert.quiescent_Kernel (hKernel := Cert.Kernel.Gen.facts) := fun m ρ _ => Cert.Kernel.Lru.frame m ρ

theorem frameIdeal : Cert.quiescent_KernelIdeal (hKernelIdeal := Cert.KernelIdeal.Gen.facts) :=
  fun m ρ _ => Cert.KernelIdeal.Lru.frame m ρ

theorem frameRef : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Lru.run_out m ρ)

/-- Both programs run, and from equal arguments the outputs are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Lru.OUT (Cert.KernelIdeal.Lru.PM m c) (Cert.KernelIdeal.Lru.pr m c), ?_, ?_⟩
  · refine (θ_run (Cert.KernelIdeal.defs (F := Ideal)) _ _).mono (fun r h c => ?_)
      (θ_run_and (Cert.KernelIdeal.Lru.run_out m g) (Cert.KernelIdeal.Lru.frame m g))
    exact ⟨h.1 c, h.2.1 c⟩
  · refine (θ_run (Cert.ReferenceIdeal.defs (F := Ideal)) _ _).mono (fun r h c => ?_) (Cert.ReferenceIdeal.Lru.run_out m' g')
    refine ⟨(h c).1.trans ?_, (h c).2⟩
    obtain ⟨a0, a1, a2, a3, a4, a5, a6, a7⟩ := hargs c
    unfold Cert.ReferenceIdeal.Lru.PR Cert.ReferenceIdeal.Lru.x0 Cert.ReferenceIdeal.Lru.x1 Cert.ReferenceIdeal.Lru.x2
      Cert.ReferenceIdeal.Lru.x3 Cert.ReferenceIdeal.Lru.x4 Cert.ReferenceIdeal.Lru.x5 Cert.ReferenceIdeal.Lru.x6 Cert.ReferenceIdeal.Lru.x7
    rw [a0, a1, a2, a3, a4, a5, a6, a7]
    rfl

end Cert.LruPair

end
-- ==== Proof.RowNorm.lean ====
/- A block of rows normalised by their root mean square, element by element; and the modulation table's layout. -/
module

public import Idealize.ShloMosaic.PureOps.Ideal.Laws
public import Idealize.ShloMosaic.Lib.MatmulPlain
public import Idealize.ShloMosaic.Lib.IdealHost
public import Idealize.ShloMosaic.Lib.KernelVsHost
public import Idealize.ShloMosaic.Lib.ValueIdx
public import Idealize.ShloMosaic.Lib.ValueLayout
public import Idealize.ShloMosaic.Lib.Pipeline.Value

@[expose] public section

set_option maxRecDepth 8192

noncomputable section

namespace Cert.RowNorm

open Idealize.ShloMosaic Idealize.ShloMosaic.ValueIdx

/-- The reciprocal root mean square of a row. -/
def inv (X : Fin 4096 → EReal) : EReal :=
  Ideal.rsqrt (Ideal.div (∑ j : Fin 4096, X j * X j) (FloatOps.ofBits (F := Ideal) .f32 0x45800000#32)
    + FloatOps.ofBits (F := Ideal) .f32 0x358637BD#32)

/-- One element of a normalised row. -/
def nrm (X g : Fin 4096 → EReal) (k : Fin 4096) : EReal := X k * inv X * g k

/-- One element of a normalised and modulated row. -/
def mdl (X g sh sc : Fin 4096 → EReal) (k : Fin 4096) : EReal := nrm X g k * (1 + sc k) + sh k

/-- The logistic function, as both programs compute it. -/
def sg (x : EReal) : EReal := Ideal.div 1 (1 + Ideal.exp (-x))

abbrev T512x4096 : Shape := ⟨2, ![512, 4096]⟩
abbrev T512 : Shape := ⟨1, ![512]⟩
abbrev T512x1 : Shape := ⟨2, ![512, 1]⟩
abbrev T1x4096 : Shape := ⟨2, ![1, 4096]⟩
abbrev T1x1x4096 : Shape := ⟨3, ![1, 1, 4096]⟩

variable (x : FVec Ideal T512x4096 .f32) (g : FVec Ideal T1x4096 .f32)

/-- A row's sum of squares. -/
theorem rowsum (hr : T512x4096.Reduces [1] T512) (hn : 0x00000000#32 = FKind.add.neutral .f32 (.inl rfl)) (r : Fin 512) :
    (multiReduction .add [1] T512 (mulf x x) 0x00000000#32 hr (.inl rfl) hn (ix1 r) : EReal)
      = ∑ k : Fin 4096, (x (ix2 r k) * x (ix2 r k) : EReal) := by
  refine (Ideal.multiReduction_add_single (mulf x x) 0x00000000#32 hr (.inl rfl) hn (ix1 r)).trans ?_
  refine Finset.sum_congr rfl fun k _ => ?_
  have e : hr.lift (ix1 r) k = ix2 r k := by
    funext a; apply Fin.ext
    match a with
    | ⟨0, _⟩ => rfl
    | ⟨1, _⟩ => rfl
  rw [e]; rfl

/-- A block's rows, normalised. -/
def body (hr : T512x4096.Reduces [1] T512) (hn : 0x00000000#32 = FKind.add.neutral .f32 (.inl rfl)) (hc : T512.ShapeCasts T512x1)
    (hb : T512x1.Broadcasts T512x4096) (hg : T1x4096.Broadcasts T512x4096) : FVec Ideal T512x4096 .f32 :=
  mulf (mulf x (broadcastTo T512x4096 (rsqrt (addf (divf (shapeCast T512x1 (multiReduction .add [1] T512 (mulf x x) 0x00000000#32 hr (.inl rfl) hn) hc)
    (broadcast T512x1 (Scalar.ofBits (F := Ideal) .f32 0x45800000#32))) (broadcast T512x1 (Scalar.ofBits (F := Ideal) .f32 0x358637BD#32)))) hb))
    (broadcastTo T512x4096 g hg)

theorem bcRow (v : FVec Ideal T1x4096 .f32) (hg : T1x4096.Broadcasts T512x4096) (r : Fin 512) (k : Fin 4096) :
    broadcastTo T512x4096 v hg (ix2 r k) = v (ix2 0 k) :=
  broadcastTo_apply v hg (ix2 r k) (ix2 0 k) (fun a => match a with | ⟨0, _⟩ => rfl | ⟨1, _⟩ => rfl)

theorem body_apply (hr hn hc hb hg) (r : Fin 512) (k : Fin 4096) :
    (body x g hr hn hc hb hg (ix2 r k) : EReal) = nrm (fun j => x (ix2 r j)) (fun j => g (ix2 0 j)) k := by
  have e1 : ∀ v : FVec Ideal T512x1 .f32, broadcastTo T512x4096 v hb (ix2 r k) = v (ix2 r 0) := fun v =>
    broadcastTo_apply v hb (ix2 r k) (ix2 r 0) (fun a => match a with | ⟨0, _⟩ => rfl | ⟨1, _⟩ => rfl)
  have e2 : ∀ v : FVec Ideal T512 .f32, shapeCast T512x1 v hc (ix2 r 0) = v (ix1 r) := fun v =>
    shapeCast_apply v hc (ix2 r 0) (ix1 r) (by rw [Shape.rowMajor_val_one, Shape.rowMajor_val_two]; show r.val = r.val * 1 + 0; omega)
  unfold body
  rw [mulf_apply, mulf_apply, e1, bcRow g hg]
  show (x (ix2 r k) * Ideal.rsqrt (Ideal.div (shapeCast T512x1 (multiReduction .add [1] T512 (mulf x x) 0x00000000#32 hr (.inl rfl) hn) hc (ix2 r 0)) _ + _) * g (ix2 0 k) : EReal) = _
  rw [e2, rowsum]
  rfl

/-- A row of one matrix taken out of a block. -/
theorem cast1 (v : FVec Ideal T1x1x4096 .f32) (h : T1x1x4096.ShapeCasts T1x4096) (k : Fin 4096) :
    shapeCast T1x4096 v h (ix2 0 k) = v (ix3 0 0 k) := shapeCast_1ab_ab_apply v h 0 k

/-! ## The modulation table -/

abbrev T2x24576 : Shape := ⟨2, ![2, 24576]⟩
abbrev T2x6x4096 : Shape := ⟨3, ![2, 6, 4096]⟩
abbrev T2x8x4096 : Shape := ⟨3, ![2, 8, 4096]⟩
abbrev T0 : Shape := ⟨0, ![]⟩

/-- The six vectors of a sequence, one under another, from the flat table. -/
theorem table (mod : FVec Ideal T2x24576 .f32) (z : FVec Ideal T0 .f32) (h : T2x24576.ShapeCasts T2x6x4096)
    (hp : T2x6x4096.Pads (![0, 0, 0] : Fin 3 → Nat) ![0, 2, 0] ![0, 0, 0] T2x8x4096) (hu : 0 < T0.numel)
    (b : Fin 2) (s : Fin 8) (hs : s.val < 6) (k : Fin 4096) (i : T2x24576.Idx) (h0 : (i 0).val = b.val) (h1 : (i 1).val = s.val * 4096 + k.val) :
    pad T2x8x4096 ![0, 0, 0] ![0, 2, 0] ![0, 0, 0] (shapeCast T2x6x4096 mod h) z hp hu (ix3 b s k) = mod i := by
  rw [pad_apply_of_inside _ _ _ _ _ hp hu (ix3 b s k) (ix3 b (⟨s.val, hs⟩ : Fin 6) k) (fun a => match a with
    | ⟨0, _⟩ => by show b.val = 0 + b.val * 1; omega
    | ⟨1, _⟩ => by show s.val = 0 + s.val * 1; omega
    | ⟨2, _⟩ => by show k.val = 0 + k.val * 1; omega)]
  refine shapeCast_apply mod h _ i ?_
  rw [Shape.rowMajor_val_three, Shape.rowMajor_val_two]
  show (i 0).val * 24576 + (i 1).val = (b.val * 6 + s.val) * 4096 + k.val
  omega

/-- A row vector from a vector. -/
theorem rowOf (v : FVec Ideal ⟨1, ![4096]⟩ .f32) (h : (⟨1, ![4096]⟩ : Shape).ShapeCasts T1x4096) (k : Fin 4096) :
    shapeCast T1x4096 v h (ix2 0 k) = v (ix1 k) :=
  shapeCast_apply v h (ix2 0 k) (ix1 k) (by rw [Shape.rowMajor_val_one, Shape.rowMajor_val_two]; show k.val = 0 * 4096 + k.val; omega)

/-- The two sequences' rows as one array's. -/
theorem rows (v : FVec Ideal ⟨3, ![2, 8192, 4096]⟩ .f32) (h : (⟨3, ![2, 8192, 4096]⟩ : Shape).ShapeCasts ⟨2, ![16384, 4096]⟩)
    (r : Fin 16384) (k : Fin 4096) :
    shapeCast ⟨2, ![16384, 4096]⟩ v h (ix2 r k)
      = v (ix3 (⟨r.val / 8192, by omega⟩ : Fin 2) (⟨r.val % 8192, by omega⟩ : Fin 8192) k) :=
  shapeCast_apply v h (ix2 r k) _ (by
    rw [Shape.rowMajor_val_three, Shape.rowMajor_val_two]
    show (r.val / 8192 * 8192 + r.val % 8192) * 4096 + k.val = r.val * 4096 + k.val
    have := Nat.div_add_mod r.val 8192; omega)

end Cert.RowNorm

end
-- ==== Proof.InprojValue.lean ====
/- The input projection: what a grid point writes is its block of the reference's array, and the blocks tile the array. -/
module

public import proofs.«01_k».proof.Proof.Gen.InprojIdeal.Value
public import proofs.«01_k».proof.Proof.Gen.InprojRefIdeal.Read
public import proofs.«01_k».proof.Proof.RowNorm
public import Idealize.ShloMosaic.Lib.Pipeline.ValueKit.Tiles

@[expose] public section

set_option maxRecDepth 8192

noncomputable section

namespace Cert.InprojIdeal.Hand

open Cert.InprojIdeal Cert.InprojIdeal.Gen Idealize.ShloMosaic Idealize.ShloMosaic.TcCoe Idealize.ShloMosaic.Tactic Idealize.SL.Sem
open Idealize.ShloMosaic.Pipeline (Dat)
open Idealize.ShloMosaic.ValueIdx
open Cert.RowNorm (inv nrm mdl)

theorem hz : (![0, 0] : Fin 2 → Nat) = fun _ => 0 := funext fun a => by fin_cases a <;> rfl

/-! ## The payloads -/

/-- The first payload is the normalised block, modulated. -/
theorem pay1_apply (x : Vec Ideal S512x4096 .f32) (g : Vec Ideal S1x4096 .f32) (sh sc : Vec Ideal S1x1x4096 .f32) (r : Fin 512) (k : Fin 4096) :
    (k0_pay1 (F := Ideal) x g sh sc (ix2 r k) : EReal)
      = mdl (fun j => x (ix2 r j)) (fun j => g (ix2 0 j)) (fun j => sh (ix3 0 0 j)) (fun j => sc (ix3 0 0 j)) k := by
  unfold k0_pay1
  rw [shapeCast_self, shapeCast_self, shapeCast_self]
  have e := Cert.RowNorm.body_apply x g reduces_S512x4096_S512 rfl shapeCasts_S512_S512x1 broadcasts_S512x1_S512x4096 broadcasts_S1x4096_S512x4096 r k
  have e1 := fun v => Cert.RowNorm.bcRow v broadcasts_S1x4096_S512x4096 r k
  simp only [truncf_apply, addf_apply, mulf_apply (Cert.RowNorm.body _ _ _ _ _ _ _)]
  show ((Cert.RowNorm.body x g _ _ _ _ _ (ix2 r k)) * broadcastTo S512x4096 _ _ (ix2 r k) + broadcastTo S512x4096 _ _ (ix2 r k) : EReal) = _
  rw [e, e1, e1]
  show (_ * (_ + shapeCast S1x4096 sc _ (ix2 0 k)) + shapeCast S1x4096 sh _ (ix2 0 k) : EReal) = _
  rw [Cert.RowNorm.cast1, Cert.RowNorm.cast1]
  unfold mdl
  have h1 : (Scalar.ofBits (F := Ideal) .f32 0x3F800000#32 : EReal) = 1 := Ideal.ofBits_one_f32
  rw [← h1]
  rfl

theorem pay2_apply (u : Vec Ideal S512x4096 .bf16) (w : Vec Ideal S4096x1024 .bf16) (r : Fin 512) (q : Fin 1024) :
    (k0_pay2 (F := Ideal) u w (ix2 r q) : EReal) = ∑ k : Fin 4096, (u (ix2 r k) * w (ix2 k q) : EReal) := by
  have e := Ideal.matmul_plain_apply (M := 512) (K := 4096) (N := 1024) (φ₁ := .bf16) (φ₂ := .bf16) none u w (constant S512x1024 .f32 0x00000000#32) r q
  have hd : dot_S512x4096_S4096x1024_S512x1024_1_0_0_1_n_n = DotDims.plain 512 4096 1024 := rfl
  unfold k0_pay2
  rw [shapeCast_self, hd]
  refine e.trans ?_
  rw [constant_apply, Ideal.ofBits_zero_f32]
  exact zero_add _

/-! ## What a point leaves -/

variable {F : FTy → Type} [FloatOps F]

/-- The block the first point of a row computes and the others read. -/
def blockU (x : Vec F S512x4096 .f32) (md : Vec F S1x8x4096 .f32) (g : Vec F S1x4096 .f32) : Vec F S512x4096 .bf16 :=
  k0_pay1 x g (View.ld md (Rect.unit (s := S1x8x4096) ![0, 0, 0] S1x1x4096.size inb_S1x8x4096_S1x1x4096_0_0_0))
    (View.ld md (Rect.unit (s := S1x8x4096) ![0, 1, 0] S1x1x4096.size inb_S1x8x4096_S1x1x4096_0_1_0))

section
variable (c : Dev nD) (i : grid0.Coords) (arg2 : Memref sig .tc .vmem S512x4096 .f32) (harg2 : arg2.IsWhole)
  (arg3 : Memref sig .tc .vmem S1x8x4096 .f32) (harg3 : arg3.IsWhole) (arg4 : Memref sig .tc .vmem S1x4096 .f32) (harg4 : arg4.IsWhole)
  (arg5 : Memref sig .tc .vmem S4096x1024 .bf16) (harg5 : arg5.IsWhole) (arg6 : Memref sig .tc .vmem S512x1024 .f32) (harg6 : arg6.IsWhole)
  (arg7 : Memref sig .tc .vmem S512x4096 .bf16) (harg7 : arg7.IsWhole)
  (x0 : Vec F S512x4096 .f32) (x1 : Vec F S1x8x4096 .f32) (x2 : Vec F S1x4096 .f32) (x3 : Vec F S4096x1024 .bf16) (xs : Vec F S512x4096 .bf16)

theorem sout_A (hc : cond0_0 i) :
    sout0_A_0 c i arg2 harg2 arg3 harg3 arg4 harg4 arg5 harg5 arg6 harg6 arg7 harg7 hc x0 x1 x2 x3 = blockU x0 x1 x2 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero hz]
  simp only [View.readAt_eq_ld, harg2.read_unread, harg3.read_unread, harg4.read_unread, View.ld_unit_zero (S := S512x4096) hz,
    View.ld_unit_zero (S := S1x4096) hz]
  rfl

theorem out_A (hc : cond0_0 i) :
    out0_A_4 c i arg2 harg2 arg3 harg3 arg4 harg4 arg5 harg5 arg6 harg6 arg7 harg7 hc x0 x1 x2 x3 = k0_pay2 (blockU x0 x1 x2) x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_unit_zero hz, View.readCov_unit_zero (S := S512x4096) _ hz]
  simp only [View.readAt_eq_ld, harg2.read_unread, harg3.read_unread, harg4.read_unread, harg5.read_unread,
    View.ld_unit_zero (S := S512x4096) hz, View.ld_unit_zero (S := S1x4096) hz, View.ld_unit_zero (S := S4096x1024) hz]
  rfl

theorem out_B (hc : ¬cond0_0 i) :
    out0_B_4 c i arg2 harg2 arg3 harg3 arg4 harg4 arg5 harg5 arg6 harg6 arg7 harg7 hc x0 x1 x2 x3 xs = k0_pay2 xs x3 := by
  unfold out0_B_4
  rw [View.read_writes_eq_canon _ _ _ (cover0_B_4 c i arg2 harg2 arg3 harg3 arg4 harg4 arg5 harg5 arg6 harg6 arg7 harg7 hc x0 x1 x2 x3 xs)]
  unfold kernelRun0_B
  dsimp only
  sl_unfold_words
  rw [View.canon_unit_zero hz]
  simp only [View.readAt_eq_ld, harg7.read_unread, harg5.read_unread,
    View.ld_unit_zero (S := S512x4096) hz, View.ld_unit_zero (S := S4096x1024) hz]
end

/-! ## The reference, element by element -/

section
open Cert.InprojRefIdeal.Read

variable (x0 : Vec Ideal S2x8192x4096 .f32) (x1 : Vec Ideal S2x24576 .f32) (x2 : Vec Ideal S4096 .f32) (x3 : Vec Ideal S4096x20480 .f32)

/-- A row of the reference's modulated array. -/
theorem ref_row (b : Fin 2) (s : Fin 8192) (k : Fin 4096) :
    (val_main_v26 (F := Ideal) x0 x1 x2 (ix3 b s k) : EReal)
      = mdl (fun j => x0 (ix3 b s j)) (fun j => x2 (ix1 j)) (fun j => x1 (ix2 b (⟨j.val, by omega⟩ : Fin 24576)))
          (fun j => x1 (ix2 b (⟨4096 + j.val, by omega⟩ : Fin 24576))) k := by
  have a0 : ∀ j, idx_main_v7 (idx_main_v8 (idx_main_v14 (ix3 b s k))) j = ix3 b s j := fun j => funext fun a => Fin.ext (by
    match a with | ⟨0, _⟩ => rfl | ⟨1, _⟩ => rfl | ⟨2, _⟩ => rfl)
  have a1 : idx_main_v16 (idx_main_v17 (ix3 b s k)) = ix1 k := funext fun a => Fin.ext (by match a with | ⟨0, _⟩ => rfl)
  have a2 : idx_main_v0 (idx_main_v24 (idx_main_v25 (ix3 b s k))) = ix2 b (⟨k.val, by omega⟩ : Fin 24576) := funext fun a => Fin.ext (by
    match a with | ⟨0, _⟩ => rfl | ⟨1, _⟩ => rfl)
  have a3 : idx_main_v1 (idx_main_v19 (idx_main_v22 (ix3 b s k))) = ix2 b (⟨4096 + k.val, by omega⟩ : Fin 24576) := funext fun a => Fin.ext (by
    match a with | ⟨0, _⟩ => rfl | ⟨1, _⟩ => rfl)
  rw [val_main_v26_apply, val_main_v25_apply, val_main_v24_apply, val_main_v0_apply, a2,
    val_main_v23_apply, val_main_v22_apply, val_main_v21_apply, val_main_v20_apply, val_main_cst_2_apply, val_main_v19_apply, val_main_v1_apply, a3,
    val_main_v18_apply, val_main_v17_apply, val_main_v16_apply, a1, val_main_v15_apply, val_main_v14_apply, val_main_v13_apply,
    val_main_v12_apply, val_main_v11_apply, val_main_cst_1_apply, val_main_v10_apply, val_main_v9_apply, val_main_cst_0_apply, val_main_v8_apply,
    val_main_v7_apply, val_main_cst_apply]
  simp only [val_main_v6_apply, a0]
  have h1 : (FloatOps.ofBits (F := Ideal) .f32 0x3F800000#32 : EReal) = 1 := Ideal.ofBits_one_f32
  have h0 : (FloatOps.ofBits (F := Ideal) .f32 0x00000000#32 : EReal) = 0 := Ideal.ofBits_zero_f32
  rw [h1, h0]
  show ((x0 (ix3 b s k) * Ideal.rsqrt (Ideal.div (0 + ∑ j : Fin 4096, (x0 (ix3 b s j) * x0 (ix3 b s j) : EReal)) _ + _) * x2 (ix1 k)) * (1 + _) + _ : EReal) = _
  rw [zero_add]
  rfl

/-- One element of the reference's projection. -/
theorem ref_apply (i : S16384x20480.Idx) :
    (val_main_v28 (F := Ideal) x0 x1 x2 x3 i : EReal)
      = ∑ k : Fin 4096, (mdl (fun j => x0 (ix3 (⟨(i 0).val / 8192, by have h : (i 0).val < 16384 := (i 0).isLt; omega⟩ : Fin 2) (⟨(i 0).val % 8192, by omega⟩ : Fin 8192) j)) (fun j => x2 (ix1 j))
          (fun j => x1 (ix2 (⟨(i 0).val / 8192, by have h : (i 0).val < 16384 := (i 0).isLt; omega⟩ : Fin 2) (⟨j.val, by omega⟩ : Fin 24576)))
          (fun j => x1 (ix2 (⟨(i 0).val / 8192, by have h : (i 0).val < 16384 := (i 0).isLt; omega⟩ : Fin 2) (⟨4096 + j.val, by omega⟩ : Fin 24576))) k
          * x3 (ix2 k (⟨(i 1).val, (i 1).isLt⟩ : Fin 20480)) : EReal) := by
  have h0 : (i 0).val < 16384 := (i 0).isLt
  have h1 : (i 1).val < 20480 := (i 1).isLt
  rw [val_main_v28_apply, val_main_v27_apply]
  refine Finset.sum_congr rfl fun k _ => ?_
  have e1 : lidx_main_v27 (idx_main_v28 i) k = ix3 (⟨(i 0).val / 8192, by omega⟩ : Fin 2) (⟨(i 0).val % 8192, by omega⟩ : Fin 8192) k := funext fun a => Fin.ext (by
    match a with
    | ⟨0, _⟩ => show ((i 0).val * 20480 + (i 1).val) / 167772160 = (i 0).val / 8192; omega
    | ⟨1, _⟩ => show ((i 0).val * 20480 + (i 1).val) / 20480 % 8192 = (i 0).val % 8192; omega
    | ⟨2, _⟩ => rfl)
  have e2 : ridx_main_v27 (idx_main_v28 i) k = ix2 k (⟨(i 1).val, (i 1).isLt⟩ : Fin 20480) := funext fun a => Fin.ext (by
    match a with
    | ⟨0, _⟩ => rfl
    | ⟨1, _⟩ => show ((i 0).val * 20480 + (i 1).val) % 20480 = (i 1).val; omega)
  rw [e1, e2, ref_row]

end

/-! ## The grid -/

variable (m : (ℓ : Loc nD τ sig) → Buf (Elt Ideal) ℓ) (ρ : Dev nD → PrngReg)

def a0 (c : Dev nD) : Vec Ideal S2x8192x4096 .f32 := m ((c : Thread nD τ).loc main_arg0)
def a1 (c : Dev nD) : Vec Ideal S2x24576 .f32 := m ((c : Thread nD τ).loc main_arg1)
def a2 (c : Dev nD) : Vec Ideal S4096 .f32 := m ((c : Thread nD τ).loc main_arg2)
def a3 (c : Dev nD) : Vec Ideal S4096x20480 .f32 := m ((c : Thread nD τ).loc main_arg3)

theorem V_v0 (c : Dev nD) : V m c main_v0 = (shapeCast S16384x4096 (a0 m c) shapeCasts_S2x8192x4096_S16384x4096 : Vec Ideal S16384x4096 .f32) := by
  unfold a0 V
  simp only [hostOps0, hostOps0_1, hostOps0_2, List.flatten_cons, List.flatten_nil, List.append_nil, List.cons_append, List.nil_append]
  after_results
  rfl

theorem V_v3 (c : Dev nD) : V m c main_v3 = (shapeCast S1x4096 (a2 m c) shapeCasts_S4096_S1x4096 : Vec Ideal S1x4096 .f32) := by
  unfold a2 V
  simp only [hostOps0, hostOps0_1, hostOps0_2, List.flatten_cons, List.flatten_nil, List.append_nil, List.cons_append, List.nil_append]
  after_results
  rfl

theorem V_v4 (c : Dev nD) : V m c main_v4 = (truncf (F := Ideal) (s := S4096x20480) .bf16 (a3 m c) bitsLt_bf16_f32 : Vec Ideal S4096x20480 .bf16) := by
  unfold a3 V
  simp only [hostOps0, hostOps0_1, hostOps0_2, List.flatten_cons, List.flatten_nil, List.append_nil, List.cons_append, List.nil_append]
  after_results

theorem V_v2 (c : Dev nD) : V m c main_v2
    = (pad S2x8x4096 ![0, 0, 0] ![0, 2, 0] ![0, 0, 0] (shapeCast S2x6x4096 (a1 m c) shapeCasts_S2x24576_S2x6x4096)
        (sitofp (F := Ideal) .f32 (constantI S_ 32 0#32)) pads_S2x6x4096_S2x8x4096_000_020_000 h_S_ : Vec Ideal S2x8x4096 .f32) := by
  unfold a1 V
  simp only [hostOps0, hostOps0_1, hostOps0_2, List.flatten_cons, List.flatten_nil, List.append_nil, List.cons_append, List.nil_append]
  after_results
  try rfl

/-- Where each window's block lies. -/
theorem idx_facts : ∀ t : Fin cfg0.N, win0_4.index t (0 : Fin 2) = t.val / 20 ∧ win0_4.index t (1 : Fin 2) = t.val % 20
    ∧ win0_0.index t (0 : Fin 2) = t.val / 20 ∧ win0_0.index t (1 : Fin 2) = 0
    ∧ win0_1.index t (0 : Fin 3) = t.val / 20 / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 20 :=
  (by decide +kernel : ∀ t : Fin grid0.N, _)

/-- One element of the modulated array: row `R` of both sequences taken together. -/
def u (c : Dev nD) (R : Fin 16384) (k : Fin 4096) : EReal :=
  mdl (fun j => a0 m c (ix3 (⟨R.val / 8192, by omega⟩ : Fin 2) (⟨R.val % 8192, by omega⟩ : Fin 8192) j)) (fun j => a2 m c (ix1 j))
    (fun j => a1 m c (ix2 (⟨R.val / 8192, by omega⟩ : Fin 2) (⟨j.val, by omega⟩ : Fin 24576)))
    (fun j => a1 m c (ix2 (⟨R.val / 8192, by omega⟩ : Fin 2) (⟨4096 + j.val, by omega⟩ : Fin 24576))) k

theorem tlt (t : Fin cfg0.N) : t.val < 640 := lt_of_lt_of_eq t.isLt N_0

/-- Row `r` of point `t`'s block among all rows. -/
def row (t : Fin cfg0.N) (r : Fin 512) : Fin 16384 := ⟨t.val / 20 * 512 + r.val, by have := tlt t; omega⟩

theorem blk0 (c : Dev nD) (t : Fin cfg0.N) (r : Fin 512) (k : Fin 4096) :
    (iblk m c 0 t (ix2 r k) : EReal) = a0 m c (ix3 (⟨(row t r).val / 8192, by omega⟩ : Fin 2) (⟨(row t r).val % 8192, by omega⟩ : Fin 8192) k) := by
  obtain ⟨-, -, f00, f01, -⟩ := idx_facts t
  show (V m c main_v0 : Vec Ideal S16384x4096 .f32) (((cfg0.win 0).blk t).view.emb (ix2 r k)) = _
  have e : ((cfg0.win 0).blk t).view.emb (ix2 r k) = (ix2 (row t r) k : S16384x4096.Idx) := by
    funext a; apply Fin.ext
    match a with
    | ⟨0, _⟩ => show win0_0.index t (0 : Fin 2) * 512 + 1 * r.val = t.val / 20 * 512 + r.val; omega
    | ⟨1, _⟩ => show win0_0.index t (1 : Fin 2) * 4096 + 1 * k.val = k.val; omega
  rw [e, V_v0]
  exact Cert.RowNorm.rows (a0 m c) shapeCasts_S2x8192x4096_S16384x4096 (row t r) k

theorem blk1 (c : Dev nD) (t : Fin cfg0.N) (r : Fin 512) (s : Fin 8) (hs : s.val < 6) (k : Fin 4096) :
    (iblk m c 1 t (ix3 0 s k) : EReal) = a1 m c (ix2 (⟨(row t r).val / 8192, by omega⟩ : Fin 2) (⟨s.val * 4096 + k.val, by omega⟩ : Fin 24576)) := by
  obtain ⟨-, -, -, -, f10, f11, f12, -⟩ := idx_facts t
  have ht := tlt t
  show (V m c main_v2 : Vec Ideal S2x8x4096 .f32) (((cfg0.win 1).blk t).view.emb (ix3 0 s k)) = _
  have e : ((cfg0.win 1).blk t).view.emb (ix3 0 s k) = (ix3 (⟨(row t r).val / 8192, by omega⟩ : Fin 2) s k : S2x8x4096.Idx) := by
    funext a; apply Fin.ext
    match a with
    | ⟨0, _⟩ => show win0_1.index t (0 : Fin 3) * 1 + 1 * 0 = (t.val / 20 * 512 + r.val) / 8192; omega
    | ⟨1, _⟩ => show win0_1.index t (1 : Fin 3) * 8 + 1 * s.val = s.val; omega
    | ⟨2, _⟩ => show win0_1.index t (2 : Fin 3) * 4096 + 1 * k.val = k.val; omega
  rw [e, V_v2]
  exact Cert.RowNorm.table (a1 m c) _ shapeCasts_S2x24576_S2x6x4096 pads_S2x6x4096_S2x8x4096_000_020_000 h_S_ _ s hs k _ rfl rfl

theorem blk2 (c : Dev nD) (t : Fin cfg0.N) (k : Fin 4096) : (iblk m c 2 t (ix2 0 k) : EReal) = a2 m c (ix1 k) := by
  obtain ⟨-, -, -, -, -, -, -, f20, f21, -⟩ := idx_facts t
  show (V m c main_v3 : Vec Ideal S1x4096 .f32) (((cfg0.win 2).blk t).view.emb (ix2 0 k)) = _
  have e : ((cfg0.win 2).blk t).view.emb (ix2 0 k) = (ix2 0 k : S1x4096.Idx) := by
    funext a; apply Fin.ext
    match a with
    | ⟨0, _⟩ => show win0_2.index t (0 : Fin 2) * 1 + 1 * 0 = 0; omega
    | ⟨1, _⟩ => show win0_2.index t (1 : Fin 2) * 4096 + 1 * k.val = k.val; omega
  rw [e, V_v3]
  exact Cert.RowNorm.rowOf (a2 m c) shapeCasts_S4096_S1x4096 k

theorem blk3 (c : Dev nD) (t : Fin cfg0.N) (k : Fin 4096) (q : Fin 1024) :
    (iblk m c 3 t (ix2 k q) : EReal) = a3 m c (ix2 k (⟨t.val % 20 * 1024 + q.val, by omega⟩ : Fin 20480)) := by
  obtain ⟨-, -, -, -, -, -, -, -, -, f30, f31⟩ := idx_facts t
  show (V m c main_v4 : Vec Ideal S4096x20480 .bf16) (((cfg0.win 3).blk t).view.emb (ix2 k q)) = _
  rw [V_v4]
  refine congrArg (a3 m c) ?_
  funext a; apply Fin.ext
  match a with
  | ⟨0, _⟩ => show win0_3.index t (0 : Fin 2) * 4096 + 1 * k.val = k.val; omega
  | ⟨1, _⟩ => show win0_3.index t (1 : Fin 2) * 1024 + 1 * q.val = t.val % 20 * 1024 + q.val; omega

/-- The block a point normalises is its rows of the modulated array. -/
theorem blockU_apply (c : Dev nD) (t : Fin cfg0.N) (r : Fin 512) (k : Fin 4096) :
    (blockU (F := Ideal) (iblk m c 0 t) (iblk m c 1 t) (iblk m c 2 t) (ix2 r k) : EReal) = u m c (row t r) k := by
  have es : ∀ j : Fin 4096, (View.ld (iblk m c 1 t : Vec Ideal S1x8x4096 .f32) (Rect.unit (s := S1x8x4096) ![0, 0, 0] S1x1x4096.size inb_S1x8x4096_S1x1x4096_0_0_0) (ix3 0 0 j) : EReal)
      = a1 m c (ix2 (⟨(row t r).val / 8192, by omega⟩ : Fin 2) (⟨j.val, by omega⟩ : Fin 24576)) := fun j => by
    refine (View.ld_unit_apply_of (iblk m c 1 t : Vec Ideal S1x8x4096 .f32) _ _ inb_S1x8x4096_S1x1x4096_0_0_0 (ix3 0 0 j) (ix3 0 0 j) (fun a => ?_)).trans ?_
    · match a with | ⟨0, _⟩ => rfl | ⟨1, _⟩ => rfl | ⟨2, _⟩ => show j.val = 0 + j.val; omega
    · refine (blk1 m c t r 0 (by decide) j).trans (congrArg (a1 m c) ?_)
      refine congrArg (ix2 _) (Fin.ext ?_)
      show 0 * 4096 + j.val = j.val; omega
  have ec : ∀ j : Fin 4096, (View.ld (iblk m c 1 t : Vec Ideal S1x8x4096 .f32) (Rect.unit (s := S1x8x4096) ![0, 1, 0] S1x1x4096.size inb_S1x8x4096_S1x1x4096_0_1_0) (ix3 0 0 j) : EReal)
      = a1 m c (ix2 (⟨(row t r).val / 8192, by omega⟩ : Fin 2) (⟨4096 + j.val, by omega⟩ : Fin 24576)) := fun j => by
    refine (View.ld_unit_apply_of (iblk m c 1 t : Vec Ideal S1x8x4096 .f32) _ _ inb_S1x8x4096_S1x1x4096_0_1_0 (ix3 0 0 j) (ix3 0 1 j) (fun a => ?_)).trans ?_
    · match a with | ⟨0, _⟩ => rfl | ⟨1, _⟩ => rfl | ⟨2, _⟩ => show j.val = 0 + j.val; omega
    · refine (blk1 m c t r 1 (by decide) j).trans (congrArg (a1 m c) ?_)
      refine congrArg (ix2 _) (Fin.ext ?_)
      show 1 * 4096 + j.val = 4096 + j.val; omega
  unfold blockU
  refine (pay1_apply _ _ _ _ r k).trans ?_
  simp only [es, ec, blk0, blk2]
  rfl

/-- What the points of a row of blocks keep between them. -/
theorem state (c : Dev nD) : ∀ (n : ℕ) (hn : n < cfg0.N) (r : Fin 512) (k : Fin 4096),
    ((outsAt0 m c n hn).2 (ix2 r k) : EReal) = u m c (row ⟨n, hn⟩ r) k := by
  intro n
  induction n with
  | zero =>
    intro hn r k
    rw [show outsAt0 m c 0 hn = _ from outsAt0_A m c ⟨0, hn⟩ rfl]
    dsimp only
    rw [sout_A]
    exact blockU_apply m c ⟨0, hn⟩ r k
  | succ n ih =>
    intro hn r k
    by_cases h0 : (n + 1) % 20 = 0
    · rw [show outsAt0 m c (n + 1) hn = _ from outsAt0_A m c ⟨n + 1, hn⟩ h0]
      dsimp only
      rw [sout_A]
      exact blockU_apply m c ⟨n + 1, hn⟩ r k
    · rw [show outsAt0 m c (n + 1) hn = _ from outsAt0_B m c ⟨n + 1, hn⟩ h0]
      refine (ih (Nat.lt_of_succ_lt hn) r k).trans (congrArg (u m c · k) (Fin.ext ?_))
      show n / 20 * 512 + r.val = (n + 1) / 20 * 512 + r.val
      omega

/-- What a point writes. -/
theorem out_apply (c : Dev nD) (t : Fin cfg0.N) (r : Fin 512) (q : Fin 1024) :
    ((outsAt0 m c t.val t.isLt).1 (ix2 r q) : EReal)
      = ∑ k : Fin 4096, (u m c (row t r) k * a3 m c (ix2 k (⟨t.val % 20 * 1024 + q.val, by omega⟩ : Fin 20480)) : EReal) := by
  by_cases h0 : t.val % 20 = 0
  · rw [outsAt0_A m c t h0]
    dsimp only
    rw [out_A]
    refine (pay2_apply _ _ r q).trans (Finset.sum_congr rfl fun k _ => ?_)
    rw [blockU_apply, blk3]
  · have hp : t.val - 1 < cfg0.N := Nat.lt_of_le_of_lt (Nat.sub_le _ _) t.isLt
    have hr : row ⟨t.val - 1, hp⟩ r = row t r := Fin.ext (by
      show (t.val - 1) / 20 * 512 + r.val = t.val / 20 * 512 + r.val; omega)
    rw [outsAt0_B m c t h0]
    dsimp only
    rw [out_B]
    refine (pay2_apply _ _ r q).trans (Finset.sum_congr rfl fun k _ => ?_)
    rw [state m c (t.val - 1) hp r k, blk3, hr]

/-- The reference's array, from this program's arguments. -/
def G (c : Dev nD) : S16384x20480.Idx → Elt Ideal .f32 :=
  Cert.InprojRefIdeal.Read.val_main_v28 (F := Ideal) (a0 m c) (a1 m c) (a2 m c) (a3 m c)

theorem flushed_eq (c : Dev nD) (t : Fin cfg0.N) :
    (dats m 0 c).flushed 4 t = ((cfg0.win 4).blk t).view.read (Elt Ideal) (G m c) := by
  rw [Value.flushed4]
  obtain ⟨e0, e1, -⟩ := idx_facts t
  funext y
  show (outsAt0 m c t.val t.isLt).1 y = G m c (((cfg0.win 4).blk t).view.emb y)
  have e : ((cfg0.win 4).blk t).view.emb y = (ix2 (row t (y 0)) (⟨t.val % 20 * 1024 + (y 1).val, by have : (y 1).val < 1024 := (y 1).isLt; omega⟩ : Fin 20480) : S16384x20480.Idx) := by
    funext a; apply Fin.ext
    match a with
    | ⟨0, _⟩ => show win0_4.index t (0 : Fin 2) * 512 + 1 * (y 0).val = t.val / 20 * 512 + (y 0).val; omega
    | ⟨1, _⟩ => show win0_4.index t (1 : Fin 2) * 1024 + 1 * (y 1).val = t.val % 20 * 1024 + (y 1).val; omega
  have hy : y = ix2 (y 0) (y 1) := by
    funext a; match a with | ⟨0, _⟩ => rfl | ⟨1, _⟩ => rfl
  rw [e]
  rw [hy]
  refine (out_apply m c t (y 0) (y 1)).trans ?_
  unfold G
  rw [ref_apply]
  rfl

theorem mem_blk4 (t : Fin cfg0.N) (i : S16384x20480.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5).slice (win0_4.rect t)).set ↔ _
  rw [View.set_slice_whole, Rect.mem_set_unit]
  exact Iff.rfl

/-- The array after the run is the reference's: the blocks tile it. -/
theorem final (c : Dev nD) : (dats m 0 c).arrAt 4 cfg0.N = G m c :=
  (dats m 0 c).arrAt_eq_of_cover 4 _ (fun t _ => flushed_eq m c t) (fun i => by
    have h0 : (i 0).val < 16384 := (i 0).isLt
    have h1 : (i 1).val < 20480 := (i 1).isLt
    obtain ⟨e0, e1, -⟩ := idx_facts ⟨(i 0).val / 512 * 20 + (i 1).val / 1024, lt_of_lt_of_eq (by omega) N_0.symm⟩
    refine ⟨⟨(i 0).val / 512 * 20 + (i 1).val / 1024, lt_of_lt_of_eq (by omega) N_0.symm⟩, flush0_4 _, ?_⟩
    rw [mem_blk4]
    dsimp only at e0 e1
    intro a
    match a with
    | ⟨0, _⟩ => show win0_4.index _ (0 : Fin 2) * 512 ≤ (i 0).val ∧ (i 0).val < win0_4.index _ (0 : Fin 2) * 512 + 512; rw [e0]; omega
    | ⟨1, _⟩ => show win0_4.index _ (1 : Fin 2) * 1024 ≤ (i 1).val ∧ (i 1).val < win0_4.index _ (1 : Fin 2) * 1024 + 1024; rw [e1]; omega)

end Cert.InprojIdeal.Hand

end
-- ==== Proof.InprojPair.lean ====
/- The input projection's claims: the frames, and that the two programs agree. -/
module

public import proofs.«01_k».proof.Defs
public import proofs.«01_k».proof.Proof.Gen.Inproj.Frame
public import proofs.«01_k».proof.Proof.InprojValue

@[expose] public section

noncomputable section

namespace Cert.InprojPair

open Idealize.ShloMosaic Idealize.SL.Sem

theorem frame : Cert.quiescent_Inproj (hInproj := Cert.Inproj.Gen.facts) := fun m ρ _ => Cert.Inproj.Gen.frame m ρ

theorem frameIdeal : Cert.quiescent_InprojIdeal (hInprojIdeal := Cert.InprojIdeal.Gen.facts) :=
  fun m ρ _ => Cert.InprojIdeal.Gen.frame m ρ

theorem frameRef : Cert.quiescent_InprojRefIdeal (hInprojRefIdeal := Cert.InprojRefIdeal.Gen.facts) := fun m ρ _ =>
  (θ_run Cert.InprojRefIdeal.defs _ _).mono
    (fun r h => ⟨fun c => (h c).2, Idealize.ShloMosaic.sem_eq_zero_of_no_sems (by decide) r.2⟩)
    (Cert.InprojRefIdeal.Value.run (F := Ideal) m ρ)

/-- Both programs run, and from equal arguments the projections are equal. -/
theorem algebraic : Cert.algebraic_InprojIdeal_InprojRefIdeal (hInprojIdeal := Cert.InprojIdeal.Gen.facts)
    (hInprojRefIdeal := Cert.InprojRefIdeal.Gen.facts) := by
  intro m g m' g' _ hargs
  refine ⟨fun c => Cert.InprojIdeal.Hand.G m c, ?_, ?_⟩
  · refine (θ_run (Cert.InprojIdeal.defs (F := Ideal)) _ _).mono (fun r h c => ?_) (Cert.InprojIdeal.Value.run_blocks (F := Ideal) m g)
    exact ⟨(h c).1.trans (Cert.InprojIdeal.Hand.final m c), (h c).2⟩
  · refine (θ_run (Cert.InprojRefIdeal.defs (F := Ideal)) _ _).mono (fun r h c => ?_) (Cert.InprojRefIdeal.Value.run (F := Ideal) m' g')
    refine ⟨(h c).1.trans ?_, (h c).2⟩
    obtain ⟨a0, a1, a2, a3⟩ := hargs c
    rw [Cert.InprojRefIdeal.Read.val_main_v28_eq, a0, a1, a2, a3]
    rfl

end Cert.InprojPair

end
-- ==== Proof.MergeValue.lean ====
/- The merge call: what a grid point writes is its block of the reference's array, and the blocks tile the array. -/
module

public import proofs.«01_k».proof.Proof.Gen.MergeIdeal.Value
public import proofs.«01_k».proof.Proof.Gen.MergeRefIdeal.Read
public import Idealize.ShloMosaic.Lib.MatmulPlain
public import Idealize.ShloMosaic.Lib.IdealHost

@[expose] public section

set_option maxRecDepth 8192

noncomputable section

namespace Cert.MergeIdeal.Hand

open Cert.MergeIdeal Cert.MergeIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- The logistic function, as both programs compute it. -/
def sg (x : EReal) : EReal := Ideal.div 1 (1 + Ideal.exp (-x))

/-- One element of the payload. -/
theorem pay_apply (x0 : Vec Ideal S512x4096 .bf16) (x4 : Vec Ideal S4096x512 .bf16) (x1 : Vec Ideal S512x4096 .bf16)
    (x5 : Vec Ideal S4096x512 .bf16) (x2 x3 : Vec Ideal S512x512 .f32) (r : Fin 512) (q : Fin 512) :
    (k0_pay1 (F := Ideal) x0 x4 x1 x5 x2 x3 (ix2 r q) : EReal)
      = sg (x2 (ix2 r q)) * (∑ k : Fin 4096, (x0 (ix2 r k) * x4 (ix2 k q) : EReal))
        + sg (x3 (ix2 r q)) * (∑ k : Fin 4096, (x1 (ix2 r k) * x5 (ix2 k q) : EReal)) := by
  have e := Ideal.matmul_plain_apply (M := 512) (K := 4096) (N := 512) (φ₁ := .bf16) (φ₂ := .bf16) none x0 x4 (constant S512x512 .f32 0x00000000#32) r q
  have e' := Ideal.matmul_plain_apply (M := 512) (K := 4096) (N := 512) (φ₁ := .bf16) (φ₂ := .bf16) none x1 x5 (constant S512x512 .f32 0x00000000#32) r q
  have hd : dot_S512x4096_S4096x512_S512x512_1_0_0_1_n_n = DotDims.plain 512 4096 512 := rfl
  unfold k0_pay1
  rw [shapeCast_self, shapeCast_self, hd]
  simp only [truncf_apply, addf_apply, mulf_apply, divf_apply, subf_apply, broadcast_apply, e, e', constant_apply,
    Scalar.ofBits, Ideal.ofBits_one_f32, Ideal.ofBits_zero_f32]
  show Ideal.div 1 (1 + Ideal.exp (0 - x2 (ix2 r q) : EReal)) * (0 + _) + Ideal.div 1 (1 + Ideal.exp (0 - x3 (ix2 r q) : EReal)) * (0 + _) = _
  unfold sg
  simp only [zero_sub, zero_add]

/-! ## The reference, element by element -/

open Cert.MergeRefIdeal.Read in
theorem ref_apply (x0 x1 : Vec Ideal S16384x4096 .bf16) (x2 : Vec Ideal S16384x20480 .f32) (x3 x4 : Vec Ideal S4096x4096 .f32)
    (i : S16384x4096.Idx) :
    (val_main_v21 (F := Ideal) x0 x1 x2 x3 x4 i : EReal)
      = sg (x2 (idx_main_v0 i)) * (∑ k : Fin 4096, (x0 (lidx_main_v10 i k) * x3 (ridx_main_v10 i k) : EReal))
        + sg (x2 (idx_main_v1 i)) * (∑ k : Fin 4096, (x1 (lidx_main_v18 i k) * x4 (ridx_main_v18 i k) : EReal)) := by
  rw [val_main_v21_apply, val_main_v20_apply, val_main_v11_apply, val_main_v19_apply, val_main_v10_apply, val_main_v18_apply,
    val_main_v9_apply, val_main_v17_apply, val_main_v8_apply, val_main_v16_apply, val_main_v7_apply, val_main_v15_apply,
    val_main_v6_apply, val_main_v14_apply, val_main_v5_apply, val_main_v13_apply, val_main_v4_apply, val_main_v12_apply,
    val_main_v0_apply, val_main_v1_apply, val_main_cst_apply, val_main_cst_0_apply, val_main_cst_1_apply, val_main_cst_2_apply]
  have h1 : (FloatOps.ofBits (F := Ideal) .f32 0x3F800000#32 : EReal) = 1 := Ideal.ofBits_one_f32
  rw [h1]
  rfl

/-! ## The grid -/

variable (m : (ℓ : Loc nD τ sig) → Buf (Elt Ideal) ℓ) (ρ : Dev nD → PrngReg)

theorem V_v0 (c : Dev nD) : V m c main_v0
    = (truncf (F := Ideal) (s := S4096x4096) .bf16 (m ((c : Thread nD τ).loc main_arg3) : Vec Ideal S4096x4096 .f32) bitsLt_bf16_f32 : Vec Ideal S4096x4096 .bf16) := by
  unfold V
  simp only [hostOps0, List.flatten_cons, List.flatten_nil, List.append_nil]
  after_results

theorem V_v1 (c : Dev nD) : V m c main_v1
    = (truncf (F := Ideal) (s := S4096x4096) .bf16 (m ((c : Thread nD τ).loc main_arg4) : Vec Ideal S4096x4096 .f32) bitsLt_bf16_f32 : Vec Ideal S4096x4096 .bf16) := by
  unfold V
  simp only [hostOps0, List.flatten_cons, List.flatten_nil, List.append_nil]
  after_results

/-- Where each window's block lies, from the block of the output. -/
theorem idx_facts : ∀ t : Fin cfg0.N, win0_6.index t (0 : Fin 2) = t.val / 8 ∧ win0_6.index t (1 : Fin 2) = t.val % 8
    ∧ win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 24 + t.val % 8
    ∧ win0_3.index t (0 : Fin 2) = t.val / 8 ∧ win0_3.index t (1 : Fin 2) = 32 + t.val % 8
    ∧ win0_4.index t (0 : Fin 2) = 0 ∧ win0_4.index t (1 : Fin 2) = t.val % 8
    ∧ win0_5.index t (0 : Fin 2) = 0 ∧ win0_5.index t (1 : Fin 2) = t.val % 8 :=
  (by decide +kernel : ∀ t : Fin grid0.N, _)

/-- The reference's array, from this program's arguments. -/
def G (c : Dev nD) : S16384x4096.Idx → Elt Ideal .bf16 :=
  Cert.MergeRefIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The output block of point `t` covers these places of the array. -/
theorem emb6 (t : Fin cfg0.N) (y : S512x512.Idx) (i : S16384x4096.Idx) (h : ((cfg0.win 6).blk t).view.emb y = i) :
    (i 0).val = t.val / 8 * 512 + (y 0).val ∧ (i 1).val = t.val % 8 * 512 + (y 1).val := by
  obtain ⟨e0, e1, -⟩ := idx_facts t
  subst h
  have hb0 : (((cfg0.win 6).blk t).view.emb y 0).val = win0_6.index t (0 : Fin 2) * 512 + 1 * (y 0).val := rfl
  have hb1 : (((cfg0.win 6).blk t).view.emb y 1).val = win0_6.index t (1 : Fin 2) * 512 + 1 * (y 1).val := rfl
  exact ⟨by rw [hb0]; omega, by rw [hb1]; omega⟩

open Cert.MergeRefIdeal.Read in
theorem flushed_eq (c : Dev nD) (t : Fin cfg0.N) :
    (dats m 0 c).flushed 6 t = ((cfg0.win 6).blk t).view.read (Elt Ideal) (G m c) := by
  rw [Value.flushed6]
  obtain ⟨-, -, f00, f01, f10, f11, f20, f21, f30, f31, f40, f41, f50, f51⟩ := idx_facts t
  funext y
  show out0_6 (iblk m c 0 t) (iblk m c 1 t) (iblk m c 2 t) (iblk m c 3 t) (iblk m c 4 t) (iblk m c 5 t) y
    = G m c (((cfg0.win 6).blk t).view.emb y)
  generalize hi : ((cfg0.win 6).blk t).view.emb y = i
  obtain ⟨i0, i1⟩ := emb6 t y i hi
  have hy : y = ix2 (y 0) (y 1) := by
    funext a; match a with | ⟨0, _⟩ => rfl | ⟨1, _⟩ => rfl
  unfold out0_6
  refine (congrFun (View.canon_unit_zero hz inb_S512x512_S512x512_0_0 _) y).trans ?_
  rw [View.ld_unit_zero hz, View.ld_unit_zero hz, View.ld_unit_zero hz, View.ld_unit_zero hz, View.ld_unit_zero hz, View.ld_unit_zero hz]
  rw [hy]
  refine (pay_apply _ _ _ _ _ _ (y 0) (y 1)).trans ?_
  unfold G
  rw [ref_apply]
  have g2 : (iblk m c 2 t (ix2 (y 0) (y 1)) : EReal) = (m ((c : Thread nD τ).loc main_arg2) : Vec Ideal S16384x20480 .f32) (idx_main_v0 i) := by
    show (V m c main_arg2 : Vec Ideal S16384x20480 .f32) (((cfg0.win 2).blk t).view.emb (ix2 (y 0) (y 1))) = _
    rw [V_main_arg2]
    congr 1
    funext a; apply Fin.ext
    match a with
    | ⟨0, _⟩ => show win0_2.index t (0 : Fin 2) * 512 + 1 * (y 0).val = (i 0).val; omega
    | ⟨1, _⟩ => show win0_2.index t (1 : Fin 2) * 512 + 1 * (y 1).val = 12288 + (i 1).val; omega
  have g3 : (iblk m c 3 t (ix2 (y 0) (y 1)) : EReal) = (m ((c : Thread nD τ).loc main_arg2) : Vec Ideal S16384x20480 .f32) (idx_main_v1 i) := by
    show (V m c main_arg2 : Vec Ideal S16384x20480 .f32) (((cfg0.win 3).blk t).view.emb (ix2 (y 0) (y 1))) = _
    rw [V_main_arg2]
    congr 1
    funext a; apply Fin.ext
    match a with
    | ⟨0, _⟩ => show win0_3.index t (0 : Fin 2) * 512 + 1 * (y 0).val = (i 0).val; omega
    | ⟨1, _⟩ => show win0_3.index t (1 : Fin 2) * 512 + 1 * (y 1).val = 16384 + (i 1).val; omega
  have g0 : ∀ k : Fin 4096, (iblk m c 0 t (ix2 (y 0) k) : EReal) = (m ((c : Thread nD τ).loc main_arg0) : Vec Ideal S16384x4096 .bf16) (lidx_main_v10 i k) := fun k => by
    show (V m c main_arg0 : Vec Ideal S16384x4096 .bf16) (((cfg0.win 0).blk t).view.emb (ix2 (y 0) k)) = _
    rw [V_main_arg0]
    congr 1
    funext a; apply Fin.ext
    match a with
    | ⟨0, _⟩ => show win0_0.index t (0 : Fin 2) * 512 + 1 * (y 0).val = (i 0).val; omega
    | ⟨1, _⟩ => show win0_0.index t (1 : Fin 2) * 4096 + 1 * k.val = k.val; omega
  have g1 : ∀ k : Fin 4096, (iblk m c 1 t (ix2 (y 0) k) : EReal) = (m ((c : Thread nD τ).loc main_arg1) : Vec Ideal S16384x4096 .bf16) (lidx_main_v18 i k) := fun k => by
    show (V m c main_arg1 : Vec Ideal S16384x4096 .bf16) (((cfg0.win 1).blk t).view.emb (ix2 (y 0) k)) = _
    rw [V_main_arg1]
    congr 1
    funext a; apply Fin.ext
    match a with
    | ⟨0, _⟩ => show win0_1.index t (0 : Fin 2) * 512 + 1 * (y 0).val = (i 0).val; omega
    | ⟨1, _⟩ => show win0_1.index t (1 : Fin 2) * 4096 + 1 * k.val = k.val; omega
  have g4 : ∀ k : Fin 4096, (iblk m c 4 t (ix2 k (y 1)) : EReal) = (m ((c : Thread nD τ).loc main_arg3) : Vec Ideal S4096x4096 .f32) (ridx_main_v10 i k) := fun k => by
    show (V m c main_v0 : Vec Ideal S4096x4096 .bf16) (((cfg0.win 4).blk t).view.emb (ix2 k (y 1))) = _
    rw [V_v0]
    refine congrArg (m ((c : Thread nD τ).loc main_arg3) : Vec Ideal S4096x4096 .f32) ?_
    funext a; apply Fin.ext
    match a with
    | ⟨0, _⟩ => show win0_4.index t (0 : Fin 2) * 4096 + 1 * k.val = k.val; omega
    | ⟨1, _⟩ => show win0_4.index t (1 : Fin 2) * 512 + 1 * (y 1).val = (i 1).val; omega
  have g5 : ∀ k : Fin 4096, (iblk m c 5 t (ix2 k (y 1)) : EReal) = (m ((c : Thread nD τ).loc main_arg4) : Vec Ideal S4096x4096 .f32) (ridx_main_v18 i k) := fun k => by
    show (V m c main_v1 : Vec Ideal S4096x4096 .bf16) (((cfg0.win 5).blk t).view.emb (ix2 k (y 1))) = _
    rw [V_v1]
    refine congrArg (m ((c : Thread nD τ).loc main_arg4) : Vec Ideal S4096x4096 .f32) ?_
    funext a; apply Fin.ext
    match a with
    | ⟨0, _⟩ => show win0_5.index t (0 : Fin 2) * 4096 + 1 * k.val = k.val; omega
    | ⟨1, _⟩ => show win0_5.index t (1 : Fin 2) * 512 + 1 * (y 1).val = (i 1).val; omega
  rw [g2, g3]
  simp only [g0, g1, g4, g5]

theorem mem_blk6 (t : Fin cfg0.N) (i : S16384x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v2).slice (win0_6.rect t)).set ↔ _
  rw [View.set_slice_whole, Rect.mem_set_unit]
  exact Iff.rfl

/-- The array after the run is the reference's: the blocks tile it. -/
theorem final (c : Dev nD) : (dats m 0 c).arrAt 6 cfg0.N = G m c :=
  (dats m 0 c).arrAt_eq_of_cover 6 _ (fun t _ => flushed_eq m c t) (fun i => by
    have h0 : (i 0).val < 16384 := (i 0).isLt
    have h1 : (i 1).val < 4096 := (i 1).isLt
    obtain ⟨e0, e1, -⟩ := idx_facts ⟨(i 0).val / 512 * 8 + (i 1).val / 512, lt_of_lt_of_eq (by omega) N_0.symm⟩
    refine ⟨⟨(i 0).val / 512 * 8 + (i 1).val / 512, lt_of_lt_of_eq (by omega) N_0.symm⟩, flush0_6 _, ?_⟩
    rw [mem_blk6]
    dsimp only at e0 e1
    intro a
    match a with
    | ⟨0, _⟩ => show win0_6.index _ (0 : Fin 2) * 512 ≤ (i 0).val ∧ (i 0).val < win0_6.index _ (0 : Fin 2) * 512 + 512; rw [e0]; omega
    | ⟨1, _⟩ => show win0_6.index _ (1 : Fin 2) * 512 ≤ (i 1).val ∧ (i 1).val < win0_6.index _ (1 : Fin 2) * 512 + 512; rw [e1]; omega)

end Cert.MergeIdeal.Hand

end
-- ==== Proof.MergePair.lean ====
/- The merge call's claims: the frames, and that the two programs agree. -/
module

public import proofs.«01_k».proof.Defs
public import proofs.«01_k».proof.Proof.Gen.Merge.Frame
public import proofs.«01_k».proof.Proof.MergeValue

@[expose] public section

noncomputable section

namespace Cert.MergePair

open Idealize.ShloMosaic Idealize.SL.Sem

theorem frame : Cert.quiescent_Merge (hMerge := Cert.Merge.Gen.facts) := fun m ρ _ => Cert.Merge.Gen.frame m ρ

theorem frameIdeal : Cert.quiescent_MergeIdeal (hMergeIdeal := Cert.MergeIdeal.Gen.facts) :=
  fun m ρ _ => Cert.MergeIdeal.Gen.frame m ρ

theorem frameRef : Cert.quiescent_MergeRefIdeal (hMergeRefIdeal := Cert.MergeRefIdeal.Gen.facts) := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- Both programs run, and from equal arguments the merged arrays are equal. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => Cert.MergeIdeal.Hand.G m c, ?_, ?_⟩
  · refine (θ_run (Cert.MergeIdeal.defs (F := Ideal)) _ _).mono (fun r h c => ?_) (Cert.MergeIdeal.Value.run_blocks (F := Ideal) m g)
    exact ⟨(h c).1.trans (Cert.MergeIdeal.Hand.final m c), (h c).2⟩
  · refine (θ_run (Cert.MergeRefIdeal.defs (F := Ideal)) _ _).mono (fun r h c => ?_) (Cert.MergeRefIdeal.Value.run (F := Ideal) m' g')
    refine ⟨(h c).1.trans ?_, (h c).2⟩
    obtain ⟨a0, a1, a2, a3, a4⟩ := hargs c
    rw [Cert.MergeRefIdeal.Read.val_main_v21_eq, a0, a1, a2, a3, a4]
    rfl

end Cert.MergePair

end
-- ==== Proof.Panel.lean ====
/- What the two calls that accumulate a product over blocks of its inner dimension share: one step of the sum, the closing norm,
   the gate and the residual, element by element. -/
module

public import proofs.«01_k».proof.Proof.RowNorm

@[expose] public section

set_option maxRecDepth 8192

noncomputable section

namespace Cert.Panel

open Idealize.ShloMosaic Idealize.ShloMosaic.ValueIdx
open Cert.RowNorm (nrm T512x4096 T512 T512x1 T1x4096 T1x1x4096)

/-- One step of the sum: the block of the product added to what is there. -/
theorem acc_apply (acc : FVec Ideal T512x4096 .f32) (a : FVec Ideal ⟨2, ![512, 512]⟩ .bf16) (w : FVec Ideal T512x4096 .bf16) (r : Fin 512) (q : Fin 4096) :
    (addf acc (matmul (DotDims.plain 512 512 4096) none a w (constant T512x4096 .f32 0x00000000#32)) (ix2 r q) : EReal)
      = acc (ix2 r q) + ∑ k : Fin 512, (a (ix2 r k) * w (ix2 k q) : EReal) := by
  have e := Ideal.matmul_plain_apply (M := 512) (K := 512) (N := 4096) (φ₁ := .bf16) (φ₂ := .bf16) none a w (constant T512x4096 .f32 0x00000000#32) r q
  rw [constant_apply, Ideal.ofBits_zero_f32] at e
  rw [addf_apply]
  exact congrArg (fun z : EReal => (acc (ix2 r q) + z : EReal)) (e.trans (zero_add _))

/-- The closing step: the residual plus the gated, normalised row. -/
theorem fin_apply (gate : FVec Ideal T1x1x4096 .f32) (x o : FVec Ideal T512x4096 .f32) (g : FVec Ideal T1x4096 .f32)
    (hr : T512x4096.Reduces [1] T512) (hn : 0x00000000#32 = FKind.add.neutral .f32 (.inl rfl)) (hc : T512.ShapeCasts T512x1)
    (hb : T512x1.Broadcasts T512x4096) (hg : T1x4096.Broadcasts T512x4096) (hk : T1x1x4096.ShapeCasts T1x4096) (r : Fin 512) (q : Fin 4096) :
    (addf x (mulf (broadcastTo T512x4096 (shapeCast T1x4096 gate hk) hg) (Cert.RowNorm.body o g hr hn hc hb hg)) (ix2 r q) : EReal)
      = x (ix2 r q) + gate (ix3 0 0 q) * nrm (fun j => o (ix2 r j)) (fun j => g (ix2 0 j)) q := by
  rw [addf_apply, mulf_apply, Cert.RowNorm.bcRow, Cert.RowNorm.cast1, Cert.RowNorm.body_apply]

/-- A sum over blocks of 512, one block more. -/
theorem sum_step (f : ℕ → EReal) (n : ℕ) :
    (∑ k ∈ Finset.range (n * 512), f k) + ∑ k : Fin 512, f (n * 512 + k.val) = ∑ k ∈ Finset.range ((n + 1) * 512), f k := by
  rw [show (n + 1) * 512 = n * 512 + 512 by omega, Finset.sum_range_add, Finset.sum_range (n := 512)]

/-- A sum whose later terms are zero. -/
theorem sum_cut (f : ℕ → EReal) (n d : ℕ) (h : ∀ k, n ≤ k → f k = 0) : ∑ k ∈ Finset.range (n + d), f k = ∑ k : Fin n, f k.val := by
  rw [Finset.sum_range_add, Finset.sum_eq_zero (s := Finset.range d) (fun k _ => h (n + k) (Nat.le_add_right _ _)), add_zero, Finset.sum_range]

end Cert.Panel

end
-- ==== Proof.OutValue.lean ====
/- The output projection: the products summed over blocks of the inner width, then the norm, the gate and the residual; the blocks
   tile the reference's array. -/
module

public import proofs.«01_k».proof.Proof.Gen.OutIdeal.Value
public import proofs.«01_k».proof.Proof.Gen.OutRefIdeal.Read
public import proofs.«01_k».proof.Proof.Panel
public import Idealize.ShloMosaic.Lib.Pipeline.ValueKit.Tiles

@[expose] public section

set_option maxRecDepth 8192

noncomputable section

namespace Cert.OutIdeal.Hand

open Cert.OutIdeal Cert.OutIdeal.Gen Idealize.ShloMosaic Idealize.ShloMosaic.TcCoe Idealize.ShloMosaic.Tactic Idealize.SL.Sem
open Idealize.ShloMosaic.Pipeline (Dat)
open Idealize.ShloMosaic.ValueIdx
open Cert.RowNorm (nrm)

theorem hz : (![0, 0] : Fin 2 → Nat) = fun _ => 0 := funext fun a => by fin_cases a <;> rfl

/-! ## The payloads -/

theorem pay1_apply (r : Fin 512) (q : Fin 4096) : (k0_pay1 (F := Ideal) (ix2 r q) : EReal) = 0 := Ideal.ofBits_zero_f32

theorem pay2_apply (acc : Vec Ideal S512x4096 .f32) (a : Vec Ideal S512x512 .bf16) (w : Vec Ideal S512x4096 .bf16) (r : Fin 512) (q : Fin 4096) :
    (k0_pay2 (F := Ideal) acc a w (ix2 r q) : EReal) = acc (ix2 r q) + ∑ k : Fin 512, (a (ix2 r k) * w (ix2 k q) : EReal) := by
  have hd : dot_S512x512_S512x4096_S512x4096_1_0_0_1_n_n = DotDims.plain 512 512 4096 := rfl
  unfold k0_pay2
  rw [shapeCast_self, shapeCast_self, hd]
  exact Cert.Panel.acc_apply acc a w r q

theorem pay3_apply (gate : Vec Ideal S1x1x4096 .f32) (x o : Vec Ideal S512x4096 .f32) (g : Vec Ideal S1x4096 .f32) (r : Fin 512) (q : Fin 4096) :
    (k0_pay3 (F := Ideal) gate x o g (ix2 r q) : EReal)
      = x (ix2 r q) + gate (ix3 0 0 q) * nrm (fun j => o (ix2 r j)) (fun j => g (ix2 0 j)) q := by
  unfold k0_pay3
  rw [shapeCast_self, shapeCast_self, shapeCast_self]
  exact Cert.Panel.fin_apply gate x o g reduces_S512x4096_S512 rfl shapeCasts_S512_S512x1 broadcasts_S512x1_S512x4096
    broadcasts_S1x4096_S512x4096 shapeCasts_S1x1x4096_S1x4096 r q

/-! ## What a point leaves -/

section
variable {F : FTy → Type} [FloatOps F]
variable (c : Dev nD) (i : grid0.Coords) (arg2 : Memref sig .tc .vmem S512x512 .bf16) (harg2 : arg2.IsWhole)
  (arg3 : Memref sig .tc .vmem S512x4096 .bf16) (harg3 : arg3.IsWhole) (arg4 : Memref sig .tc .vmem S512x4096 .f32) (harg4 : arg4.IsWhole)
  (arg5 : Memref sig .tc .vmem S1x8x4096 .f32) (harg5 : arg5.IsWhole) (arg6 : Memref sig .tc .vmem S1x4096 .f32) (harg6 : arg6.IsWhole)
  (arg7 : Memref sig .tc .vmem S512x4096 .f32) (harg7 : arg7.IsWhole)
  (x0 : Vec F S512x512 .bf16) (x1 : Vec F S512x4096 .bf16) (x2 : Vec F S512x4096 .f32) (x3 : Vec F S1x8x4096 .f32) (x4 : Vec F S1x4096 .f32)
  (xo : Vec F S512x4096 .f32)

theorem out_A (hc0 : cond0_0 i) (hc1 : ¬cond0_1 i) :
    out0_A_5 c i arg2 harg2 arg3 harg3 arg4 harg4 arg5 harg5 arg6 harg6 arg7 harg7 hc0 hc1 x0 x1 x2 x3 x4 = k0_pay2 k0_pay1 x0 x1 := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, harg2.read_unread, harg3.read_unread, View.ld_unit_zero (S := S512x512) hz, View.ld_unit_zero (S := S512x4096) hz]

theorem out_B (hc0 : ¬cond0_0 i) (hc1 : ¬cond0_1 i) :
    out0_B_5 c i arg2 harg2 arg3 harg3 arg4 harg4 arg5 harg5 arg6 harg6 arg7 harg7 hc0 hc1 x0 x1 x2 x3 x4 xo = k0_pay2 xo x0 x1 := by
  unfold out0_B_5
  rw [View.read_writes_eq_canon _ _ _ (cover0_B_5 c i arg2 harg2 arg3 harg3 arg4 harg4 arg5 harg5 arg6 harg6 arg7 harg7 hc0 hc1 x0 x1 x2 x3 x4 xo)]
  unfold kernelRun0_B
  dsimp only
  sl_unfold_words
  rw [View.canon_unit_zero hz]
  simp only [View.readAt_eq_ld, harg2.read_unread, harg3.read_unread, harg7.read_unread, View.ld_unit_zero (S := S512x512) hz,
    View.ld_unit_zero (S := S512x4096) hz]

theorem out_C (hc0 : ¬cond0_0 i) (hc1 : cond0_1 i) :
    out0_C_5 c i arg2 harg2 arg3 harg3 arg4 harg4 arg5 harg5 arg6 harg6 arg7 harg7 hc0 hc1 x0 x1 x2 x3 x4 xo
      = k0_pay3 (View.ld x3 (Rect.unit (s := S1x8x4096) ![0, 2, 0] S1x1x4096.size inb_S1x8x4096_S1x1x4096_0_2_0)) x2 (k0_pay2 xo x0 x1) x4 := by
  unfold out0_C_5
  rw [View.read_writes_eq_canon _ _ _ (cover0_C_5 c i arg2 harg2 arg3 harg3 arg4 harg4 arg5 harg5 arg6 harg6 arg7 harg7 hc0 hc1 x0 x1 x2 x3 x4 xo)]
  unfold kernelRun0_C
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread, harg7.read_unread,
    View.ld_unit_zero (S := S512x512) hz, View.ld_unit_zero (S := S512x4096) hz, View.ld_unit_zero (S := S1x4096) hz]
end

/-! ## The reference, element by element -/

section
open Cert.OutRefIdeal.Read

variable (x0 : Vec Ideal S16384x4096 .bf16) (x1 : Vec Ideal S4096x4096 .f32) (x2 : Vec Ideal S2x8192x4096 .f32) (x3 : Vec Ideal S2x24576 .f32)
  (x4 : Vec Ideal S4096 .f32)

/-- One element of the reference's product. -/
theorem ref_dot (R : Fin 16384) (q : Fin 4096) (i : S2x8192x4096.Idx) (h : (i 0).val * 8192 + (i 1).val = R.val) (h2 : (i 2).val = q.val) :
    (val_main_v8 (F := Ideal) x0 x1 i : EReal) = ∑ k : Fin 4096, (x0 (ix2 R k) * x1 (ix2 k q) : EReal) := by
  rw [val_main_v8_apply]
  refine Finset.sum_congr rfl fun k _ => ?_
  have e1 : idx_main_v7 (lidx_main_v8 i k) = ix2 R k := funext fun a => Fin.ext (by
    match a with
    | ⟨0, _⟩ => show (((i 0).val * 8192 + (i 1).val) * 4096 + k.val) / 4096 = R.val; omega
    | ⟨1, _⟩ => show (((i 0).val * 8192 + (i 1).val) * 4096 + k.val) % 4096 = k.val; omega)
  have e2 : ridx_main_v8 i k = ix2 k q := funext fun a => Fin.ext (by
    match a with
    | ⟨0, _⟩ => rfl
    | ⟨1, _⟩ => exact h2)
  rw [val_main_v7_apply, val_main_v6_apply, e1, e2]
  rfl

/-- One element of the reference's result. -/
theorem ref_apply (R : Fin 16384) (q : Fin 4096) :
    (val_main_v26 (F := Ideal) x0 x1 x2 x3 x4 (ix2 R q) : EReal)
      = x2 (ix3 (⟨R.val / 8192, by omega⟩ : Fin 2) (⟨R.val % 8192, by omega⟩ : Fin 8192) q)
          + x3 (ix2 (⟨R.val / 8192, by omega⟩ : Fin 2) (⟨8192 + q.val, by omega⟩ : Fin 24576))
          * nrm (fun j => ∑ k : Fin 4096, (x0 (ix2 R k) * x1 (ix2 k j) : EReal)) (fun j => x4 (ix1 j)) q := by
  have hR := R.isLt
  have hq := q.isLt
  have i0 : (R.val * 4096 + q.val) / 33554432 = R.val / 8192 := by omega
  have i1 : (R.val * 4096 + q.val) / 4096 % 8192 = R.val % 8192 := by omega
  have i2 : (R.val * 4096 + q.val) % 4096 = q.val := by omega
  have iR : (R.val * 4096 + q.val) / 33554432 * 8192 + (R.val * 4096 + q.val) / 4096 % 8192 = R.val := by omega
  have a1 : idx_main_v20 (idx_main_v21 (idx_main_v26 (ix2 R q))) = ix1 q := funext fun a => Fin.ext (by match a with | ⟨0, _⟩ => exact i2)
  have a2 : idx_main_v2 (idx_main_v9 (idx_main_v23 (idx_main_v26 (ix2 R q)))) = ix2 (⟨R.val / 8192, by omega⟩ : Fin 2) (⟨8192 + q.val, by omega⟩ : Fin 24576) :=
    funext fun a => Fin.ext (by
      match a with
      | ⟨0, _⟩ => exact i0
      | ⟨1, _⟩ => exact congrArg (8192 + ·) i2)
  have a3 : idx_main_v26 (ix2 R q) = ix3 (⟨R.val / 8192, by omega⟩ : Fin 2) (⟨R.val % 8192, by omega⟩ : Fin 8192) q := funext fun a => Fin.ext (by
    match a with
    | ⟨0, _⟩ => exact i0
    | ⟨1, _⟩ => exact i1
    | ⟨2, _⟩ => exact i2)
  have d0 := ref_dot x0 x1 R q (idx_main_v26 (ix2 R q)) iR i2
  have d1 : ∀ j : Fin 4096, (val_main_v8 (F := Ideal) x0 x1 (idx_main_v11 (idx_main_v12 (idx_main_v18 (idx_main_v26 (ix2 R q)))) j) : EReal) = _ := fun j =>
    ref_dot x0 x1 R j _ iR rfl
  rw [val_main_v26_apply, val_main_v25_apply, val_main_v24_apply, val_main_v23_apply, val_main_v9_apply, val_main_v2_apply, a2,
    val_main_v22_apply, val_main_v21_apply, val_main_v20_apply, a1, val_main_v19_apply, d0, val_main_v18_apply, val_main_v17_apply,
    val_main_v16_apply, val_main_v15_apply, val_main_cst_1_apply, val_main_v14_apply, val_main_v13_apply, val_main_cst_0_apply,
    val_main_v12_apply, val_main_v11_apply, val_main_cst_apply]
  simp only [val_main_v10_apply, d1]
  have h0 : (FloatOps.ofBits (F := Ideal) .f32 0x00000000#32 : EReal) = 0 := Ideal.ofBits_zero_f32
  rw [h0, a3]
  generalize hS : (fun j => ∑ k : Fin 4096, (x0 (ix2 R k) * x1 (ix2 k j) : EReal)) = S
  have hS' : ∀ j : Fin 4096, ∑ k : Fin 4096, (x0 (ix2 R k) * x1 (ix2 k j) : EReal) = S j := fun j => congrFun hS j
  simp only [hS']
  show (x2 _ + x3 _ * (S q * Ideal.rsqrt (Ideal.div (0 + ∑ j : Fin 4096, (S j * S j : EReal)) _ + _) * x4 (ix1 q)) : EReal) = _
  rw [zero_add]
  rfl

end

/-! ## The grid -/

variable (m : (ℓ : Loc nD τ sig) → Buf (Elt Ideal) ℓ) (ρ : Dev nD → PrngReg)

def a0 (c : Dev nD) : Vec Ideal S16384x4096 .bf16 := m ((c : Thread nD τ).loc main_arg0)
def a1 (c : Dev nD) : Vec Ideal S4096x4096 .f32 := m ((c : Thread nD τ).loc main_arg1)
def a2 (c : Dev nD) : Vec Ideal S2x8192x4096 .f32 := m ((c : Thread nD τ).loc main_arg2)
def a3 (c : Dev nD) : Vec Ideal S2x24576 .f32 := m ((c : Thread nD τ).loc main_arg3)
def a4 (c : Dev nD) : Vec Ideal S4096 .f32 := m ((c : Thread nD τ).loc main_arg4)

theorem V_v0 (c : Dev nD) : V m c main_v0 = (truncf (F := Ideal) (s := S4096x4096) .bf16 (a1 m c) bitsLt_bf16_f32 : Vec Ideal S4096x4096 .bf16) := by
  unfold a1 V
  simp only [hostOps0, hostOps0_1, hostOps0_2, List.flatten_cons, List.flatten_nil, List.append_nil, List.cons_append, List.nil_append]
  after_results

theorem V_v1 (c : Dev nD) : V m c main_v1 = (shapeCast S16384x4096 (a2 m c) shapeCasts_S2x8192x4096_S16384x4096 : Vec Ideal S16384x4096 .f32) := by
  unfold a2 V
  simp only [hostOps0, hostOps0_1, hostOps0_2, List.flatten_cons, List.flatten_nil, List.append_nil, List.cons_append, List.nil_append]
  after_results
  rfl

theorem V_v3 (c : Dev nD) : V m c main_v3
    = (pad S2x8x4096 ![0, 0, 0] ![0, 2, 0] ![0, 0, 0] (shapeCast S2x6x4096 (a3 m c) shapeCasts_S2x24576_S2x6x4096)
        (sitofp (F := Ideal) .f32 (constantI S_ 32 0#32)) pads_S2x6x4096_S2x8x4096_000_020_000 h_S_ : Vec Ideal S2x8x4096 .f32) := by
  unfold a3 V
  simp only [hostOps0, hostOps0_1, hostOps0_2, List.flatten_cons, List.flatten_nil, List.append_nil, List.cons_append, List.nil_append]
  after_results
  try rfl

theorem V_v4 (c : Dev nD) : V m c main_v4 = (shapeCast S1x4096 (a4 m c) shapeCasts_S4096_S1x4096 : Vec Ideal S1x4096 .f32) := by
  unfold a4 V
  simp only [hostOps0, hostOps0_1, hostOps0_2, List.flatten_cons, List.flatten_nil, List.append_nil, List.cons_append, List.nil_append]
  after_results
  rfl

/-- Where each window's block lies. -/
theorem idx_facts : ∀ t : Fin cfg0.N, win0_5.index t (0 : Fin 2) = t.val / 8 ∧ win0_5.index t (1 : Fin 2) = 0
    ∧ win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 3) = t.val / 8 / 16 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

theorem tlt (t : Fin cfg0.N) : t.val < 256 := lt_of_lt_of_eq t.isLt N_0

/-- Row `r` of point `t`'s block among all rows. -/
def row (t : Fin cfg0.N) (r : Fin 512) : Fin 16384 := ⟨t.val / 8 * 512 + r.val, by have := tlt t; omega⟩

theorem blk0 (c : Dev nD) (t : Fin cfg0.N) (r k : Fin 512) :
    (iblk m c 0 t (ix2 r k) : EReal) = a0 m c (ix2 (row t r) (⟨t.val % 8 * 512 + k.val, by omega⟩ : Fin 4096)) := by
  obtain ⟨-, -, f00, f01, -⟩ := idx_facts t
  show (V m c main_arg0 : Vec Ideal S16384x4096 .bf16) (((cfg0.win 0).blk t).view.emb (ix2 r k)) = _
  rw [V_main_arg0]
  refine congrArg (a0 m c) ?_
  funext a; apply Fin.ext
  match a with
  | ⟨0, _⟩ => show win0_0.index t (0 : Fin 2) * 512 + 1 * r.val = t.val / 8 * 512 + r.val; omega
  | ⟨1, _⟩ => show win0_0.index t (1 : Fin 2) * 512 + 1 * k.val = t.val % 8 * 512 + k.val; omega

theorem blk1 (c : Dev nD) (t : Fin cfg0.N) (k : Fin 512) (q : Fin 4096) :
    (iblk m c 1 t (ix2 k q) : EReal) = a1 m c (ix2 (⟨t.val % 8 * 512 + k.val, by omega⟩ : Fin 4096) q) := by
  obtain ⟨-, -, -, -, f10, f11, -⟩ := idx_facts t
  show (V m c main_v0 : Vec Ideal S4096x4096 .bf16) (((cfg0.win 1).blk t).view.emb (ix2 k q)) = _
  rw [V_v0]
  refine congrArg (a1 m c) ?_
  funext a; apply Fin.ext
  match a with
  | ⟨0, _⟩ => show win0_1.index t (0 : Fin 2) * 512 + 1 * k.val = t.val % 8 * 512 + k.val; omega
  | ⟨1, _⟩ => show win0_1.index t (1 : Fin 2) * 4096 + 1 * q.val = q.val; omega

theorem blk2 (c : Dev nD) (t : Fin cfg0.N) (r : Fin 512) (q : Fin 4096) : (iblk m c 2 t (ix2 r q) : EReal)
    = a2 m c (ix3 (⟨(row t r).val / 8192, by omega⟩ : Fin 2) (⟨(row t r).val % 8192, by omega⟩ : Fin 8192) q) := by
  obtain ⟨-, -, -, -, -, -, f20, f21, -⟩ := idx_facts t
  show (V m c main_v1 : Vec Ideal S16384x4096 .f32) (((cfg0.win 2).blk t).view.emb (ix2 r q)) = _
  have e : ((cfg0.win 2).blk t).view.emb (ix2 r q) = (ix2 (row t r) q : S16384x4096.Idx) := by
    funext a; apply Fin.ext
    match a with
    | ⟨0, _⟩ => show win0_2.index t (0 : Fin 2) * 512 + 1 * r.val = t.val / 8 * 512 + r.val; omega
    | ⟨1, _⟩ => show win0_2.index t (1 : Fin 2) * 4096 + 1 * q.val = q.val; omega
  rw [e, V_v1]
  exact Cert.RowNorm.rows (a2 m c) shapeCasts_S2x8192x4096_S16384x4096 (row t r) q

theorem blk3 (c : Dev nD) (t : Fin cfg0.N) (r : Fin 512) (q : Fin 4096) :
    (View.ld (iblk m c 3 t : Vec Ideal S1x8x4096 .f32) (Rect.unit (s := S1x8x4096) ![0, 2, 0] S1x1x4096.size inb_S1x8x4096_S1x1x4096_0_2_0) (ix3 0 0 q) : EReal)
      = a3 m c (ix2 (⟨(row t r).val / 8192, by omega⟩ : Fin 2) (⟨8192 + q.val, by omega⟩ : Fin 24576)) := by
  obtain ⟨-, -, -, -, -, -, -, -, f30, f31, f32, -⟩ := idx_facts t
  have ht := tlt t
  refine (View.ld_unit_apply_of (iblk m c 3 t : Vec Ideal S1x8x4096 .f32) _ _ inb_S1x8x4096_S1x1x4096_0_2_0 (ix3 0 0 q) (ix3 0 2 q) (fun a => ?_)).trans ?_
  · match a with | ⟨0, _⟩ => rfl | ⟨1, _⟩ => rfl | ⟨2, _⟩ => show q.val = 0 + q.val; omega
  show (V m c main_v3 : Vec Ideal S2x8x4096 .f32) (((cfg0.win 3).blk t).view.emb (ix3 0 2 q)) = _
  have e : ((cfg0.win 3).blk t).view.emb (ix3 0 2 q) = (ix3 (⟨(row t r).val / 8192, by omega⟩ : Fin 2) 2 q : S2x8x4096.Idx) := by
    funext a; apply Fin.ext
    match a with
    | ⟨0, _⟩ => show win0_3.index t (0 : Fin 3) * 1 + 1 * 0 = (t.val / 8 * 512 + r.val) / 8192; omega
    | ⟨1, _⟩ => show win0_3.index t (1 : Fin 3) * 8 + 1 * 2 = 2; omega
    | ⟨2, _⟩ => show win0_3.index t (2 : Fin 3) * 4096 + 1 * q.val = q.val; omega
  rw [e, V_v3]
  exact Cert.RowNorm.table (a3 m c) _ shapeCasts_S2x24576_S2x6x4096 pads_S2x6x4096_S2x8x4096_000_020_000 h_S_ _ 2 (by decide) q _ rfl rfl

theorem blk4 (c : Dev nD) (t : Fin cfg0.N) (k : Fin 4096) : (iblk m c 4 t (ix2 0 k) : EReal) = a4 m c (ix1 k) := by
  obtain ⟨-, -, -, -, -, -, -, -, -, -, -, f40, f41⟩ := idx_facts t
  show (V m c main_v4 : Vec Ideal S1x4096 .f32) (((cfg0.win 4).blk t).view.emb (ix2 0 k)) = _
  have e : ((cfg0.win 4).blk t).view.emb (ix2 0 k) = (ix2 0 k : S1x4096.Idx) := by
    funext a; apply Fin.ext
    match a with
    | ⟨0, _⟩ => show win0_4.index t (0 : Fin 2) * 1 + 1 * 0 = 0; omega
    | ⟨1, _⟩ => show win0_4.index t (1 : Fin 2) * 4096 + 1 * k.val = k.val; omega
  rw [e, V_v4]
  exact Cert.RowNorm.rowOf (a4 m c) shapeCasts_S4096_S1x4096 k

/-- The terms of one element's sum. -/
def f (c : Dev nD) (R : Fin 16384) (q : Fin 4096) (n : ℕ) : EReal :=
  if h : n < 4096 then (a0 m c (ix2 R (⟨n, h⟩ : Fin 4096)) * a1 m c (ix2 (⟨n, h⟩ : Fin 4096) q) : EReal) else 0

/-- A point's block product is its part of the sum. -/
theorem part (c : Dev nD) (t : Fin cfg0.N) (r : Fin 512) (q : Fin 4096) (u : Vec Ideal S512x512 .bf16) (w : Vec Ideal S512x4096 .bf16)
    (hu : u = iblk m c 0 t) (hw : w = iblk m c 1 t) :
    ∑ k : Fin 512, (u (ix2 r k) * w (ix2 k q) : EReal) = ∑ k : Fin 512, f m c (row t r) q (t.val % 8 * 512 + k.val) := by
  subst hu hw
  refine Finset.sum_congr rfl fun k _ => ?_
  rw [blk0, blk1]
  unfold f
  rw [dif_pos (by omega)]

/-- The sum so far, once a point's product is added. -/
theorem add_part (c : Dev nD) (t : Fin cfg0.N) (r : Fin 512) (q : Fin 4096) (acc : Vec Ideal S512x4096 .f32)
    (h : (acc (ix2 r q) : EReal) = ∑ k ∈ Finset.range (t.val % 8 * 512), f m c (row t r) q k) :
    (k0_pay2 (F := Ideal) acc (iblk m c 0 t) (iblk m c 1 t) (ix2 r q) : EReal) = ∑ k ∈ Finset.range ((t.val % 8 + 1) * 512), f m c (row t r) q k := by
  refine (pay2_apply acc (iblk m c 0 t) (iblk m c 1 t) r q).trans ?_
  rw [h, ← Cert.Panel.sum_step]
  exact congrArg (fun z : EReal => _ + z) (part m c t r q _ _ rfl rfl)

theorem at_A (c : Dev nD) (t : Fin cfg0.N) (h0 : t.val % 8 = 0) (r : Fin 512) (q : Fin 4096) :
    (outsAt0 m c t.val t.isLt (ix2 r q) : EReal) = ∑ k ∈ Finset.range ((t.val % 8 + 1) * 512), f m c (row t r) q k := by
  rw [outsAt0_A m c t h0 (by omega), out_A]
  refine add_part m c t r q _ ?_
  rw [pay1_apply, h0, Nat.zero_mul, Finset.range_zero, Finset.sum_empty]

/-- What a row of blocks' points, but for the last, leave: the sum so far. -/
theorem state (c : Dev nD) : ∀ (n : ℕ) (hn : n < cfg0.N) (h7 : n % 8 ≠ 7) (r : Fin 512) (q : Fin 4096),
    (outsAt0 m c n hn (ix2 r q) : EReal) = ∑ k ∈ Finset.range ((n % 8 + 1) * 512), f m c (row ⟨n, hn⟩ r) q k := by
  intro n
  induction n with
  | zero => intro hn _ r q; exact at_A m c ⟨0, hn⟩ rfl r q
  | succ n ih =>
    intro hn h7 r q
    by_cases h0 : (n + 1) % 8 = 0
    · exact at_A m c ⟨n + 1, hn⟩ h0 r q
    · rw [show outsAt0 m c (n + 1) hn = _ from outsAt0_B m c ⟨n + 1, hn⟩ h0 h7, out_B]
      refine add_part m c ⟨n + 1, hn⟩ r q _ ?_
      have hr : row ⟨n, Nat.lt_of_succ_lt hn⟩ r = row ⟨n + 1, hn⟩ r := Fin.ext (by
        show n / 8 * 512 + r.val = (n + 1) / 8 * 512 + r.val; omega)
      refine (ih (Nat.lt_of_succ_lt hn) (by omega) r q).trans ?_
      rw [hr]
      show ∑ k ∈ Finset.range ((n % 8 + 1) * 512), _ = ∑ k ∈ Finset.range ((n + 1) % 8 * 512), _
      rw [show n % 8 + 1 = (n + 1) % 8 by omega]

/-- What a row of blocks' last point writes. -/
theorem out_apply (c : Dev nD) (t : Fin cfg0.N) (h1 : t.val % 8 = 7) (r : Fin 512) (q : Fin 4096) :
    (outsAt0 m c t.val t.isLt (ix2 r q) : EReal)
      = a2 m c (ix3 (⟨(row t r).val / 8192, by omega⟩ : Fin 2) (⟨(row t r).val % 8192, by omega⟩ : Fin 8192) q) + a3 m c (ix2 (⟨(row t r).val / 8192, by omega⟩ : Fin 2) (⟨8192 + q.val, by omega⟩ : Fin 24576))
          * nrm (fun j => ∑ k : Fin 4096, (a0 m c (ix2 (row t r) k) * a1 m c (ix2 k j) : EReal)) (fun j => a4 m c (ix1 j)) q := by
  have hp : t.val - 1 < cfg0.N := Nat.lt_of_le_of_lt (Nat.sub_le _ _) t.isLt
  have hr : row ⟨t.val - 1, hp⟩ r = row t r := Fin.ext (by
    show (t.val - 1) / 8 * 512 + r.val = t.val / 8 * 512 + r.val; omega)
  have hs : ∀ j : Fin 4096, (k0_pay2 (F := Ideal) (outsAt0 m c (t.val - 1) hp) (iblk m c 0 t) (iblk m c 1 t) (ix2 r j) : EReal)
      = ∑ k : Fin 4096, (a0 m c (ix2 (row t r) k) * a1 m c (ix2 k j) : EReal) := fun j => by
    refine (add_part m c t r j _ ?_).trans ?_
    · rw [state m c (t.val - 1) hp (by omega) r j, hr, show (t.val - 1) % 8 + 1 = t.val % 8 by omega]
    · rw [h1, show (7 + 1) * 512 = 4096 + 0 by rfl, Cert.Panel.sum_cut _ 4096 0 (fun k hk => dif_neg (by omega))]
      refine Finset.sum_congr rfl fun k _ => ?_
      unfold f
      rw [dif_pos k.isLt]
  rw [outsAt0_C m c t (by omega) h1, out_C]
  refine (pay3_apply _ _ _ _ r q).trans ?_
  rw [blk2, blk3 m c t r q]
  simp only [hs, blk4]

/-- The reference's array, from this program's arguments. -/
def G (c : Dev nD) : S16384x4096.Idx → Elt Ideal .f32 :=
  Cert.OutRefIdeal.Read.val_main_v26 (F := Ideal) (a0 m c) (a1 m c) (a2 m c) (a3 m c) (a4 m c)

theorem flushed_eq (c : Dev nD) (t : Fin cfg0.N) (hf : (cfg0.win 5).flush t = true) :
    (dats m 0 c).flushed 5 t = ((cfg0.win 5).blk t).view.read (Elt Ideal) (G m c) := by
  rw [Value.flushed5]
  obtain ⟨e0, e1, -⟩ := idx_facts t
  funext y
  show outsAt0 m c t.val t.isLt y = G m c (((cfg0.win 5).blk t).view.emb y)
  have e : ((cfg0.win 5).blk t).view.emb y = (ix2 (row t (y 0)) (y 1) : S16384x4096.Idx) := by
    funext a; apply Fin.ext
    match a with
    | ⟨0, _⟩ => show win0_5.index t (0 : Fin 2) * 512 + 1 * (y 0).val = t.val / 8 * 512 + (y 0).val; omega
    | ⟨1, _⟩ => show win0_5.index t (1 : Fin 2) * 4096 + 1 * (y 1).val = (y 1).val; omega
  have hy : y = ix2 (y 0) (y 1) := by
    funext a; match a with | ⟨0, _⟩ => rfl | ⟨1, _⟩ => rfl
  rw [e]
  rw [hy]
  refine (out_apply m c t ((flush0_5 t).mp hf) (y 0) (y 1)).trans ?_
  exact (ref_apply (a0 m c) (a1 m c) (a2 m c) (a3 m c) (a4 m c) (row t (y 0)) (y 1)).symm

theorem mem_blk5 (t : Fin cfg0.N) (i : S16384x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v5).slice (win0_5.rect t)).set ↔ _
  rw [View.set_slice_whole, Rect.mem_set_unit]
  exact Iff.rfl

/-- The array after the run is the reference's: the blocks tile it. -/
theorem final (c : Dev nD) : (dats m 0 c).arrAt 5 cfg0.N = G m c :=
  (dats m 0 c).arrAt_eq_of_cover 5 _ (fun t hf => flushed_eq m c t hf) (fun i => by
    have h0 : (i 0).val < 16384 := (i 0).isLt
    have h1 : (i 1).val < 4096 := (i 1).isLt
    obtain ⟨e0, e1, -⟩ := idx_facts ⟨(i 0).val / 512 * 8 + 7, lt_of_lt_of_eq (by omega) N_0.symm⟩
    refine ⟨⟨(i 0).val / 512 * 8 + 7, lt_of_lt_of_eq (by omega) N_0.symm⟩, (flush0_5 _).mpr (by dsimp only; omega), ?_⟩
    rw [mem_blk5]
    dsimp only at e0 e1
    intro a
    match a with
    | ⟨0, _⟩ => show win0_5.index _ (0 : Fin 2) * 512 ≤ (i 0).val ∧ (i 0).val < win0_5.index _ (0 : Fin 2) * 512 + 512; rw [e0]; omega
    | ⟨1, _⟩ => show win0_5.index _ (1 : Fin 2) * 4096 ≤ (i 1).val ∧ (i 1).val < win0_5.index _ (1 : Fin 2) * 4096 + 4096; rw [e1]; omega)

end Cert.OutIdeal.Hand

end
-- ==== Proof.OutPair.lean ====
/- The output projection's claims: the frames, and that the two programs agree. -/
module

public import proofs.«01_k».proof.Defs
public import proofs.«01_k».proof.Proof.Gen.Out.Frame
public import proofs.«01_k».proof.Proof.OutValue

@[expose] public section

noncomputable section

namespace Cert.OutPair

open Idealize.ShloMosaic Idealize.SL.Sem

theorem frame : Cert.quiescent_Out (hOut := Cert.Out.Gen.facts) := fun m ρ _ => Cert.Out.Gen.frame m ρ

theorem frameIdeal : Cert.quiescent_OutIdeal (hOutIdeal := Cert.OutIdeal.Gen.facts) :=
  fun m ρ _ => Cert.OutIdeal.Gen.frame m ρ

theorem frameRef : Cert.quiescent_OutRefIdeal (hOutRefIdeal := Cert.OutRefIdeal.Gen.facts) := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

/-- Both programs run, and from equal arguments the results are equal. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => Cert.OutIdeal.Hand.G m c, ?_, ?_⟩
  · refine (θ_run (Cert.OutIdeal.defs (F := Ideal)) _ _).mono (fun r h c => ?_) (Cert.OutIdeal.Value.run_blocks (F := Ideal) m g)
    exact ⟨(h c).1.trans (Cert.OutIdeal.Hand.final m c), (h c).2⟩
  · refine (θ_run (Cert.OutRefIdeal.defs (F := Ideal)) _ _).mono (fun r h c => ?_) (Cert.OutRefIdeal.Value.run (F := Ideal) m' g')
    refine ⟨(h c).1.trans ?_, (h c).2⟩
    obtain ⟨a0, a1, a2, a3, a4⟩ := hargs c
    rw [Cert.OutRefIdeal.Read.val_main_v26_eq, a0, a1, a2, a3, a4]
    rfl

end Cert.OutPair

end
-- ==== Proof.GateUpValue.lean ====
/- The gated hidden layer: what a grid point writes is its block of the reference's array, and the blocks tile the array before its padding columns are dropped. -/
module

public import proofs.«01_k».proof.Proof.Gen.GateUpIdeal.Frame
public import proofs.«01_k».proof.Proof.Gen.GateUpRefIdeal.Read
public import proofs.«01_k».proof.Proof.RowNorm
public import Idealize.ShloMosaic.Lib.Pipeline.ValueKit.Tiles

@[expose] public section

set_option maxRecDepth 8192

noncomputable section

namespace Cert.GateUpIdeal.Hand

open Cert.GateUpIdeal Cert.GateUpIdeal.Gen Idealize.ShloMosaic Idealize.ShloMosaic.TcCoe Idealize.ShloMosaic.Tactic Idealize.SL.Sem
open Idealize.ShloMosaic.Pipeline (Dat)
open Idealize.ShloMosaic.ValueIdx
open Cert.RowNorm (inv nrm mdl sg)

theorem hz : (![0, 0] : Fin 2 → Nat) = fun _ => 0 := funext fun a => by fin_cases a <;> rfl

/-! ## The payloads -/

/-- The first payload is the normalised block, modulated. -/
theorem pay1_apply (x : Vec Ideal S512x4096 .f32) (g : Vec Ideal S1x4096 .f32) (sh sc : Vec Ideal S1x1x4096 .f32) (r : Fin 512) (k : Fin 4096) :
    (k0_pay1 (F := Ideal) x g sh sc (ix2 r k) : EReal)
      = mdl (fun j => x (ix2 r j)) (fun j => g (ix2 0 j)) (fun j => sh (ix3 0 0 j)) (fun j => sc (ix3 0 0 j)) k := by
  unfold k0_pay1
  rw [shapeCast_self, shapeCast_self]
  have e := Cert.RowNorm.body_apply x g reduces_S512x4096_S512 rfl shapeCasts_S512_S512x1 broadcasts_S512x1_S512x4096 broadcasts_S1x4096_S512x4096 r k
  have e1 := fun v => Cert.RowNorm.bcRow v broadcasts_S1x4096_S512x4096 r k
  simp only [truncf_apply, addf_apply, mulf_apply (Cert.RowNorm.body _ _ _ _ _ _ _)]
  show ((Cert.RowNorm.body x g _ _ _ _ _ (ix2 r k)) * broadcastTo S512x4096 _ _ (ix2 r k) + broadcastTo S512x4096 _ _ (ix2 r k) : EReal) = _
  rw [e, e1, e1]
  show (_ * (_ + shapeCast S1x4096 sc _ (ix2 0 k)) + shapeCast S1x4096 sh _ (ix2 0 k) : EReal) = _
  rw [Cert.RowNorm.cast1, Cert.RowNorm.cast1]
  unfold mdl
  have h1 : (Scalar.ofBits (F := Ideal) .f32 0x3F800000#32 : EReal) = 1 := Ideal.ofBits_one_f32
  rw [← h1]
  rfl

/-- The gate's product, through the gate's own activation, times the other product. -/
def swi (g v : EReal) : EReal := g * sg g * v

theorem pay2_apply (u : Vec Ideal S512x4096 .bf16) (w : Vec Ideal S4096x1024 .bf16) (r : Fin 512) (q : Fin 512) :
    (k0_pay2 (F := Ideal) u w (ix2 r q) : EReal)
      = swi (∑ k : Fin 4096, (u (ix2 r k) * w (ix2 k (⟨q.val, by omega⟩ : Fin 1024)) : EReal))
          (∑ k : Fin 4096, (u (ix2 r k) * w (ix2 k (⟨512 + q.val, by omega⟩ : Fin 1024)) : EReal)) := by
  have e' := fun q' : Fin 1024 => Ideal.matmul_plain_apply (M := 512) (K := 4096) (N := 1024) (φ₁ := .bf16) (φ₂ := .bf16) none u w (constant S512x1024 .f32 0x00000000#32) r q'
  have hd : dot_S512x4096_S4096x1024_S512x1024_1_0_0_1_n_n = DotDims.plain 512 4096 1024 := rfl
  have es0 : ∀ x : FVec Ideal S512x1024 .f32, extractStridedSlice S512x512 ![0, 0] x slices_S512x1024_o0_0_S512x512 (ix2 r q) = x (ix2 r (⟨q.val, by omega⟩ : Fin 1024)) := fun x =>
    extractStridedSlice_apply _ x _ _ _ (fun a => match a with | ⟨0, _⟩ => by show r.val = 0 + r.val; omega | ⟨1, _⟩ => by show q.val = 0 + q.val; omega)
  have es1 : ∀ x : FVec Ideal S512x1024 .f32, extractStridedSlice S512x512 ![0, 512] x slices_S512x1024_o0_512_S512x512 (ix2 r q) = x (ix2 r (⟨512 + q.val, by omega⟩ : Fin 1024)) := fun x =>
    extractStridedSlice_apply _ x _ _ _ (fun a => match a with | ⟨0, _⟩ => by show r.val = 0 + r.val; omega | ⟨1, _⟩ => by show 512 + q.val = 512 + q.val; rfl)
  unfold k0_pay2
  rw [shapeCast_self, hd]
  generalize hM : matmul (DotDims.plain 512 4096 1024) none (u : FVec Ideal S512x4096 .bf16) (w : FVec Ideal S4096x1024 .bf16) (constant (F := Ideal) S512x1024 .f32 0x00000000#32) = M
  have eM : ∀ q' : Fin 1024, (M (ix2 r q') : EReal) = ∑ k : Fin 4096, (u (ix2 r k) * w (ix2 k q') : EReal) := fun q' => by
    refine (congrFun hM.symm _).trans ((e' q').trans ?_)
    rw [constant_apply, Ideal.ofBits_zero_f32]
    exact zero_add _
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  show ((extractStridedSlice S512x512 ![0, 0] M slices_S512x1024_o0_0_S512x512 (ix2 r q)
      * Ideal.div (Scalar.ofBits (F := Ideal) .f32 0x3F800000#32) (Scalar.ofBits (F := Ideal) .f32 0x3F800000#32
        + Ideal.exp (Scalar.ofBits (F := Ideal) .f32 0x00000000#32 - extractStridedSlice S512x512 ![0, 0] M slices_S512x1024_o0_0_S512x512 (ix2 r q))))
      * extractStridedSlice S512x512 ![0, 512] M slices_S512x1024_o0_512_S512x512 (ix2 r q) : EReal) = _
  rw [es0, es1, eM, eM, h1, h0]
  unfold swi sg
  simp only [zero_sub]

/-! ## What a point leaves -/

variable {F : FTy → Type} [FloatOps F]

/-- The block the first point of a row computes and the others read. -/
def blockU (x : Vec F S512x4096 .f32) (md : Vec F S1x8x4096 .f32) (g : Vec F S1x4096 .f32) : Vec F S512x4096 .bf16 :=
  k0_pay1 x g (View.ld md (Rect.unit (s := S1x8x4096) ![0, 3, 0] S1x1x4096.size inb_S1x8x4096_S1x1x4096_0_3_0))
    (View.ld md (Rect.unit (s := S1x8x4096) ![0, 4, 0] S1x1x4096.size inb_S1x8x4096_S1x1x4096_0_4_0))

section
variable (c : Dev nD) (i : grid0.Coords) (arg2 : Memref sig .tc .vmem S512x4096 .f32) (harg2 : arg2.IsWhole)
  (arg3 : Memref sig .tc .vmem S1x8x4096 .f32) (harg3 : arg3.IsWhole) (arg4 : Memref sig .tc .vmem S1x4096 .f32) (harg4 : arg4.IsWhole)
  (arg5 : Memref sig .tc .vmem S4096x1024 .bf16) (harg5 : arg5.IsWhole) (arg6 : Memref sig .tc .vmem S512x512 .bf16) (harg6 : arg6.IsWhole)
  (arg7 : Memref sig .tc .vmem S512x4096 .bf16) (harg7 : arg7.IsWhole)
  (x0 : Vec F S512x4096 .f32) (x1 : Vec F S1x8x4096 .f32) (x2 : Vec F S1x4096 .f32) (x3 : Vec F S4096x1024 .bf16) (xs : Vec F S512x4096 .bf16)

theorem sout_A (hc : cond0_0 i) :
    sout0_A_0 c i arg2 harg2 arg3 harg3 arg4 harg4 arg5 harg5 arg6 harg6 arg7 harg7 hc x0 x1 x2 x3 = blockU x0 x1 x2 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero hz]
  simp only [View.readAt_eq_ld, harg2.read_unread, harg3.read_unread, harg4.read_unread, View.ld_unit_zero (S := S512x4096) hz,
    View.ld_unit_zero (S := S1x4096) hz]
  rfl

theorem out_A (hc : cond0_0 i) :
    out0_A_4 c i arg2 harg2 arg3 harg3 arg4 harg4 arg5 harg5 arg6 harg6 arg7 harg7 hc x0 x1 x2 x3 = k0_pay2 (blockU x0 x1 x2) x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_unit_zero hz, View.readCov_unit_zero (S := S512x4096) _ hz]
  simp only [View.readAt_eq_ld, harg2.read_unread, harg3.read_unread, harg4.read_unread, harg5.read_unread,
    View.ld_unit_zero (S := S512x4096) hz, View.ld_unit_zero (S := S1x4096) hz, View.ld_unit_zero (S := S4096x1024) hz]
  rfl

theorem out_B (hc : ¬cond0_0 i) :
    out0_B_4 c i arg2 harg2 arg3 harg3 arg4 harg4 arg5 harg5 arg6 harg6 arg7 harg7 hc x0 x1 x2 x3 xs = k0_pay2 xs x3 := by
  unfold out0_B_4
  rw [View.read_writes_eq_canon _ _ _ (cover0_B_4 c i arg2 harg2 arg3 harg3 arg4 harg4 arg5 harg5 arg6 harg6 arg7 harg7 hc x0 x1 x2 x3 xs)]
  unfold kernelRun0_B
  dsimp only
  sl_unfold_words
  rw [View.canon_unit_zero hz]
  simp only [View.readAt_eq_ld, harg7.read_unread, harg5.read_unread,
    View.ld_unit_zero (S := S512x4096) hz, View.ld_unit_zero (S := S4096x1024) hz]
end

/-! ## The reference, element by element -/

section
open Cert.GateUpRefIdeal.Read
open Cert.GateUpRefIdeal (S2x8192x4096 S2x8192x22016)

variable (x0 : Vec Ideal S16384x4096 .f32) (x1 : Vec Ideal S2x24576 .f32) (x2 : Vec Ideal S4096 .f32) (x3 : Vec Ideal S4096x22016 .f32)

/-- A row of the reference's modulated array. -/
theorem ref_row (R : Fin 16384) (i : S2x8192x4096.Idx) (h0 : (i 0).val = R.val / 8192) (h1 : (i 1).val = R.val % 8192) :
    (val_main_v27 (F := Ideal) x0 x1 x2 i : EReal)
      = mdl (fun j => x0 (ix2 R j)) (fun j => x2 (ix1 j)) (fun j => x1 (ix2 (⟨R.val / 8192, by omega⟩ : Fin 2) (⟨12288 + j.val, by omega⟩ : Fin 24576)))
          (fun j => x1 (ix2 (⟨R.val / 8192, by omega⟩ : Fin 2) (⟨16384 + j.val, by omega⟩ : Fin 24576))) (⟨(i 2).val, (i 2).isLt⟩ : Fin 4096) := by
  have h2 : (i 2).val < 4096 := (i 2).isLt
  have hR := R.isLt
  have b0 : ∀ j : Fin 4096, idx_main_v0 (idx_main_v8 (idx_main_v9 (idx_main_v15 i)) j) = ix2 R j := fun j => funext fun a => Fin.ext (by
    match a with
    | ⟨0, _⟩ => show (((i 0).val * 8192 + (i 1).val) * 4096 + j.val) / 4096 = R.val; omega
    | ⟨1, _⟩ => show (((i 0).val * 8192 + (i 1).val) * 4096 + j.val) % 4096 = j.val; omega)
  have b00 : idx_main_v0 i = ix2 R (⟨(i 2).val, (i 2).isLt⟩ : Fin 4096) := funext fun a => Fin.ext (by
    match a with
    | ⟨0, _⟩ => show (((i 0).val * 8192 + (i 1).val) * 4096 + (i 2).val) / 4096 = R.val; omega
    | ⟨1, _⟩ => show (((i 0).val * 8192 + (i 1).val) * 4096 + (i 2).val) % 4096 = (i 2).val; omega)
  have b1 : idx_main_v17 (idx_main_v18 i) = ix1 (⟨(i 2).val, (i 2).isLt⟩ : Fin 4096) := funext fun a => Fin.ext (by match a with | ⟨0, _⟩ => rfl)
  have b2 : idx_main_v4 (idx_main_v25 (idx_main_v26 i)) = ix2 (⟨R.val / 8192, by omega⟩ : Fin 2) (⟨12288 + (i 2).val, by omega⟩ : Fin 24576) := funext fun a => Fin.ext (by
    match a with | ⟨0, _⟩ => exact h0 | ⟨1, _⟩ => rfl)
  have b3 : idx_main_v5 (idx_main_v20 (idx_main_v23 i)) = ix2 (⟨R.val / 8192, by omega⟩ : Fin 2) (⟨16384 + (i 2).val, by omega⟩ : Fin 24576) := funext fun a => Fin.ext (by
    match a with | ⟨0, _⟩ => exact h0 | ⟨1, _⟩ => rfl)
  rw [val_main_v27_apply, val_main_v26_apply, val_main_v25_apply, val_main_v4_apply, b2,
    val_main_v24_apply, val_main_v23_apply, val_main_v22_apply, val_main_v21_apply, val_main_cst_2_apply, val_main_v20_apply, val_main_v5_apply, b3,
    val_main_v19_apply, val_main_v18_apply, val_main_v17_apply, b1, val_main_v16_apply, val_main_v15_apply, val_main_v14_apply,
    val_main_v13_apply, val_main_v12_apply, val_main_cst_1_apply, val_main_v11_apply, val_main_v10_apply, val_main_cst_0_apply, val_main_v9_apply,
    val_main_v8_apply, val_main_cst_apply]
  simp only [val_main_v7_apply, val_main_v0_apply, b0, b00]
  have e1 : (FloatOps.ofBits (F := Ideal) .f32 0x3F800000#32 : EReal) = 1 := Ideal.ofBits_one_f32
  have e0 : (FloatOps.ofBits (F := Ideal) .f32 0x00000000#32 : EReal) = 0 := Ideal.ofBits_zero_f32
  rw [e1, e0]
  show ((x0 (ix2 R _) * Ideal.rsqrt (Ideal.div (0 + ∑ j : Fin 4096, (x0 (ix2 R j) * x0 (ix2 R j) : EReal)) _ + _) * x2 (ix1 _)) * (1 + _) + _ : EReal) = _
  rw [zero_add]
  rfl

/-- One product of the reference. -/
theorem ref_dot (R : Fin 16384) (C : Fin 22016) (i : S2x8192x22016.Idx) (h0 : (i 0).val = R.val / 8192) (h1 : (i 1).val = R.val % 8192) (h2 : (i 2).val = C.val) :
    (val_main_v28 (F := Ideal) x0 x1 x2 x3 i : EReal)
      = ∑ k : Fin 4096, (mdl (fun j => x0 (ix2 R j)) (fun j => x2 (ix1 j)) (fun j => x1 (ix2 (⟨R.val / 8192, by omega⟩ : Fin 2) (⟨12288 + j.val, by omega⟩ : Fin 24576)))
          (fun j => x1 (ix2 (⟨R.val / 8192, by omega⟩ : Fin 2) (⟨16384 + j.val, by omega⟩ : Fin 24576))) k * x3 (ix2 k C) : EReal) := by
  rw [val_main_v28_apply]
  refine Finset.sum_congr rfl fun k _ => ?_
  have e2 : ridx_main_v28 i k = ix2 k C := funext fun a => Fin.ext (by match a with | ⟨0, _⟩ => rfl | ⟨1, _⟩ => exact h2)
  rw [e2, ref_row x0 x1 x2 R _ h0 h1]

/-- One element of the reference's hidden layer. -/
theorem ref_apply (R : Fin 16384) (n : Fin 11008) :
    (val_main_v34 (F := Ideal) x0 x1 x2 x3 (ix2 R n) : EReal)
      = swi (∑ k : Fin 4096, (mdl (fun j => x0 (ix2 R j)) (fun j => x2 (ix1 j)) (fun j => x1 (ix2 (⟨R.val / 8192, by omega⟩ : Fin 2) (⟨12288 + j.val, by omega⟩ : Fin 24576)))
          (fun j => x1 (ix2 (⟨R.val / 8192, by omega⟩ : Fin 2) (⟨16384 + j.val, by omega⟩ : Fin 24576))) k * x3 (ix2 k (⟨n.val, by omega⟩ : Fin 22016)) : EReal))
        (∑ k : Fin 4096, (mdl (fun j => x0 (ix2 R j)) (fun j => x2 (ix1 j)) (fun j => x1 (ix2 (⟨R.val / 8192, by omega⟩ : Fin 2) (⟨12288 + j.val, by omega⟩ : Fin 24576)))
          (fun j => x1 (ix2 (⟨R.val / 8192, by omega⟩ : Fin 2) (⟨16384 + j.val, by omega⟩ : Fin 24576))) k * x3 (ix2 k (⟨11008 + n.val, by omega⟩ : Fin 22016)) : EReal)) := by
  have hR := R.isLt
  have hn := n.isLt
  have i0 : (R.val * 11008 + n.val) / 90177536 = R.val / 8192 := by omega
  have i1 : (R.val * 11008 + n.val) / 11008 % 8192 = R.val % 8192 := by omega
  have i2 : (R.val * 11008 + n.val) % 11008 = n.val := by omega
  rw [val_main_v34_apply, val_main_v33_apply, val_main_v32_apply, val_main_v31_apply, val_main_call0_v5_apply, val_main_call0_v4_apply, val_main_call0_cst_0_apply,
    val_main_call0_v3_apply, val_main_call0_v2_apply, val_main_call0_cst_apply, val_main_call0_v1_apply, val_main_call0_v0_apply,
    val_main_v29_apply, val_main_v30_apply,
    ref_dot x0 x1 x2 x3 R (⟨n.val, by omega⟩ : Fin 22016) (idx_main_v29 (idx_main_v33 (ix2 R n))) i0 i1 i2,
    ref_dot x0 x1 x2 x3 R (⟨11008 + n.val, by omega⟩ : Fin 22016) (idx_main_v30 (idx_main_v33 (ix2 R n))) i0 i1 (congrArg (11008 + ·) i2)]
  have e1 : (FloatOps.ofBits (F := Ideal) .f32 0x3F800000#32 : EReal) = 1 := Ideal.ofBits_one_f32
  rw [e1]
  rfl

end

/-! ## The interleaved weights -/

/-- The two halves of the weights, padded and cut in tiles of 512 columns, a tile of the one beside a tile of the other. -/
def weave (w : Vec Ideal S4096x22016 .f32) (z z' : FVec Ideal S_ .f32) : Vec Ideal S4096x22528 .f32 :=
  shapeCast S4096x22528 (concatenate S4096x22x2x512 2
    [⟨S4096x22x1x512, broadcastInDim S4096x22x1x512 ![0, 1, 3] bcast_S4096x22x512_S4096x22x1x512_0_1_3 (shapeCast S4096x22x512
        (pad S4096x11264 ![0, 0] ![0, 256] ![0, 0] (extractStridedSlice S4096x11008 ![0, 0] w slices_S4096x22016_S4096x11008_0_0) z pads_S4096x11008_S4096x11264_000_02560 h_S_) shapeCasts_S4096x11264_S4096x22x512)⟩,
     ⟨S4096x22x1x512, broadcastInDim S4096x22x1x512 ![0, 1, 3] bcast_S4096x22x512_S4096x22x1x512_0_1_3 (shapeCast S4096x22x512
        (pad S4096x11264 ![0, 0] ![0, 256] ![0, 0] (extractStridedSlice S4096x11008 ![0, 11008] w slices_S4096x22016_S4096x11008_0_11008) z' pads_S4096x11008_S4096x11264_000_02560 h_S_) shapeCasts_S4096x11264_S4096x22x512)⟩]
    concatenates_S4096x22x1x512_S4096x22x1x512_S4096x22x2x512_d2) shapeCasts_S4096x22x2x512_S4096x22528

/-- A tile of one padded half. -/
theorem half (v : FVec Ideal S4096x11008 .f32) (z : FVec Ideal S_ .f32) (k : Fin 4096) (j : Fin 22) (q : Fin 512) (h : j.val * 512 + q.val < 11008) :
    (broadcastInDim S4096x22x1x512 ![0, 1, 3] bcast_S4096x22x512_S4096x22x1x512_0_1_3 (shapeCast S4096x22x512
        (pad S4096x11264 ![0, 0] ![0, 256] ![0, 0] v z pads_S4096x11008_S4096x11264_000_02560 h_S_) shapeCasts_S4096x11264_S4096x22x512) (ix4 k j 0 q) : EReal)
      = v (ix2 k (⟨j.val * 512 + q.val, h⟩ : Fin 11008)) := by
  rw [broadcastInDim_apply _ _ _ (ix4 k j 0 q) (ix3 k j q) (fun a => match a with | ⟨0, _⟩ => rfl | ⟨1, _⟩ => rfl | ⟨2, _⟩ => rfl),
    shapeCast_apply _ _ (ix3 k j q) (ix2 k (⟨j.val * 512 + q.val, by omega⟩ : Fin 11264)) (by
      rw [Shape.rowMajor_val_two, Shape.rowMajor_val_three]
      show k.val * 11264 + (j.val * 512 + q.val) = (k.val * 22 + j.val) * 512 + q.val; omega)]
  exact pad_apply_of_inside _ _ _ _ _ _ _ _ (ix2 k (⟨j.val * 512 + q.val, h⟩ : Fin 11008)) (fun a => match a with
    | ⟨0, _⟩ => by show k.val = 0 + k.val * 1; omega
    | ⟨1, _⟩ => by show j.val * 512 + q.val = 0 + (j.val * 512 + q.val) * 1; omega)

theorem weave_gate (w : Vec Ideal S4096x22016 .f32) (z z' : FVec Ideal S_ .f32) (k : Fin 4096) (j : Fin 22) (q : Fin 512) (h : j.val * 512 + q.val < 11008) (C : Fin 22528) (hC : C.val = j.val * 1024 + q.val) :
    (weave w z z' (ix2 k C) : EReal) = w (ix2 k (⟨j.val * 512 + q.val, by omega⟩ : Fin 22016)) := by
  unfold weave
  rw [shapeCast_apply _ _ (ix2 k C) (ix4 k j 0 q : S4096x22x2x512.Idx) (by
      rw [Shape.rowMajor_val_two, Shape.rowMajor_val_four]
      show ((k.val * 22 + j.val) * 2 + 0) * 512 + q.val = k.val * 22528 + C.val; omega),
    concatenate_pair_apply_left (s₁ := S4096x22x1x512) (s₂ := S4096x22x1x512) (2 : Fin S4096x22x2x512.rank) _ _ _ (ix4 k j 0 q : S4096x22x2x512.Idx) rfl (ix4 k j 0 q : S4096x22x1x512.Idx) (fun b => match b with
      | ⟨0, _⟩ => rfl | ⟨1, _⟩ => rfl | ⟨2, _⟩ => rfl | ⟨3, _⟩ => rfl), half _ z k j q h]
  exact extractStridedSlice_apply _ w _ _ _ (fun a => match a with
    | ⟨0, _⟩ => by show k.val = 0 + k.val; omega
    | ⟨1, _⟩ => by show j.val * 512 + q.val = 0 + (j.val * 512 + q.val); omega)

theorem weave_up (w : Vec Ideal S4096x22016 .f32) (z z' : FVec Ideal S_ .f32) (k : Fin 4096) (j : Fin 22) (q : Fin 512) (h : j.val * 512 + q.val < 11008) (C : Fin 22528) (hC : C.val = j.val * 1024 + (512 + q.val)) :
    (weave w z z' (ix2 k C) : EReal) = w (ix2 k (⟨11008 + (j.val * 512 + q.val), by omega⟩ : Fin 22016)) := by
  unfold weave
  rw [shapeCast_apply _ _ (ix2 k C) (ix4 k j 1 q : S4096x22x2x512.Idx) (by
      rw [Shape.rowMajor_val_two, Shape.rowMajor_val_four]
      show ((k.val * 22 + j.val) * 2 + 1) * 512 + q.val = k.val * 22528 + C.val; omega),
    concatenate_pair_apply_right (s₁ := S4096x22x1x512) (s₂ := S4096x22x1x512) (2 : Fin S4096x22x2x512.rank) _ _ _ (ix4 k j 1 q : S4096x22x2x512.Idx) rfl rfl (ix4 k j 0 q : S4096x22x1x512.Idx) (fun b hb => match b, hb with
      | ⟨0, _⟩, _ => rfl | ⟨1, _⟩, _ => rfl | ⟨2, _⟩, hb => absurd rfl hb | ⟨3, _⟩, _ => rfl) rfl, half _ z' k j q h]
  exact extractStridedSlice_apply _ w _ _ _ (fun a => match a with
    | ⟨0, _⟩ => by show k.val = 0 + k.val; omega
    | ⟨1, _⟩ => by show 11008 + (j.val * 512 + q.val) = 11008 + (j.val * 512 + q.val); rfl)

/-! ## The grid -/

variable (m : (ℓ : Loc nD τ sig) → Buf (Elt Ideal) ℓ) (ρ : Dev nD → PrngReg)

def a0 (c : Dev nD) : Vec Ideal S16384x4096 .f32 := m ((c : Thread nD τ).loc main_arg0)
def a1 (c : Dev nD) : Vec Ideal S2x24576 .f32 := m ((c : Thread nD τ).loc main_arg1)
def a2 (c : Dev nD) : Vec Ideal S4096 .f32 := m ((c : Thread nD τ).loc main_arg2)
def a3 (c : Dev nD) : Vec Ideal S4096x22016 .f32 := m ((c : Thread nD τ).loc main_arg3)

theorem V_v13 (c : Dev nD) : V m c main_v13 = (shapeCast S1x4096 (a2 m c) shapeCasts_S4096_S1x4096 : Vec Ideal S1x4096 .f32) := by
  unfold a2 V V0
  simp only [hostOps0, hostOps0_1, hostOps0_2, hostOps0_3, hostOps0_4, hostOps0_5, hostOps0_6, List.flatten_cons, List.flatten_nil, List.append_nil, List.cons_append, List.nil_append]
  after_results
  rfl

theorem V_v12 (c : Dev nD) : V m c main_v12
    = (pad S2x8x4096 ![0, 0, 0] ![0, 2, 0] ![0, 0, 0] (shapeCast S2x6x4096 (a1 m c) shapeCasts_S2x24576_S2x6x4096)
        (sitofp (F := Ideal) .f32 (constantI S_ 32 0#32)) pads_S2x6x4096_S2x8x4096_000_020_000 h_S_ : Vec Ideal S2x8x4096 .f32) := by
  unfold a1 V V0
  simp only [hostOps0, hostOps0_1, hostOps0_2, hostOps0_3, hostOps0_4, hostOps0_5, hostOps0_6, List.flatten_cons, List.flatten_nil, List.append_nil, List.cons_append, List.nil_append]
  after_results
  try rfl

set_option maxHeartbeats 1000000 in
theorem V_v10 (c : Dev nD) : V m c main_v10
    = (truncf (F := Ideal) (s := S4096x22528) .bf16 (weave (a3 m c) (sitofp (F := Ideal) .f32 (constantI S_ 32 0#32)) (sitofp (F := Ideal) .f32 (constantI S_ 32 0#32))) bitsLt_bf16_f32 : Vec Ideal S4096x22528 .bf16) := by
  unfold weave a3 V V0
  simp only [hostOps0, hostOps0_1, hostOps0_2, hostOps0_3, hostOps0_4, hostOps0_5, hostOps0_6, List.flatten_cons, List.flatten_nil, List.append_nil, List.cons_append, List.nil_append]
  after_results
  try rfl

/-- Where each window's block lies. -/
theorem idx_facts : ∀ t : Fin cfg0.N, win0_4.index t (0 : Fin 2) = t.val / 22 ∧ win0_4.index t (1 : Fin 2) = t.val % 22
    ∧ win0_0.index t (0 : Fin 2) = t.val / 22 ∧ win0_0.index t (1 : Fin 2) = 0
    ∧ win0_1.index t (0 : Fin 3) = t.val / 22 / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 22 :=
  (by decide +kernel : ∀ t : Fin grid0.N, _)

/-- One element of the modulated array: row `R` of both sequences taken together. -/
def u (c : Dev nD) (R : Fin 16384) (k : Fin 4096) : EReal :=
  mdl (fun j => a0 m c (ix2 R j)) (fun j => a2 m c (ix1 j))
    (fun j => a1 m c (ix2 (⟨R.val / 8192, by omega⟩ : Fin 2) (⟨12288 + j.val, by omega⟩ : Fin 24576)))
    (fun j => a1 m c (ix2 (⟨R.val / 8192, by omega⟩ : Fin 2) (⟨16384 + j.val, by omega⟩ : Fin 24576))) k

theorem tlt (t : Fin cfg0.N) : t.val < 704 := lt_of_lt_of_eq t.isLt N_0

/-- Row `r` of point `t`'s block among all rows. -/
def row (t : Fin cfg0.N) (r : Fin 512) : Fin 16384 := ⟨t.val / 22 * 512 + r.val, by have := tlt t; omega⟩

theorem blk0 (c : Dev nD) (t : Fin cfg0.N) (r : Fin 512) (k : Fin 4096) :
    (iblk m c 0 t (ix2 r k) : EReal) = a0 m c (ix2 (row t r) k) := by
  obtain ⟨-, -, f00, f01, -⟩ := idx_facts t
  show (V m c main_arg0 : Vec Ideal S16384x4096 .f32) (((cfg0.win 0).blk t).view.emb (ix2 r k)) = _
  rw [V_main_arg0]
  refine congrArg (a0 m c) ?_
  funext a; apply Fin.ext
  match a with
  | ⟨0, _⟩ => show win0_0.index t (0 : Fin 2) * 512 + 1 * r.val = t.val / 22 * 512 + r.val; omega
  | ⟨1, _⟩ => show win0_0.index t (1 : Fin 2) * 4096 + 1 * k.val = k.val; omega

theorem blk1 (c : Dev nD) (t : Fin cfg0.N) (r : Fin 512) (s : Fin 8) (hs : s.val < 6) (k : Fin 4096) :
    (iblk m c 1 t (ix3 0 s k) : EReal) = a1 m c (ix2 (⟨(row t r).val / 8192, by omega⟩ : Fin 2) (⟨s.val * 4096 + k.val, by omega⟩ : Fin 24576)) := by
  obtain ⟨-, -, -, -, f10, f11, f12, -⟩ := idx_facts t
  have ht := tlt t
  show (V m c main_v12 : Vec Ideal S2x8x4096 .f32) (((cfg0.win 1).blk t).view.emb (ix3 0 s k)) = _
  have e : ((cfg0.win 1).blk t).view.emb (ix3 0 s k) = (ix3 (⟨(row t r).val / 8192, by omega⟩ : Fin 2) s k : S2x8x4096.Idx) := by
    funext a; apply Fin.ext
    match a with
    | ⟨0, _⟩ => show win0_1.index t (0 : Fin 3) * 1 + 1 * 0 = (t.val / 22 * 512 + r.val) / 8192; omega
    | ⟨1, _⟩ => show win0_1.index t (1 : Fin 3) * 8 + 1 * s.val = s.val; omega
    | ⟨2, _⟩ => show win0_1.index t (2 : Fin 3) * 4096 + 1 * k.val = k.val; omega
  rw [e, V_v12]
  exact Cert.RowNorm.table (a1 m c) _ shapeCasts_S2x24576_S2x6x4096 pads_S2x6x4096_S2x8x4096_000_020_000 h_S_ _ s hs k _ rfl rfl

theorem blk2 (c : Dev nD) (t : Fin cfg0.N) (k : Fin 4096) : (iblk m c 2 t (ix2 0 k) : EReal) = a2 m c (ix1 k) := by
  obtain ⟨-, -, -, -, -, -, -, f20, f21, -⟩ := idx_facts t
  show (V m c main_v13 : Vec Ideal S1x4096 .f32) (((cfg0.win 2).blk t).view.emb (ix2 0 k)) = _
  have e : ((cfg0.win 2).blk t).view.emb (ix2 0 k) = (ix2 0 k : S1x4096.Idx) := by
    funext a; apply Fin.ext
    match a with
    | ⟨0, _⟩ => show win0_2.index t (0 : Fin 2) * 1 + 1 * 0 = 0; omega
    | ⟨1, _⟩ => show win0_2.index t (1 : Fin 2) * 4096 + 1 * k.val = k.val; omega
  rw [e, V_v13]
  exact Cert.RowNorm.rowOf (a2 m c) shapeCasts_S4096_S1x4096 k

/-- The weights as the points read them. -/
def wt (c : Dev nD) (k : Fin 4096) (C : Fin 22528) : EReal :=
  weave (a3 m c) (sitofp (F := Ideal) .f32 (constantI S_ 32 0#32)) (sitofp (F := Ideal) .f32 (constantI S_ 32 0#32)) (ix2 k C)

theorem blk3 (c : Dev nD) (t : Fin cfg0.N) (k : Fin 4096) (q : Fin 1024) :
    (iblk m c 3 t (ix2 k q) : EReal) = wt m c k (⟨t.val % 22 * 1024 + q.val, by omega⟩ : Fin 22528) := by
  obtain ⟨-, -, -, -, -, -, -, -, -, f30, f31⟩ := idx_facts t
  show (V m c main_v10 : Vec Ideal S4096x22528 .bf16) (((cfg0.win 3).blk t).view.emb (ix2 k q)) = _
  rw [V_v10]
  unfold wt
  refine congrArg (weave (a3 m c) _ _) ?_
  funext a; apply Fin.ext
  match a with
  | ⟨0, _⟩ => show win0_3.index t (0 : Fin 2) * 4096 + 1 * k.val = k.val; omega
  | ⟨1, _⟩ => show win0_3.index t (1 : Fin 2) * 1024 + 1 * q.val = t.val % 22 * 1024 + q.val; omega

/-- The block a point normalises is its rows of the modulated array. -/
theorem blockU_apply (c : Dev nD) (t : Fin cfg0.N) (r : Fin 512) (k : Fin 4096) :
    (blockU (F := Ideal) (iblk m c 0 t) (iblk m c 1 t) (iblk m c 2 t) (ix2 r k) : EReal) = u m c (row t r) k := by
  have es : ∀ j : Fin 4096, (View.ld (iblk m c 1 t : Vec Ideal S1x8x4096 .f32) (Rect.unit (s := S1x8x4096) ![0, 3, 0] S1x1x4096.size inb_S1x8x4096_S1x1x4096_0_3_0) (ix3 0 0 j) : EReal)
      = a1 m c (ix2 (⟨(row t r).val / 8192, by omega⟩ : Fin 2) (⟨12288 + j.val, by omega⟩ : Fin 24576)) := fun j => by
    refine (View.ld_unit_apply_of (iblk m c 1 t : Vec Ideal S1x8x4096 .f32) _ _ inb_S1x8x4096_S1x1x4096_0_3_0 (ix3 0 0 j) (ix3 0 3 j) (fun a => ?_)).trans ?_
    · match a with | ⟨0, _⟩ => rfl | ⟨1, _⟩ => rfl | ⟨2, _⟩ => show j.val = 0 + j.val; omega
    · refine (blk1 m c t r 3 (by decide) j).trans (congrArg (a1 m c) ?_)
      refine congrArg (ix2 _) (Fin.ext ?_)
      show 3 * 4096 + j.val = 12288 + j.val; omega
  have ec : ∀ j : Fin 4096, (View.ld (iblk m c 1 t : Vec Ideal S1x8x4096 .f32) (Rect.unit (s := S1x8x4096) ![0, 4, 0] S1x1x4096.size inb_S1x8x4096_S1x1x4096_0_4_0) (ix3 0 0 j) : EReal)
      = a1 m c (ix2 (⟨(row t r).val / 8192, by omega⟩ : Fin 2) (⟨16384 + j.val, by omega⟩ : Fin 24576)) := fun j => by
    refine (View.ld_unit_apply_of (iblk m c 1 t : Vec Ideal S1x8x4096 .f32) _ _ inb_S1x8x4096_S1x1x4096_0_4_0 (ix3 0 0 j) (ix3 0 4 j) (fun a => ?_)).trans ?_
    · match a with | ⟨0, _⟩ => rfl | ⟨1, _⟩ => rfl | ⟨2, _⟩ => show j.val = 0 + j.val; omega
    · refine (blk1 m c t r 4 (by decide) j).trans (congrArg (a1 m c) ?_)
      refine congrArg (ix2 _) (Fin.ext ?_)
      show 4 * 4096 + j.val = 16384 + j.val; omega
  unfold blockU
  refine (pay1_apply _ _ _ _ r k).trans ?_
  simp only [es, ec, blk0, blk2]
  rfl

/-- What the points of a row of blocks keep between them. -/
theorem state (c : Dev nD) : ∀ (n : ℕ) (hn : n < cfg0.N) (r : Fin 512) (k : Fin 4096),
    ((outsAt0 m c n hn).2 (ix2 r k) : EReal) = u m c (row ⟨n, hn⟩ r) k := by
  intro n
  induction n with
  | zero =>
    intro hn r k
    rw [show outsAt0 m c 0 hn = _ from outsAt0_A m c ⟨0, hn⟩ rfl]
    dsimp only
    rw [sout_A]
    exact blockU_apply m c ⟨0, hn⟩ r k
  | succ n ih =>
    intro hn r k
    by_cases h0 : (n + 1) % 22 = 0
    · rw [show outsAt0 m c (n + 1) hn = _ from outsAt0_A m c ⟨n + 1, hn⟩ h0]
      dsimp only
      rw [sout_A]
      exact blockU_apply m c ⟨n + 1, hn⟩ r k
    · rw [show outsAt0 m c (n + 1) hn = _ from outsAt0_B m c ⟨n + 1, hn⟩ h0]
      refine (ih (Nat.lt_of_succ_lt hn) r k).trans (congrArg (u m c · k) (Fin.ext ?_))
      show n / 22 * 512 + r.val = (n + 1) / 22 * 512 + r.val
      omega

/-- One element of the padded hidden layer. -/
def hid (c : Dev nD) (R : Fin 16384) (n : Fin 11264) : EReal :=
  swi (∑ k : Fin 4096, (u m c R k * wt m c k (⟨n.val / 512 * 1024 + n.val % 512, by omega⟩ : Fin 22528) : EReal))
    (∑ k : Fin 4096, (u m c R k * wt m c k (⟨n.val / 512 * 1024 + (512 + n.val % 512), by omega⟩ : Fin 22528) : EReal))

/-- What a point writes. -/
theorem out_apply (c : Dev nD) (t : Fin cfg0.N) (r : Fin 512) (q : Fin 512) :
    ((outsAt0 m c t.val t.isLt).1 (ix2 r q) : EReal)
      = hid m c (row t r) (⟨t.val % 22 * 512 + q.val, by omega⟩ : Fin 11264) := by
  have c0 : (⟨t.val % 22 * 1024 + q.val, by omega⟩ : Fin 22528) = (⟨(t.val % 22 * 512 + q.val) / 512 * 1024 + (t.val % 22 * 512 + q.val) % 512, by omega⟩ : Fin 22528) :=
    Fin.ext (by show t.val % 22 * 1024 + q.val = _; dsimp only; omega)
  have c1 : (⟨t.val % 22 * 1024 + (512 + q.val), by omega⟩ : Fin 22528) = (⟨(t.val % 22 * 512 + q.val) / 512 * 1024 + (512 + (t.val % 22 * 512 + q.val) % 512), by omega⟩ : Fin 22528) :=
    Fin.ext (by show t.val % 22 * 1024 + (512 + q.val) = _; dsimp only; omega)
  unfold hid
  by_cases h0 : t.val % 22 = 0
  · rw [outsAt0_A m c t h0]
    dsimp only
    rw [out_A]
    refine (pay2_apply _ _ r q).trans ?_
    simp only [blockU_apply, blk3, c0, c1]
  · have hp : t.val - 1 < cfg0.N := Nat.lt_of_le_of_lt (Nat.sub_le _ _) t.isLt
    have hr : row ⟨t.val - 1, hp⟩ r = row t r := Fin.ext (by
      show (t.val - 1) / 22 * 512 + r.val = t.val / 22 * 512 + r.val; omega)
    rw [outsAt0_B m c t h0]
    dsimp only
    rw [out_B]
    refine (pay2_apply _ _ r q).trans ?_
    simp only [state m c (t.val - 1) hp r, blk3, hr, c0, c1]

/-- The padded hidden layer. -/
def P (c : Dev nD) : S16384x11264.Idx → Elt Ideal .bf16 := fun i =>
  hid m c (⟨(i 0).val, (i 0).isLt⟩ : Fin 16384) (⟨(i 1).val, (i 1).isLt⟩ : Fin 11264)

theorem flushed_eq (c : Dev nD) (t : Fin cfg0.N) :
    (dats m 0 c).flushed 4 t = ((cfg0.win 4).blk t).view.read (Elt Ideal) (P m c) := by
  obtain ⟨e0, e1, -⟩ := idx_facts t
  funext y
  show (dats m 0 c).after 4 t y = P m c (((cfg0.win 4).blk t).view.emb y)
  rw [after0_4]
  have e : ((cfg0.win 4).blk t).view.emb y = (ix2 (row t (y 0)) (⟨t.val % 22 * 512 + (y 1).val, by have : (y 1).val < 512 := (y 1).isLt; omega⟩ : Fin 11264) : S16384x11264.Idx) := by
    funext a; apply Fin.ext
    match a with
    | ⟨0, _⟩ => show win0_4.index t (0 : Fin 2) * 512 + 1 * (y 0).val = t.val / 22 * 512 + (y 0).val; omega
    | ⟨1, _⟩ => show win0_4.index t (1 : Fin 2) * 512 + 1 * (y 1).val = t.val % 22 * 512 + (y 1).val; omega
  have hy : y = ix2 (y 0) (y 1) := by
    funext a; match a with | ⟨0, _⟩ => rfl | ⟨1, _⟩ => rfl
  rw [e]
  rw [hy]
  exact out_apply m c t (y 0) (y 1)

theorem mem_blk4 (t : Fin cfg0.N) (i : S16384x11264.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v14).slice (win0_4.rect t)).set ↔ _
  rw [View.set_slice_whole, Rect.mem_set_unit]
  exact Iff.rfl

/-- The array after the region is the padded hidden layer: the blocks tile it. -/
theorem region_final (c : Dev nD) : (dats m 0 c).arrAt 4 cfg0.N = P m c :=
  (dats m 0 c).arrAt_eq_of_cover 4 _ (fun t _ => flushed_eq m c t) (fun i => by
    have h0 : (i 0).val < 16384 := (i 0).isLt
    have h1 : (i 1).val < 11264 := (i 1).isLt
    obtain ⟨e0, e1, -⟩ := idx_facts ⟨(i 0).val / 512 * 22 + (i 1).val / 512, lt_of_lt_of_eq (by omega) N_0.symm⟩
    refine ⟨⟨(i 0).val / 512 * 22 + (i 1).val / 512, lt_of_lt_of_eq (by omega) N_0.symm⟩, flush0_4 _, ?_⟩
    rw [mem_blk4]
    dsimp only at e0 e1
    intro a
    match a with
    | ⟨0, _⟩ => show win0_4.index _ (0 : Fin 2) * 512 ≤ (i 0).val ∧ (i 0).val < win0_4.index _ (0 : Fin 2) * 512 + 512; rw [e0]; omega
    | ⟨1, _⟩ => show win0_4.index _ (1 : Fin 2) * 512 ≤ (i 1).val ∧ (i 1).val < win0_4.index _ (1 : Fin 2) * 512 + 512; rw [e1]; omega)

/-- The reference's array, from this program's arguments. -/
def G (c : Dev nD) : S16384x11008.Idx → Elt Ideal .bf16 :=
  Cert.GateUpRefIdeal.Read.val_main_v34 (F := Ideal) (a0 m c) (a1 m c) (a2 m c) (a3 m c)

/-- Without its padding columns the hidden layer is the reference's. -/
theorem slice_eq (c : Dev nD) : extractStridedSlice S16384x11008 ![0, 0] (P m c) slices_S16384x11264_S16384x11008_0_0 = G m c := by
  funext i
  have h1 : (i 1).val < 11008 := (i 1).isLt
  have hi : i = ix2 (i 0) (i 1) := by
    funext a; match a with | ⟨0, _⟩ => rfl | ⟨1, _⟩ => rfl
  rw [extractStridedSlice_apply _ (P m c) _ i (ix2 (⟨(i 0).val, (i 0).isLt⟩ : Fin 16384) (⟨(i 1).val, by omega⟩ : Fin 11264)) (fun a => match a with
    | ⟨0, _⟩ => by show (i 0).val = 0 + (i 0).val; omega
    | ⟨1, _⟩ => by show (i 1).val = 0 + (i 1).val; omega)]
  refine Eq.trans ?_ (congrArg (G m c) hi).symm
  refine Eq.trans ?_ (ref_apply (a0 m c) (a1 m c) (a2 m c) (a3 m c) (i 0) (i 1)).symm
  have hn : (i 1).val / 512 * 512 + (i 1).val % 512 < 11008 := by omega
  have w0 : ∀ k, wt m c k (⟨(i 1).val / 512 * 1024 + (i 1).val % 512, by omega⟩ : Fin 22528) = a3 m c (ix2 k (⟨(i 1).val, by omega⟩ : Fin 22016)) := fun k =>
    (weave_gate (a3 m c) _ _ k (⟨(i 1).val / 512, by omega⟩ : Fin 22) (⟨(i 1).val % 512, by omega⟩ : Fin 512) hn _ rfl).trans
      (congrArg (a3 m c) (congrArg (ix2 k) (Fin.ext (by show (i 1).val / 512 * 512 + (i 1).val % 512 = (i 1).val; omega))))
  have w1 : ∀ k, wt m c k (⟨(i 1).val / 512 * 1024 + (512 + (i 1).val % 512), by omega⟩ : Fin 22528) = a3 m c (ix2 k (⟨11008 + (i 1).val, by omega⟩ : Fin 22016)) := fun k =>
    (weave_up (a3 m c) _ _ k (⟨(i 1).val / 512, by omega⟩ : Fin 22) (⟨(i 1).val % 512, by omega⟩ : Fin 512) hn _ rfl).trans
      (congrArg (a3 m c) (congrArg (ix2 k) (Fin.ext (by show 11008 + ((i 1).val / 512 * 512 + (i 1).val % 512) = 11008 + (i 1).val; omega))))
  show hid m c _ _ = _
  unfold hid
  simp only [w0, w1]
  rfl

/-- The result after the lines that follow the region. -/
theorem tail_eq (c : Dev nD) : Pipeline.afterTail₀ cfgs (dats m) 0 (V0 m) [hostOps1] c main_v15 = G m c := by
  have hw := Pipeline.withArrays_arr spec0 (by decide : Function.Injective (Pipeline.arrRef spec0)) c (V0 m c) (fun w => (dats m 0 c).arrAt w cfg0.N) 4
  unfold Pipeline.afterTail₀
  simp only [hostOps1, List.flatten_cons, List.flatten_nil, List.append_nil]
  after_results
  refine Eq.trans ?_ (slice_eq m c)
  exact congrArg (fun x => extractStridedSlice S16384x11008 ![0, 0] x slices_S16384x11264_S16384x11008_0_0) (hw.trans (region_final m c))

end Cert.GateUpIdeal.Hand

end
-- ==== Proof.GateUpPair.lean ====
/- The gated hidden layer's claims: the frames, and that the two programs agree. -/
module

public import proofs.«01_k».proof.Defs
public import proofs.«01_k».proof.Proof.Gen.GateUp.Frame
public import proofs.«01_k».proof.Proof.GateUpValue

@[expose] public section

noncomputable section

namespace Cert.GateUpPair

open Idealize.ShloMosaic Idealize.SL.Sem

theorem frame : Cert.quiescent_GateUp (hGateUp := Cert.GateUp.Gen.facts) := fun m ρ _ => Cert.GateUp.Gen.frame m ρ

theorem frameIdeal : Cert.quiescent_GateUpIdeal (hGateUpIdeal := Cert.GateUpIdeal.Gen.facts) :=
  fun m ρ _ => Cert.GateUpIdeal.Gen.frame m ρ

theorem frameRef : Cert.quiescent_GateUpRefIdeal (hGateUpRefIdeal := Cert.GateUpRefIdeal.Gen.facts) := fun m ρ _ =>
  (θ_run Cert.GateUpRefIdeal.defs _ _).mono
    (fun r h => ⟨fun c => (h c).2, Idealize.ShloMosaic.sem_eq_zero_of_no_sems (by decide) r.2⟩)
    (Cert.GateUpRefIdeal.Value.run (F := Ideal) m ρ)

/-- Both programs run, and from equal arguments the hidden layers are equal. -/
theorem algebraic : Cert.algebraic_GateUpIdeal_GateUpRefIdeal (hGateUpIdeal := Cert.GateUpIdeal.Gen.facts)
    (hGateUpRefIdeal := Cert.GateUpRefIdeal.Gen.facts) := by
  intro m g m' g' _ hargs
  refine ⟨fun c => Cert.GateUpIdeal.Hand.G m c, ?_, ?_⟩
  · refine (θ_run (Cert.GateUpIdeal.defs (F := Ideal)) _ _).mono (fun r h c => ?_)
      (θ_run_and (Cert.GateUpIdeal.Gen.run_main (F := Ideal) m g) (Cert.GateUpIdeal.Gen.unchanged (F := Ideal) m g))
    exact ⟨((h.1 c).2 Cert.GateUpIdeal.main_v15 (Pipeline.mem_restRefs_of Cert.GateUpIdeal.main_v15 (by decide) (by decide))).trans
      (Cert.GateUpIdeal.Hand.tail_eq m c), h.2 c⟩
  · refine (θ_run (Cert.GateUpRefIdeal.defs (F := Ideal)) _ _).mono (fun r h c => ?_) (Cert.GateUpRefIdeal.Value.run (F := Ideal) m' g')
    refine ⟨(h c).1.trans ?_, (h c).2⟩
    obtain ⟨a0, a1, a2, a3⟩ := hargs c
    rw [Cert.GateUpRefIdeal.Read.val_main_v34_eq, a0, a1, a2, a3]
    rfl

end Cert.GateUpPair

end
-- ==== Proof.DownValue.lean ====
/- The down projection: the products summed over blocks of the hidden width, then the norm, the gate and the residual; the blocks
   tile the reference's array. -/
module

public import proofs.«01_k».proof.Proof.Gen.DownIdeal.Value
public import proofs.«01_k».proof.Proof.Gen.DownRefIdeal.Read
public import proofs.«01_k».proof.Proof.Panel
public import Idealize.ShloMosaic.Lib.Pipeline.ValueKit.Tiles

@[expose] public section

set_option maxRecDepth 8192

noncomputable section

namespace Cert.DownIdeal.Hand

open Cert.DownIdeal Cert.DownIdeal.Gen Idealize.ShloMosaic Idealize.ShloMosaic.TcCoe Idealize.ShloMosaic.Tactic Idealize.SL.Sem
open Idealize.ShloMosaic.Pipeline (Dat)
open Idealize.ShloMosaic.ValueIdx
open Cert.RowNorm (nrm)

theorem hz : (![0, 0] : Fin 2 → Nat) = fun _ => 0 := funext fun a => by fin_cases a <;> rfl

/-! ## The payloads -/

theorem pay1_apply (r : Fin 512) (q : Fin 4096) : (k0_pay1 (F := Ideal) (ix2 r q) : EReal) = 0 := Ideal.ofBits_zero_f32

theorem pay2_apply (acc : Vec Ideal S512x4096 .f32) (a : Vec Ideal S512x512 .bf16) (w : Vec Ideal S512x4096 .bf16) (r : Fin 512) (q : Fin 4096) :
    (k0_pay2 (F := Ideal) acc a w (ix2 r q) : EReal) = acc (ix2 r q) + ∑ k : Fin 512, (a (ix2 r k) * w (ix2 k q) : EReal) := by
  have hd : dot_S512x512_S512x4096_S512x4096_1_0_0_1_n_n = DotDims.plain 512 512 4096 := rfl
  unfold k0_pay2
  rw [shapeCast_self, shapeCast_self, hd]
  exact Cert.Panel.acc_apply acc a w r q

theorem pay3_apply (gate : Vec Ideal S1x1x4096 .f32) (x o : Vec Ideal S512x4096 .f32) (g : Vec Ideal S1x4096 .f32) (r : Fin 512) (q : Fin 4096) :
    (k0_pay3 (F := Ideal) gate x o g (ix2 r q) : EReal)
      = x (ix2 r q) + gate (ix3 0 0 q) * nrm (fun j => o (ix2 r j)) (fun j => g (ix2 0 j)) q := by
  unfold k0_pay3
  rw [shapeCast_self, shapeCast_self]
  exact Cert.Panel.fin_apply gate x o g reduces_S512x4096_S512 rfl shapeCasts_S512_S512x1 broadcasts_S512x1_S512x4096
    broadcasts_S1x4096_S512x4096 shapeCasts_S1x1x4096_S1x4096 r q

/-! ## What a point leaves -/

section
variable {F : FTy → Type} [FloatOps F]
variable (c : Dev nD) (i : grid0.Coords) (arg2 : Memref sig .tc .vmem S512x512 .bf16) (harg2 : arg2.IsWhole)
  (arg3 : Memref sig .tc .vmem S512x4096 .bf16) (harg3 : arg3.IsWhole) (arg4 : Memref sig .tc .vmem S512x4096 .f32) (harg4 : arg4.IsWhole)
  (arg5 : Memref sig .tc .vmem S1x8x4096 .f32) (harg5 : arg5.IsWhole) (arg6 : Memref sig .tc .vmem S1x4096 .f32) (harg6 : arg6.IsWhole)
  (arg7 : Memref sig .tc .vmem S512x4096 .f32) (harg7 : arg7.IsWhole)
  (x0 : Vec F S512x512 .bf16) (x1 : Vec F S512x4096 .bf16) (x2 : Vec F S512x4096 .f32) (x3 : Vec F S1x8x4096 .f32) (x4 : Vec F S1x4096 .f32)
  (xo : Vec F S512x4096 .f32)

theorem out_A (hc0 : cond0_0 i) (hc1 : ¬cond0_1 i) :
    out0_A_5 c i arg2 harg2 arg3 harg3 arg4 harg4 arg5 harg5 arg6 harg6 arg7 harg7 hc0 hc1 x0 x1 x2 x3 x4 = k0_pay2 k0_pay1 x0 x1 := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, harg2.read_unread, harg3.read_unread, View.ld_unit_zero (S := S512x512) hz, View.ld_unit_zero (S := S512x4096) hz]

theorem out_B (hc0 : ¬cond0_0 i) (hc1 : ¬cond0_1 i) :
    out0_B_5 c i arg2 harg2 arg3 harg3 arg4 harg4 arg5 harg5 arg6 harg6 arg7 harg7 hc0 hc1 x0 x1 x2 x3 x4 xo = k0_pay2 xo x0 x1 := by
  unfold out0_B_5
  rw [View.read_writes_eq_canon _ _ _ (cover0_B_5 c i arg2 harg2 arg3 harg3 arg4 harg4 arg5 harg5 arg6 harg6 arg7 harg7 hc0 hc1 x0 x1 x2 x3 x4 xo)]
  unfold kernelRun0_B
  dsimp only
  sl_unfold_words
  rw [View.canon_unit_zero hz]
  simp only [View.readAt_eq_ld, harg2.read_unread, harg3.read_unread, harg7.read_unread, View.ld_unit_zero (S := S512x512) hz,
    View.ld_unit_zero (S := S512x4096) hz]

theorem out_C (hc0 : ¬cond0_0 i) (hc1 : cond0_1 i) :
    out0_C_5 c i arg2 harg2 arg3 harg3 arg4 harg4 arg5 harg5 arg6 harg6 arg7 harg7 hc0 hc1 x0 x1 x2 x3 x4 xo
      = k0_pay3 (View.ld x3 (Rect.unit (s := S1x8x4096) ![0, 5, 0] S1x1x4096.size inb_S1x8x4096_S1x1x4096_0_5_0)) x2 (k0_pay2 xo x0 x1) x4 := by
  unfold out0_C_5
  rw [View.read_writes_eq_canon _ _ _ (cover0_C_5 c i arg2 harg2 arg3 harg3 arg4 harg4 arg5 harg5 arg6 harg6 arg7 harg7 hc0 hc1 x0 x1 x2 x3 x4 xo)]
  unfold kernelRun0_C
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread, harg7.read_unread,
    View.ld_unit_zero (S := S512x512) hz, View.ld_unit_zero (S := S512x4096) hz, View.ld_unit_zero (S := S1x4096) hz]
end

/-! ## The reference, element by element -/

section
open Cert.DownRefIdeal.Read
open Cert.DownRefIdeal (S2x8192x4096)

variable (x0 : Vec Ideal S16384x11264 .bf16) (x1 : Vec Ideal S11008x4096 .f32) (x2 : Vec Ideal S16384x4096 .f32) (x3 : Vec Ideal S2x24576 .f32)
  (x4 : Vec Ideal S4096 .f32)

/-- One element of the reference's product. -/
theorem ref_dot (R : Fin 16384) (q : Fin 4096) (i : S2x8192x4096.Idx) (h : (i 0).val * 8192 + (i 1).val = R.val) (h2 : (i 2).val = q.val) :
    (val_main_v9 (F := Ideal) x0 x1 i : EReal) = ∑ k : Fin 11008, (x0 (ix2 R (⟨k.val, by omega⟩ : Fin 11264)) * x1 (ix2 k q) : EReal) := by
  rw [val_main_v9_apply]
  refine Finset.sum_congr rfl fun k _ => ?_
  have e1 : idx_main_v6 (idx_main_v8 (lidx_main_v9 i k)) = ix2 R (⟨k.val, by omega⟩ : Fin 11264) := funext fun a => Fin.ext (by
    match a with
    | ⟨0, _⟩ => show (((i 0).val * 8192 + (i 1).val) * 11008 + k.val) / 11008 = R.val; omega
    | ⟨1, _⟩ => show (((i 0).val * 8192 + (i 1).val) * 11008 + k.val) % 11008 = k.val; omega)
  have e2 : ridx_main_v9 i k = ix2 k q := funext fun a => Fin.ext (by
    match a with
    | ⟨0, _⟩ => rfl
    | ⟨1, _⟩ => exact h2)
  rw [val_main_v8_apply, val_main_v7_apply, val_main_v6_apply, e1, e2]
  rfl

/-- One element of the reference's result. -/
theorem ref_apply (R : Fin 16384) (q : Fin 4096) :
    (val_main_v28 (F := Ideal) x0 x1 x2 x3 x4 (ix2 R q) : EReal)
      = x2 (ix2 R q) + x3 (ix2 (⟨R.val / 8192, by omega⟩ : Fin 2) (⟨20480 + q.val, by omega⟩ : Fin 24576))
          * nrm (fun j => ∑ k : Fin 11008, (x0 (ix2 R (⟨k.val, by omega⟩ : Fin 11264)) * x1 (ix2 k j) : EReal)) (fun j => x4 (ix1 j)) q := by
  have hR := R.isLt
  have hq := q.isLt
  have i0 : (R.val * 4096 + q.val) / 33554432 = R.val / 8192 := by omega
  have i1 : (R.val * 4096 + q.val) / 4096 % 8192 = R.val % 8192 := by omega
  have i2 : (R.val * 4096 + q.val) % 4096 = q.val := by omega
  have iR : (R.val * 4096 + q.val) / 33554432 * 8192 + (R.val * 4096 + q.val) / 4096 % 8192 = R.val := by omega
  have a1 : idx_main_v22 (idx_main_v23 (idx_main_v28 (ix2 R q))) = ix1 q := funext fun a => Fin.ext (by match a with | ⟨0, _⟩ => exact i2)
  have a2 : idx_main_v5 (idx_main_v11 (idx_main_v25 (idx_main_v28 (ix2 R q)))) = ix2 (⟨R.val / 8192, by omega⟩ : Fin 2) (⟨20480 + q.val, by omega⟩ : Fin 24576) :=
    funext fun a => Fin.ext (by
      match a with
      | ⟨0, _⟩ => exact i0
      | ⟨1, _⟩ => exact congrArg (20480 + ·) i2)
  have a3 : idx_main_v10 (idx_main_v28 (ix2 R q)) = ix2 R q := funext fun a => Fin.ext (by
    match a with
    | ⟨0, _⟩ =>
      show (((R.val * 4096 + q.val) / 33554432 * 8192 + (R.val * 4096 + q.val) / 4096 % 8192) * 4096 + (R.val * 4096 + q.val) % 4096) / 4096 = R.val
      rw [iR, i2]; omega
    | ⟨1, _⟩ =>
      show (((R.val * 4096 + q.val) / 33554432 * 8192 + (R.val * 4096 + q.val) / 4096 % 8192) * 4096 + (R.val * 4096 + q.val) % 4096) % 4096 = q.val
      rw [iR, i2]; omega)
  have d0 := ref_dot x0 x1 R q (idx_main_v28 (ix2 R q)) iR i2
  have d1 : ∀ j : Fin 4096, (val_main_v9 (F := Ideal) x0 x1 (idx_main_v13 (idx_main_v14 (idx_main_v20 (idx_main_v28 (ix2 R q)))) j) : EReal) = _ := fun j =>
    ref_dot x0 x1 R j _ iR rfl
  rw [val_main_v28_apply, val_main_v27_apply, val_main_v26_apply, val_main_v25_apply, val_main_v11_apply, val_main_v5_apply, a2,
    val_main_v24_apply, val_main_v23_apply, val_main_v22_apply, a1, val_main_v21_apply, d0, val_main_v20_apply, val_main_v19_apply,
    val_main_v18_apply, val_main_v17_apply, val_main_cst_1_apply, val_main_v16_apply, val_main_v15_apply, val_main_cst_0_apply,
    val_main_v14_apply, val_main_v13_apply, val_main_cst_apply, val_main_v10_apply, a3]
  simp only [val_main_v12_apply, d1]
  have h0 : (FloatOps.ofBits (F := Ideal) .f32 0x00000000#32 : EReal) = 0 := Ideal.ofBits_zero_f32
  rw [h0]
  generalize hS : (fun j => ∑ k : Fin 11008, (x0 (ix2 R (⟨k.val, by omega⟩ : Fin 11264)) * x1 (ix2 k j) : EReal)) = S
  have hS' : ∀ j : Fin 4096, ∑ k : Fin 11008, (x0 (ix2 R (⟨k.val, by omega⟩ : Fin 11264)) * x1 (ix2 k j) : EReal) = S j := fun j => congrFun hS j
  simp only [hS']
  show (x2 (ix2 R q) + x3 _ * (S q * Ideal.rsqrt (Ideal.div (0 + ∑ j : Fin 4096, (S j * S j : EReal)) _ + _) * x4 (ix1 q)) : EReal) = _
  rw [zero_add]
  rfl

end

/-! ## The grid -/

variable (m : (ℓ : Loc nD τ sig) → Buf (Elt Ideal) ℓ) (ρ : Dev nD → PrngReg)

def a0 (c : Dev nD) : Vec Ideal S16384x11264 .bf16 := m ((c : Thread nD τ).loc main_arg0)
def a1 (c : Dev nD) : Vec Ideal S11008x4096 .f32 := m ((c : Thread nD τ).loc main_arg1)
def a2 (c : Dev nD) : Vec Ideal S16384x4096 .f32 := m ((c : Thread nD τ).loc main_arg2)
def a3 (c : Dev nD) : Vec Ideal S2x24576 .f32 := m ((c : Thread nD τ).loc main_arg3)
def a4 (c : Dev nD) : Vec Ideal S4096 .f32 := m ((c : Thread nD τ).loc main_arg4)

theorem V_v1 (c : Dev nD) : V m c main_v1
    = (truncf (F := Ideal) (s := S11264x4096) .bf16 (pad S11264x4096 ![0, 0] ![256, 0] ![0, 0] (a1 m c)
        (sitofp (F := Ideal) .f32 (constantI S_ 32 0#32)) pads_S11008x4096_S11264x4096_02560_000 h_S_ : FVec Ideal S11264x4096 .f32) bitsLt_bf16_f32 : Vec Ideal S11264x4096 .bf16) := by
  unfold a1 V
  simp only [hostOps0, hostOps0_1, hostOps0_2, hostOps0_3, hostOps0_4, List.flatten_cons, List.flatten_nil, List.append_nil, List.cons_append, List.nil_append]
  after_results
  try rfl

theorem V_v3 (c : Dev nD) : V m c main_v3
    = (pad S2x8x4096 ![0, 0, 0] ![0, 2, 0] ![0, 0, 0] (shapeCast S2x6x4096 (a3 m c) shapeCasts_S2x24576_S2x6x4096)
        (sitofp (F := Ideal) .f32 (constantI S_ 32 0#32)) pads_S2x6x4096_S2x8x4096_000_020_000 h_S_ : Vec Ideal S2x8x4096 .f32) := by
  unfold a3 V
  simp only [hostOps0, hostOps0_1, hostOps0_2, hostOps0_3, hostOps0_4, List.flatten_cons, List.flatten_nil, List.append_nil, List.cons_append, List.nil_append]
  after_results
  try rfl

theorem V_v4 (c : Dev nD) : V m c main_v4 = (shapeCast S1x4096 (a4 m c) shapeCasts_S4096_S1x4096 : Vec Ideal S1x4096 .f32) := by
  unfold a4 V
  simp only [hostOps0, hostOps0_1, hostOps0_2, hostOps0_3, hostOps0_4, List.flatten_cons, List.flatten_nil, List.append_nil, List.cons_append, List.nil_append]
  after_results
  rfl

/-- Where each window's block lies. -/
theorem idx_facts : ∀ t : Fin cfg0.N, win0_5.index t (0 : Fin 2) = t.val / 22 ∧ win0_5.index t (1 : Fin 2) = 0
    ∧ win0_0.index t (0 : Fin 2) = t.val / 22 ∧ win0_0.index t (1 : Fin 2) = t.val % 22
    ∧ win0_1.index t (0 : Fin 2) = t.val % 22 ∧ win0_1.index t (1 : Fin 2) = 0
    ∧ win0_2.index t (0 : Fin 2) = t.val / 22 ∧ win0_2.index t (1 : Fin 2) = 0
    ∧ win0_3.index t (0 : Fin 3) = t.val / 22 / 16 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

theorem tlt (t : Fin cfg0.N) : t.val < 704 := lt_of_lt_of_eq t.isLt N_0

/-- Row `r` of point `t`'s block among all rows. -/
def row (t : Fin cfg0.N) (r : Fin 512) : Fin 16384 := ⟨t.val / 22 * 512 + r.val, by have := tlt t; omega⟩

theorem blk0 (c : Dev nD) (t : Fin cfg0.N) (r k : Fin 512) :
    (iblk m c 0 t (ix2 r k) : EReal) = a0 m c (ix2 (row t r) (⟨t.val % 22 * 512 + k.val, by omega⟩ : Fin 11264)) := by
  obtain ⟨-, -, f00, f01, -⟩ := idx_facts t
  show (V m c main_arg0 : Vec Ideal S16384x11264 .bf16) (((cfg0.win 0).blk t).view.emb (ix2 r k)) = _
  rw [V_main_arg0]
  refine congrArg (a0 m c) ?_
  funext a; apply Fin.ext
  match a with
  | ⟨0, _⟩ => show win0_0.index t (0 : Fin 2) * 512 + 1 * r.val = t.val / 22 * 512 + r.val; omega
  | ⟨1, _⟩ => show win0_0.index t (1 : Fin 2) * 512 + 1 * k.val = t.val % 22 * 512 + k.val; omega

/-- The integer zero as a real. -/
theorem zero_val (i : S_.Idx) : (sitofp (F := Ideal) .f32 (constantI S_ 32 0#32) i : EReal) = 0 := by
  show (((0#32 : BitVec 32).toInt : ℝ) : EReal) = 0
  simp

/-- A block of the padded weights: past the weights' last row it is zero. -/
theorem blk1 (c : Dev nD) (t : Fin cfg0.N) (k : Fin 512) (q : Fin 4096) :
    (iblk m c 1 t (ix2 k q) : EReal) = if h : t.val % 22 * 512 + k.val < 11008 then a1 m c (ix2 (⟨t.val % 22 * 512 + k.val, h⟩ : Fin 11008) q) else 0 := by
  obtain ⟨-, -, -, -, f10, f11, -⟩ := idx_facts t
  show (V m c main_v1 : Vec Ideal S11264x4096 .bf16) (((cfg0.win 1).blk t).view.emb (ix2 k q)) = _
  have e : ((cfg0.win 1).blk t).view.emb (ix2 k q) = (ix2 (⟨t.val % 22 * 512 + k.val, by omega⟩ : Fin 11264) q : S11264x4096.Idx) := by
    funext a; apply Fin.ext
    match a with
    | ⟨0, _⟩ => show win0_1.index t (0 : Fin 2) * 512 + 1 * k.val = t.val % 22 * 512 + k.val; omega
    | ⟨1, _⟩ => show win0_1.index t (1 : Fin 2) * 4096 + 1 * q.val = q.val; omega
  rw [e, V_v1]
  show (pad S11264x4096 ![0, 0] ![256, 0] ![0, 0] (a1 m c) _ pads_S11008x4096_S11264x4096_02560_000 h_S_ (ix2 (⟨t.val % 22 * 512 + k.val, by omega⟩ : Fin 11264) q) : EReal) = _
  by_cases h : t.val % 22 * 512 + k.val < 11008
  · rw [dif_pos h]
    exact pad_apply_of_inside _ _ _ _ _ pads_S11008x4096_S11264x4096_02560_000 h_S_ _ (ix2 (⟨t.val % 22 * 512 + k.val, h⟩ : Fin 11008) q) (fun a => match a with
      | ⟨0, _⟩ => by show t.val % 22 * 512 + k.val = 0 + (t.val % 22 * 512 + k.val) * 1; omega
      | ⟨1, _⟩ => by show q.val = 0 + q.val * 1; omega)
  · rw [dif_neg h]
    refine (pad_apply_of_not_inside _ _ _ _ _ pads_S11008x4096_S11264x4096_02560_000 h_S_ _ (0 : Fin 2) ?_).trans (zero_val _)
    rintro ⟨-, -, h3⟩
    have h4 : (t.val % 22 * 512 + k.val - 0) / (0 + 1) < 11008 := h3
    omega

theorem blk2 (c : Dev nD) (t : Fin cfg0.N) (r : Fin 512) (q : Fin 4096) : (iblk m c 2 t (ix2 r q) : EReal) = a2 m c (ix2 (row t r) q) := by
  obtain ⟨-, -, -, -, -, -, f20, f21, -⟩ := idx_facts t
  show (V m c main_arg2 : Vec Ideal S16384x4096 .f32) (((cfg0.win 2).blk t).view.emb (ix2 r q)) = _
  rw [V_main_arg2]
  refine congrArg (a2 m c) ?_
  funext a; apply Fin.ext
  match a with
  | ⟨0, _⟩ => show win0_2.index t (0 : Fin 2) * 512 + 1 * r.val = t.val / 22 * 512 + r.val; omega
  | ⟨1, _⟩ => show win0_2.index t (1 : Fin 2) * 4096 + 1 * q.val = q.val; omega

theorem blk3 (c : Dev nD) (t : Fin cfg0.N) (r : Fin 512) (q : Fin 4096) :
    (View.ld (iblk m c 3 t : Vec Ideal S1x8x4096 .f32) (Rect.unit (s := S1x8x4096) ![0, 5, 0] S1x1x4096.size inb_S1x8x4096_S1x1x4096_0_5_0) (ix3 0 0 q) : EReal)
      = a3 m c (ix2 (⟨(row t r).val / 8192, by omega⟩ : Fin 2) (⟨20480 + q.val, by omega⟩ : Fin 24576)) := by
  obtain ⟨-, -, -, -, -, -, -, -, f30, f31, f32, -⟩ := idx_facts t
  have ht := tlt t
  refine (View.ld_unit_apply_of (iblk m c 3 t : Vec Ideal S1x8x4096 .f32) _ _ inb_S1x8x4096_S1x1x4096_0_5_0 (ix3 0 0 q) (ix3 0 5 q) (fun a => ?_)).trans ?_
  · match a with | ⟨0, _⟩ => rfl | ⟨1, _⟩ => rfl | ⟨2, _⟩ => show q.val = 0 + q.val; omega
  show (V m c main_v3 : Vec Ideal S2x8x4096 .f32) (((cfg0.win 3).blk t).view.emb (ix3 0 5 q)) = _
  have e : ((cfg0.win 3).blk t).view.emb (ix3 0 5 q) = (ix3 (⟨(row t r).val / 8192, by omega⟩ : Fin 2) 5 q : S2x8x4096.Idx) := by
    funext a; apply Fin.ext
    match a with
    | ⟨0, _⟩ => show win0_3.index t (0 : Fin 3) * 1 + 1 * 0 = (t.val / 22 * 512 + r.val) / 8192; omega
    | ⟨1, _⟩ => show win0_3.index t (1 : Fin 3) * 8 + 1 * 5 = 5; omega
    | ⟨2, _⟩ => show win0_3.index t (2 : Fin 3) * 4096 + 1 * q.val = q.val; omega
  rw [e, V_v3]
  exact Cert.RowNorm.table (a3 m c) _ shapeCasts_S2x24576_S2x6x4096 pads_S2x6x4096_S2x8x4096_000_020_000 h_S_ _ 5 (by decide) q _ rfl rfl

theorem blk4 (c : Dev nD) (t : Fin cfg0.N) (k : Fin 4096) : (iblk m c 4 t (ix2 0 k) : EReal) = a4 m c (ix1 k) := by
  obtain ⟨-, -, -, -, -, -, -, -, -, -, -, f40, f41⟩ := idx_facts t
  show (V m c main_v4 : Vec Ideal S1x4096 .f32) (((cfg0.win 4).blk t).view.emb (ix2 0 k)) = _
  have e : ((cfg0.win 4).blk t).view.emb (ix2 0 k) = (ix2 0 k : S1x4096.Idx) := by
    funext a; apply Fin.ext
    match a with
    | ⟨0, _⟩ => show win0_4.index t (0 : Fin 2) * 1 + 1 * 0 = 0; omega
    | ⟨1, _⟩ => show win0_4.index t (1 : Fin 2) * 4096 + 1 * k.val = k.val; omega
  rw [e, V_v4]
  exact Cert.RowNorm.rowOf (a4 m c) shapeCasts_S4096_S1x4096 k

/-- The terms of one element's sum; past the weights' last row they are zero. -/
def f (c : Dev nD) (R : Fin 16384) (q : Fin 4096) (n : ℕ) : EReal :=
  if h : n < 11008 then (a0 m c (ix2 R (⟨n, by omega⟩ : Fin 11264)) * a1 m c (ix2 (⟨n, h⟩ : Fin 11008) q) : EReal) else 0

/-- A point's block product is its part of the sum. -/
theorem part (c : Dev nD) (t : Fin cfg0.N) (r : Fin 512) (q : Fin 4096) (u : Vec Ideal S512x512 .bf16) (w : Vec Ideal S512x4096 .bf16)
    (hu : u = iblk m c 0 t) (hw : w = iblk m c 1 t) :
    ∑ k : Fin 512, (u (ix2 r k) * w (ix2 k q) : EReal) = ∑ k : Fin 512, f m c (row t r) q (t.val % 22 * 512 + k.val) := by
  subst hu hw
  refine Finset.sum_congr rfl fun k _ => ?_
  rw [blk0, blk1]
  unfold f
  by_cases h : t.val % 22 * 512 + k.val < 11008
  · rw [dif_pos h, dif_pos h]
  · rw [dif_neg h, dif_neg h, mul_zero]

/-- The sum so far, once a point's product is added. -/
theorem add_part (c : Dev nD) (t : Fin cfg0.N) (r : Fin 512) (q : Fin 4096) (acc : Vec Ideal S512x4096 .f32)
    (h : (acc (ix2 r q) : EReal) = ∑ k ∈ Finset.range (t.val % 22 * 512), f m c (row t r) q k) :
    (k0_pay2 (F := Ideal) acc (iblk m c 0 t) (iblk m c 1 t) (ix2 r q) : EReal) = ∑ k ∈ Finset.range ((t.val % 22 + 1) * 512), f m c (row t r) q k := by
  refine (pay2_apply acc (iblk m c 0 t) (iblk m c 1 t) r q).trans ?_
  rw [h, ← Cert.Panel.sum_step]
  exact congrArg (fun z : EReal => _ + z) (part m c t r q _ _ rfl rfl)

theorem at_A (c : Dev nD) (t : Fin cfg0.N) (h0 : t.val % 22 = 0) (r : Fin 512) (q : Fin 4096) :
    (outsAt0 m c t.val t.isLt (ix2 r q) : EReal) = ∑ k ∈ Finset.range ((t.val % 22 + 1) * 512), f m c (row t r) q k := by
  rw [outsAt0_A m c t h0 (by omega), out_A]
  refine add_part m c t r q _ ?_
  rw [pay1_apply, h0, Nat.zero_mul, Finset.range_zero, Finset.sum_empty]

/-- What a row of blocks' points, but for the last, leave: the sum so far. -/
theorem state (c : Dev nD) : ∀ (n : ℕ) (hn : n < cfg0.N) (h21 : n % 22 ≠ 21) (r : Fin 512) (q : Fin 4096),
    (outsAt0 m c n hn (ix2 r q) : EReal) = ∑ k ∈ Finset.range ((n % 22 + 1) * 512), f m c (row ⟨n, hn⟩ r) q k := by
  intro n
  induction n with
  | zero => intro hn _ r q; exact at_A m c ⟨0, hn⟩ rfl r q
  | succ n ih =>
    intro hn h21 r q
    by_cases h0 : (n + 1) % 22 = 0
    · exact at_A m c ⟨n + 1, hn⟩ h0 r q
    · rw [show outsAt0 m c (n + 1) hn = _ from outsAt0_B m c ⟨n + 1, hn⟩ h0 h21, out_B]
      refine add_part m c ⟨n + 1, hn⟩ r q _ ?_
      have hr : row ⟨n, Nat.lt_of_succ_lt hn⟩ r = row ⟨n + 1, hn⟩ r := Fin.ext (by
        show n / 22 * 512 + r.val = (n + 1) / 22 * 512 + r.val; omega)
      refine (ih (Nat.lt_of_succ_lt hn) (by omega) r q).trans ?_
      rw [hr]
      show ∑ k ∈ Finset.range ((n % 22 + 1) * 512), _ = ∑ k ∈ Finset.range ((n + 1) % 22 * 512), _
      rw [show n % 22 + 1 = (n + 1) % 22 by omega]

/-- What a row of blocks' last point writes. -/
theorem out_apply (c : Dev nD) (t : Fin cfg0.N) (h1 : t.val % 22 = 21) (r : Fin 512) (q : Fin 4096) :
    (outsAt0 m c t.val t.isLt (ix2 r q) : EReal)
      = a2 m c (ix2 (row t r) q) + a3 m c (ix2 (⟨(row t r).val / 8192, by omega⟩ : Fin 2) (⟨20480 + q.val, by omega⟩ : Fin 24576))
          * nrm (fun j => ∑ k : Fin 11008, (a0 m c (ix2 (row t r) (⟨k.val, by omega⟩ : Fin 11264)) * a1 m c (ix2 k j) : EReal)) (fun j => a4 m c (ix1 j)) q := by
  have hp : t.val - 1 < cfg0.N := Nat.lt_of_le_of_lt (Nat.sub_le _ _) t.isLt
  have hr : row ⟨t.val - 1, hp⟩ r = row t r := Fin.ext (by
    show (t.val - 1) / 22 * 512 + r.val = t.val / 22 * 512 + r.val; omega)
  have hs : ∀ j : Fin 4096, (k0_pay2 (F := Ideal) (outsAt0 m c (t.val - 1) hp) (iblk m c 0 t) (iblk m c 1 t) (ix2 r j) : EReal)
      = ∑ k : Fin 11008, (a0 m c (ix2 (row t r) (⟨k.val, by omega⟩ : Fin 11264)) * a1 m c (ix2 k j) : EReal) := fun j => by
    refine (add_part m c t r j _ ?_).trans ?_
    · rw [state m c (t.val - 1) hp (by omega) r j, hr, show (t.val - 1) % 22 + 1 = t.val % 22 by omega]
    · rw [h1, show (21 + 1) * 512 = 11008 + 256 by rfl, Cert.Panel.sum_cut _ 11008 256 (fun k hk => dif_neg (by omega))]
      refine Finset.sum_congr rfl fun k _ => ?_
      unfold f
      rw [dif_pos k.isLt]
  rw [outsAt0_C m c t (by omega) h1, out_C]
  refine (pay3_apply _ _ _ _ r q).trans ?_
  rw [blk2, blk3 m c t r q]
  simp only [hs, blk4]

/-- The reference's array, from this program's arguments. -/
def G (c : Dev nD) : S16384x4096.Idx → Elt Ideal .f32 :=
  Cert.DownRefIdeal.Read.val_main_v28 (F := Ideal) (a0 m c) (a1 m c) (a2 m c) (a3 m c) (a4 m c)

theorem flushed_eq (c : Dev nD) (t : Fin cfg0.N) (hf : (cfg0.win 5).flush t = true) :
    (dats m 0 c).flushed 5 t = ((cfg0.win 5).blk t).view.read (Elt Ideal) (G m c) := by
  rw [Value.flushed5]
  obtain ⟨e0, e1, -⟩ := idx_facts t
  funext y
  show outsAt0 m c t.val t.isLt y = G m c (((cfg0.win 5).blk t).view.emb y)
  have e : ((cfg0.win 5).blk t).view.emb y = (ix2 (row t (y 0)) (y 1) : S16384x4096.Idx) := by
    funext a; apply Fin.ext
    match a with
    | ⟨0, _⟩ => show win0_5.index t (0 : Fin 2) * 512 + 1 * (y 0).val = t.val / 22 * 512 + (y 0).val; omega
    | ⟨1, _⟩ => show win0_5.index t (1 : Fin 2) * 4096 + 1 * (y 1).val = (y 1).val; omega
  have hy : y = ix2 (y 0) (y 1) := by
    funext a; match a with | ⟨0, _⟩ => rfl | ⟨1, _⟩ => rfl
  rw [e]
  rw [hy]
  refine (out_apply m c t ((flush0_5 t).mp hf) (y 0) (y 1)).trans ?_
  exact (ref_apply (a0 m c) (a1 m c) (a2 m c) (a3 m c) (a4 m c) (row t (y 0)) (y 1)).symm

theorem mem_blk5 (t : Fin cfg0.N) (i : S16384x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v5).slice (win0_5.rect t)).set ↔ _
  rw [View.set_slice_whole, Rect.mem_set_unit]
  exact Iff.rfl

/-- The array after the run is the reference's: the blocks tile it. -/
theorem final (c : Dev nD) : (dats m 0 c).arrAt 5 cfg0.N = G m c :=
  (dats m 0 c).arrAt_eq_of_cover 5 _ (fun t hf => flushed_eq m c t hf) (fun i => by
    have h0 : (i 0).val < 16384 := (i 0).isLt
    have h1 : (i 1).val < 4096 := (i 1).isLt
    obtain ⟨e0, e1, -⟩ := idx_facts ⟨(i 0).val / 512 * 22 + 21, lt_of_lt_of_eq (by omega) N_0.symm⟩
    refine ⟨⟨(i 0).val / 512 * 22 + 21, lt_of_lt_of_eq (by omega) N_0.symm⟩, (flush0_5 _).mpr (by dsimp only; omega), ?_⟩
    rw [mem_blk5]
    dsimp only at e0 e1
    intro a
    match a with
    | ⟨0, _⟩ => show win0_5.index _ (0 : Fin 2) * 512 ≤ (i 0).val ∧ (i 0).val < win0_5.index _ (0 : Fin 2) * 512 + 512; rw [e0]; omega
    | ⟨1, _⟩ => show win0_5.index _ (1 : Fin 2) * 4096 ≤ (i 1).val ∧ (i 1).val < win0_5.index _ (1 : Fin 2) * 4096 + 4096; rw [e1]; omega)

end Cert.DownIdeal.Hand

end
-- ==== Proof.DownPair.lean ====
/- The down projection's claims: the frames, and that the two programs agree. -/
module

public import proofs.«01_k».proof.Defs
public import proofs.«01_k».proof.Proof.Gen.Down.Frame
public import proofs.«01_k».proof.Proof.DownValue

@[expose] public section

noncomputable section

namespace Cert.DownPair

open Idealize.ShloMosaic Idealize.SL.Sem

theorem frame : Cert.quiescent_Down (hDown := Cert.Down.Gen.facts) := fun m ρ _ => Cert.Down.Gen.frame m ρ

theorem frameIdeal : Cert.quiescent_DownIdeal (hDownIdeal := Cert.DownIdeal.Gen.facts) :=
  fun m ρ _ => Cert.DownIdeal.Gen.frame m ρ

theorem frameRef : Cert.quiescent_DownRefIdeal (hDownRefIdeal := Cert.DownRefIdeal.Gen.facts) := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Ideal) m ρ)

/-- Both programs run, and from equal arguments the results are equal. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => Cert.DownIdeal.Hand.G m c, ?_, ?_⟩
  · refine (θ_run (Cert.DownIdeal.defs (F := Ideal)) _ _).mono (fun r h c => ?_) (Cert.DownIdeal.Value.run_blocks (F := Ideal) m g)
    exact ⟨(h c).1.trans (Cert.DownIdeal.Hand.final m c), (h c).2⟩
  · refine (θ_run (Cert.DownRefIdeal.defs (F := Ideal)) _ _).mono (fun r h c => ?_) (Cert.DownRefIdeal.Value.run (F := Ideal) m' g')
    refine ⟨(h c).1.trans ?_, (h c).2⟩
    obtain ⟨a0, a1, a2, a3, a4⟩ := hargs c
    rw [Cert.DownRefIdeal.Read.val_main_v28_eq, a0, a1, a2, a3, a4]
    rfl

end Cert.DownPair

end
-- ==== Proof.AdaValue.lean ====
/- The modulation table's call: what a grid point writes is its columns of the product, and the reference's table is its first two rows. -/
module

public import proofs.«01_k».proof.Proof.Gen.AdaIdeal.Frame
public import proofs.«01_k».proof.Proof.Gen.AdaRefIdeal.Read
public import proofs.«01_k».proof.Proof.RowNorm
public import Idealize.ShloMosaic.Lib.Pipeline.ValueKit.Tiles

@[expose] public section

set_option maxRecDepth 8192

noncomputable section

namespace Cert.AdaIdeal.Hand

open Cert.AdaIdeal Cert.AdaIdeal.Gen Idealize.ShloMosaic Idealize.ShloMosaic.TcCoe Idealize.ShloMosaic.Tactic Idealize.SL.Sem
open Idealize.ShloMosaic.Pipeline (Dat)
open Idealize.ShloMosaic.ValueIdx
open Cert.RowNorm (sg)

theorem hz : (![0, 0] : Fin 2 → Nat) = fun _ => 0 := funext fun a => by fin_cases a <;> rfl

/-- One element of the payload. -/
theorem pay_apply (x : Vec Ideal S8x4096 .f32) (w : Vec Ideal S4096x512 .f32) (b : Vec Ideal S1x512 .f32) (r : Fin 8) (q : Fin 512) :
    (k0_pay1 (F := Ideal) x w b (ix2 r q) : EReal)
      = (∑ k : Fin 4096, (x (ix2 r k) * sg (x (ix2 r k)) * w (ix2 k q) : EReal)) + b (ix2 0 q) := by
  have e := fun (l : FVec Ideal S8x4096 .bf16) (w' : FVec Ideal S4096x512 .bf16) =>
    Ideal.matmul_plain_apply (M := 8) (K := 4096) (N := 512) (φ₁ := .bf16) (φ₂ := .bf16) none l w' (constant S8x512 .f32 0x00000000#32) r q
  have eb : broadcastTo S8x512 b broadcasts_S1x512_S8x512 (ix2 r q) = b (ix2 0 q) :=
    broadcastTo_apply b broadcasts_S1x512_S8x512 (ix2 r q) (ix2 0 q) (fun a => match a with | ⟨0, _⟩ => rfl | ⟨1, _⟩ => rfl)
  have hd : dot_S8x4096_S4096x512_S8x512_1_0_0_1_n_n = DotDims.plain 8 4096 512 := rfl
  unfold k0_pay1
  rw [shapeCast_self, shapeCast_self, hd]
  simp only [addf_apply, eb, e, constant_apply, truncf_apply, mulf_apply, divf_apply, subf_apply, broadcast_apply,
    Scalar.ofBits, Ideal.ofBits_one_f32, Ideal.ofBits_zero_f32]
  show (0 + (∑ k : Fin 4096, (x (ix2 r k) * Ideal.div 1 (1 + Ideal.exp (0 - x (ix2 r k) : EReal)) * w (ix2 k q) : EReal)) + b (ix2 0 q) : EReal) = _
  unfold sg
  simp only [zero_sub, zero_add]

/-! ## The reference, element by element -/

open Cert.AdaRefIdeal.Read in
theorem ref_apply (x : Vec Ideal S2x4096 .f32) (w : Vec Ideal S4096x24576 .f32) (b : Vec Ideal S24576 .f32) (r : Fin 2) (q : Fin 24576) :
    (val_main_v4 (F := Ideal) x w b (ix2 r q) : EReal)
      = (∑ k : Fin 4096, (x (ix2 r k) * sg (x (ix2 r k)) * w (ix2 k q) : EReal)) + b (ix1 q) := by
  have h1 : (FloatOps.ofBits (F := Ideal) .f32 0x3F800000#32 : EReal) = 1 := Ideal.ofBits_one_f32
  have es : ∀ j : S2x4096.Idx, (val_main_v0 (F := Ideal) x j : EReal) = x j * sg (x j) := fun j => by
    rw [val_main_v0_apply, val_main_call0_v5_apply, val_main_call0_v4_apply, val_main_call0_v3_apply, val_main_call0_v2_apply,
      val_main_call0_v1_apply, val_main_call0_v0_apply, val_main_call0_cst_apply, val_main_call0_cst_0_apply, h1]
    rfl
  have el : ∀ k : Fin 4096, lidx_main_v1 (ix2 r q) k = ix2 r k := fun k => by
    funext a; match a with | ⟨0, _⟩ => rfl | ⟨1, _⟩ => rfl
  have er : ∀ k : Fin 4096, ridx_main_v1 (ix2 r q) k = ix2 k q := fun k => by
    funext a; match a with | ⟨0, _⟩ => rfl | ⟨1, _⟩ => rfl
  have eb : idx_main_v2 (idx_main_v3 (ix2 r q)) = ix1 q := by
    funext a; match a with | ⟨0, _⟩ => rfl
  rw [val_main_v4_apply, val_main_v3_apply, val_main_v2_apply, val_main_v1_apply]
  simp only [es, el, er, eb]
  rfl

/-! ## The grid -/

variable (m : (ℓ : Loc nD τ sig) → Buf (Elt Ideal) ℓ) (ρ : Dev nD → PrngReg)

abbrev a0 (c : Dev nD) : Vec Ideal S2x4096 .f32 := m ((c : Thread nD τ).loc main_arg0)
abbrev a1 (c : Dev nD) : Vec Ideal S4096x24576 .f32 := m ((c : Thread nD τ).loc main_arg1)
abbrev a2 (c : Dev nD) : Vec Ideal S24576 .f32 := m ((c : Thread nD τ).loc main_arg2)

/-- The conditioning rows, with rows of zeros below them. -/
def padded (c : Dev nD) : Vec Ideal S8x4096 .f32 :=
  pad S8x4096 ![0, 0] ![6, 0] ![0, 0] (a0 m c) (sitofp (F := Ideal) .f32 (constantI S_ 32 0#32)) pads_S2x4096_S8x4096_060_000 h_S_

theorem V_v0 (c : Dev nD) : V m c main_v0 = padded m c := by
  unfold padded a0 V V0
  simp only [hostOps0, hostOps0_1, hostOps0_2, List.flatten_cons, List.flatten_nil, List.append_nil, List.cons_append, List.nil_append]
  after_results
  try rfl

theorem V_v1 (c : Dev nD) : V m c main_v1 = (shapeCast S1x24576 (a2 m c) shapeCasts_S24576_S1x24576 : Vec Ideal S1x24576 .f32) := by
  unfold a2 V V0
  simp only [hostOps0, hostOps0_1, hostOps0_2, List.flatten_cons, List.flatten_nil, List.append_nil, List.cons_append, List.nil_append]
  after_results
  try rfl

/-- Where each window's block lies. -/
theorem idx_facts : ∀ t : Fin cfg0.N, win0_3.index t (0 : Fin 2) = 0 ∧ win0_3.index t (1 : Fin 2) = t.val
    ∧ win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem tlt (t : Fin cfg0.N) : t.val < 48 := lt_of_lt_of_eq t.isLt N_0

/-- Column `q` of point `t`'s block among all columns. -/
def col (t : Fin cfg0.N) (q : Fin 512) : Fin 24576 := ⟨t.val * 512 + q.val, by have := tlt t; omega⟩

theorem blk0 (c : Dev nD) (t : Fin cfg0.N) (r : Fin 8) (k : Fin 4096) : (iblk m c 0 t (ix2 r k) : EReal) = padded m c (ix2 r k) := by
  obtain ⟨-, -, f00, f01, -⟩ := idx_facts t
  show (V m c main_v0 : Vec Ideal S8x4096 .f32) (((cfg0.win 0).blk t).view.emb (ix2 r k)) = _
  rw [V_v0]
  refine congrArg (padded m c) ?_
  funext a; apply Fin.ext
  match a with
  | ⟨0, _⟩ => show win0_0.index t (0 : Fin 2) * 8 + 1 * r.val = r.val; omega
  | ⟨1, _⟩ => show win0_0.index t (1 : Fin 2) * 4096 + 1 * k.val = k.val; omega

theorem blk1 (c : Dev nD) (t : Fin cfg0.N) (k : Fin 4096) (q : Fin 512) : (iblk m c 1 t (ix2 k q) : EReal) = a1 m c (ix2 k (col t q)) := by
  obtain ⟨-, -, -, -, f10, f11, -⟩ := idx_facts t
  show (V m c main_arg1 : Vec Ideal S4096x24576 .f32) (((cfg0.win 1).blk t).view.emb (ix2 k q)) = _
  rw [V_main_arg1]
  refine congrArg (a1 m c) ?_
  funext a; apply Fin.ext
  match a with
  | ⟨0, _⟩ => show win0_1.index t (0 : Fin 2) * 4096 + 1 * k.val = k.val; omega
  | ⟨1, _⟩ => show win0_1.index t (1 : Fin 2) * 512 + 1 * q.val = t.val * 512 + q.val; omega

theorem blk2 (c : Dev nD) (t : Fin cfg0.N) (q : Fin 512) : (iblk m c 2 t (ix2 0 q) : EReal) = a2 m c (ix1 (col t q)) := by
  obtain ⟨-, -, -, -, -, -, f20, f21⟩ := idx_facts t
  show (V m c main_v1 : Vec Ideal S1x24576 .f32) (((cfg0.win 2).blk t).view.emb (ix2 0 q)) = _
  have e : ((cfg0.win 2).blk t).view.emb (ix2 0 q) = (ix2 0 (col t q) : S1x24576.Idx) := by
    funext a; apply Fin.ext
    match a with
    | ⟨0, _⟩ => show win0_2.index t (0 : Fin 2) * 1 + 1 * 0 = 0; omega
    | ⟨1, _⟩ => show win0_2.index t (1 : Fin 2) * 512 + 1 * q.val = t.val * 512 + q.val; omega
  rw [e, V_v1]
  exact shapeCast_apply (a2 m c) shapeCasts_S24576_S1x24576 (ix2 0 (col t q)) (ix1 (col t q)) (by
    rw [Shape.rowMajor_val_one, Shape.rowMajor_val_two]; show (col t q).val = 0 * 24576 + (col t q).val; omega)

/-- One element of the table with its padding rows. -/
def ent (c : Dev nD) (r : Fin 8) (q : Fin 24576) : EReal :=
  (∑ k : Fin 4096, (padded m c (ix2 r k) * sg (padded m c (ix2 r k)) * a1 m c (ix2 k q) : EReal)) + a2 m c (ix1 q)

/-- The table with its padding rows. -/
def P (c : Dev nD) : S8x24576.Idx → Elt Ideal .f32 := fun i =>
  ent m c (⟨(i 0).val, (i 0).isLt⟩ : Fin 8) (⟨(i 1).val, (i 1).isLt⟩ : Fin 24576)

theorem out_apply (c : Dev nD) (t : Fin cfg0.N) (r : Fin 8) (q : Fin 512) :
    (out0_3 (F := Ideal) (iblk m c 0 t) (iblk m c 1 t) (iblk m c 2 t) (ix2 r q) : EReal) = ent m c r (col t q) := by
  unfold out0_3
  refine (congrFun (View.canon_unit_zero hz inb_S8x512_S8x512_0_0 _) (ix2 r q)).trans ?_
  rw [View.ld_unit_zero hz, View.ld_unit_zero hz, View.ld_unit_zero hz]
  refine (pay_apply _ _ _ r q).trans ?_
  simp only [blk0, blk1, blk2]
  rfl

theorem flushed_eq (c : Dev nD) (t : Fin cfg0.N) :
    (dats m 0 c).flushed 3 t = ((cfg0.win 3).blk t).view.read (Elt Ideal) (P m c) := by
  obtain ⟨e0, e1, -⟩ := idx_facts t
  funext y
  show (dats m 0 c).after 3 t y = P m c (((cfg0.win 3).blk t).view.emb y)
  rw [after0_3]
  have e : ((cfg0.win 3).blk t).view.emb y = (ix2 (y 0) (col t (y 1)) : S8x24576.Idx) := by
    funext a; apply Fin.ext
    match a with
    | ⟨0, _⟩ => show win0_3.index t (0 : Fin 2) * 8 + 1 * (y 0).val = (y 0).val; omega
    | ⟨1, _⟩ => show win0_3.index t (1 : Fin 2) * 512 + 1 * (y 1).val = t.val * 512 + (y 1).val; omega
  have hy : y = ix2 (y 0) (y 1) := by
    funext a; match a with | ⟨0, _⟩ => rfl | ⟨1, _⟩ => rfl
  rw [e]
  rw [hy]
  exact out_apply m c t (y 0) (y 1)

theorem mem_blk3 (t : Fin cfg0.N) (i : S8x24576.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v2).slice (win0_3.rect t)).set ↔ _
  rw [View.set_slice_whole, Rect.mem_set_unit]
  exact Iff.rfl

/-- The array after the region is the padded table: the blocks tile it. -/
theorem region_final (c : Dev nD) : (dats m 0 c).arrAt 3 cfg0.N = P m c :=
  (dats m 0 c).arrAt_eq_of_cover 3 _ (fun t _ => flushed_eq m c t) (fun i => by
    have h0 : (i 0).val < 8 := (i 0).isLt
    have h1 : (i 1).val < 24576 := (i 1).isLt
    obtain ⟨e0, e1, -⟩ := idx_facts ⟨(i 1).val / 512, lt_of_lt_of_eq (by omega) N_0.symm⟩
    refine ⟨⟨(i 1).val / 512, lt_of_lt_of_eq (by omega) N_0.symm⟩, flush0_3 _, ?_⟩
    rw [mem_blk3]
    dsimp only at e0 e1
    intro a
    match a with
    | ⟨0, _⟩ => show win0_3.index _ (0 : Fin 2) * 8 ≤ (i 0).val ∧ (i 0).val < win0_3.index _ (0 : Fin 2) * 8 + 8; rw [e0]; omega
    | ⟨1, _⟩ => show win0_3.index _ (1 : Fin 2) * 512 ≤ (i 1).val ∧ (i 1).val < win0_3.index _ (1 : Fin 2) * 512 + 512; rw [e1]; omega)

/-- The reference's array, from this program's arguments. -/
def G (c : Dev nD) : S2x24576.Idx → Elt Ideal .f32 :=
  Cert.AdaRefIdeal.Read.val_main_v4 (F := Ideal) (a0 m c) (a1 m c) (a2 m c)

/-- Without its padding rows the table is the reference's. -/
theorem slice_eq (c : Dev nD) : extractStridedSlice S2x24576 ![0, 0] (P m c) slices_S8x24576_S2x24576_0_0 = G m c := by
  funext i
  have h0 : (i 0).val < 2 := (i 0).isLt
  have hi : i = ix2 (i 0) (i 1) := by
    funext a; match a with | ⟨0, _⟩ => rfl | ⟨1, _⟩ => rfl
  rw [extractStridedSlice_apply _ (P m c) _ i (ix2 (⟨(i 0).val, by omega⟩ : Fin 8) (⟨(i 1).val, (i 1).isLt⟩ : Fin 24576)) (fun a => match a with
    | ⟨0, _⟩ => by show (i 0).val = 0 + (i 0).val; omega
    | ⟨1, _⟩ => by show (i 1).val = 0 + (i 1).val; omega)]
  refine Eq.trans ?_ (congrArg (G m c) hi).symm
  refine Eq.trans ?_ (ref_apply (a0 m c) (a1 m c) (a2 m c) (i 0) (i 1)).symm
  have ep : ∀ k : Fin 4096, padded m c (ix2 (⟨(i 0).val, by omega⟩ : Fin 8) k) = a0 m c (ix2 (i 0) k) := fun k => by
    unfold padded
    exact pad_apply_of_inside _ _ _ _ _ pads_S2x4096_S8x4096_060_000 h_S_ _ (ix2 (i 0) k) (fun a => match a with
      | ⟨0, _⟩ => by show (i 0).val = 0 + (i 0).val * 1; omega
      | ⟨1, _⟩ => by show k.val = 0 + k.val * 1; omega)
  show ent m c _ _ = _
  unfold ent
  simp only [ep]
  rfl

/-- The result after the lines that follow the region. -/
theorem tail_eq (c : Dev nD) : Pipeline.afterTail₀ cfgs (dats m) 0 (V0 m) [hostOps1] c main_v3 = G m c := by
  have hw := Pipeline.withArrays_arr spec0 (by decide : Function.Injective (Pipeline.arrRef spec0)) c (V0 m c) (fun w => (dats m 0 c).arrAt w cfg0.N) 3
  unfold Pipeline.afterTail₀
  simp only [hostOps1, List.flatten_cons, List.flatten_nil, List.append_nil]
  after_results
  refine Eq.trans ?_ (slice_eq m c)
  exact congrArg (fun x => extractStridedSlice S2x24576 ![0, 0] x slices_S8x24576_S2x24576_0_0) (hw.trans (region_final m c))

end Cert.AdaIdeal.Hand

end
-- ==== Proof.AdaPair.lean ====
/- The modulation table's claims: the frames, and that the two programs agree. -/
module

public import proofs.«01_k».proof.Defs
public import proofs.«01_k».proof.Proof.Gen.Ada.Frame
public import proofs.«01_k».proof.Proof.AdaValue

@[expose] public section

noncomputable section

namespace Cert.AdaPair

open Idealize.ShloMosaic Idealize.SL.Sem

theorem frame : Cert.quiescent_Ada (hAda := Cert.Ada.Gen.facts) := fun m ρ _ => Cert.Ada.Gen.frame m ρ

theorem frameIdeal : Cert.quiescent_AdaIdeal (hAdaIdeal := Cert.AdaIdeal.Gen.facts) :=
  fun m ρ _ => Cert.AdaIdeal.Gen.frame m ρ

theorem frameRef : Cert.quiescent_AdaRefIdeal (hAdaRefIdeal := Cert.AdaRefIdeal.Gen.facts) := fun m ρ _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

/-- Both programs run, and from equal arguments the tables are equal. -/
theorem algebraic : Cert.algebraic_AdaIdeal_AdaRefIdeal (hAdaIdeal := Cert.AdaIdeal.Gen.facts)
    (hAdaRefIdeal := Cert.AdaRefIdeal.Gen.facts) := by
  intro m g m' g' _ hargs
  refine ⟨fun c => Cert.AdaIdeal.Hand.G m c, ?_, ?_⟩
  · refine (θ_run (Cert.AdaIdeal.defs (F := Ideal)) _ _).mono (fun r h c => ?_)
      (θ_run_and (Cert.AdaIdeal.Gen.run_main (F := Ideal) m g) (Cert.AdaIdeal.Gen.unchanged (F := Ideal) m g))
    exact ⟨((h.1 c).2 Cert.AdaIdeal.main_v3 (Pipeline.mem_restRefs_of Cert.AdaIdeal.main_v3 (by decide) (by decide))).trans
      (Cert.AdaIdeal.Hand.tail_eq m c), h.2 c⟩
  · refine (θ_run (Cert.AdaRefIdeal.defs (F := Ideal)) _ _).mono (fun r h c => ?_) (Cert.AdaRefIdeal.Value.run (F := Ideal) m' g')
    refine ⟨(h c).1.trans ?_, (h c).2⟩
    obtain ⟨a0, a1, a2⟩ := hargs c
    rw [Cert.AdaRefIdeal.Read.val_main_v4_eq, a0, a1, a2]
    rfl

end Cert.AdaPair

end
-- ==== Proof.lean ====
/- The claims, assembled: the witnesses of the programs' stated facts, then each call's frames, then for each call that its
   idealization preserves it and that it agrees with the reference's lines for it. -/
module

public import proofs.«01_k».proof.Defs
public import proofs.«01_k».proof.Proof.LruPair
public import proofs.«01_k».proof.Proof.InprojPair
public import proofs.«01_k».proof.Proof.MergePair
public import proofs.«01_k».proof.Proof.OutPair
public import proofs.«01_k».proof.Proof.GateUpPair
public import proofs.«01_k».proof.Proof.DownPair
public import proofs.«01_k».proof.Proof.AdaPair

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.Ada.Gen.facts, Cert.AdaIdeal.Gen.facts, Cert.AdaRefIdeal.Gen.facts,
    Cert.LruPair.frame, Cert.LruPair.frameIdeal, Cert.LruPair.frameRef,
    Cert.InprojPair.frame, Cert.InprojPair.frameIdeal, Cert.InprojPair.frameRef,
    Cert.MergePair.frame, Cert.MergePair.frameIdeal, Cert.MergePair.frameRef,
    Cert.OutPair.frame, Cert.OutPair.frameIdeal, Cert.OutPair.frameRef,
    Cert.GateUpPair.frame, Cert.GateUpPair.frameIdeal, Cert.GateUpPair.frameRef,
    Cert.DownPair.frame, Cert.DownPair.frameIdeal, Cert.DownPair.frameRef,
    Cert.AdaPair.frame, Cert.AdaPair.frameIdeal, Cert.AdaPair.frameRef,
    trivial, Cert.LruPair.algebraic, trivial, Cert.InprojPair.algebraic,
    trivial, Cert.MergePair.algebraic, trivial, Cert.OutPair.algebraic,
    trivial, Cert.GateUpPair.algebraic, trivial, Cert.DownPair.algebraic,
    trivial, Cert.AdaPair.algebraic⟩

end Cert.Proof

end
